-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![2048, 1024]⟩ ⟨2, ![2048, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S1024 .f32) (main_arg2 : FVec F S1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Pre_finite_x_ReferenceIdeal.lean ====
abbrev S2048x16384 : Shape := ⟨2, ![2048, 16384]⟩
abbrev S16384 : Shape := ⟨1, ![16384]⟩
abbrev S_ : Shape := ⟨0, ![]⟩

class Facts : Prop where
  bcast_S_S2048x16384 : S_.BroadcastsInDim S2048x16384 (![] : Fin 0 → Fin S2048x16384.rank)

variable [Facts]

def fn {F : FTy → Type} [FloatOps F] (main_arg0 : FVec F S2048x16384 .f32) (main_arg1 : FVec F S16384 .f32) (main_arg2 : FVec F S16384 .f32) : IVec S2048x16384 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  main_v2
-- ==== Kernel.lean ====
abbrev S2048x1024 : Shape := ⟨2, ![2048, 1024]⟩
abbrev S1024 : Shape := ⟨1, ![1024]⟩
abbrev S1x1024 : Shape := ⟨2, ![1, 1024]⟩
abbrev S16x4x8x128 : Shape := ⟨4, ![16, 4, 8, 128]⟩
abbrev S4 : Shape := ⟨1, ![4]⟩
abbrev S4x16 : Shape := ⟨2, ![4, 16]⟩
abbrev S1 : Shape := ⟨1, ![1]⟩
abbrev S_ : Shape := ⟨0, ![]⟩
abbrev S512x1024 : Shape := ⟨2, ![512, 1024]⟩
abbrev S4x128x1024 : Shape := ⟨3, ![4, 128, 1024]⟩
abbrev S4x128 : Shape := ⟨2, ![4, 128]⟩
abbrev S8x128 : Shape := ⟨2, ![8, 128]⟩
abbrev S1x1x8x128 : Shape := ⟨4, ![1, 1, 8, 128]⟩
abbrev S1x1 : Shape := ⟨2, ![1, 1]⟩
abbrev S1x1x1024 : Shape := ⟨3, ![1, 1, 1024]⟩
abbrev S16x1x8x128 : Shape := ⟨4, ![16, 1, 8, 128]⟩
abbrev S16x8x128 : Shape := ⟨3, ![16, 8, 128]⟩
abbrev S4x128x1 : Shape := ⟨3, ![4, 128, 1]⟩

abbrev nBuf : Space → Nat
  | .hbm => 6
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S2048x1024, .f32⟩
  | .local _ .vmem, ⟨0, _⟩ => ⟨S1x1024, .f32⟩
  | .local _ .vmem, ⟨1, _⟩ => ⟨S1x1024, .f32⟩
  | .local _ .vmem, ⟨2, _⟩ => ⟨S2048x1024, .f32⟩
  | .local _ .vmem, ⟨3, _⟩ => ⟨S16x4x8x128, .f32⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 138 → Bool
  | ⟨i, _⟩ => dmaSemScopedAt i

abbrev sig : RefSig :=
  (ofTc nBuf bufTy 1 138 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_14 : BitVec 32 := 1#32
  let v20 : BitVec 32 := Scalar.addi v2 c1_i32_14
  let c16_i32_15 : BitVec 32 := 16#32
  let v21 : BitVec 32 := Scalar.remsi v20 c16_i32_15
  let c1_i32_17 : BitVec 32 := 1#32
  let v22 : BitVec 32 := Scalar.muli v21 c1_i32_17
  let v23 : BitVec 32 := Scalar.addi c0_i32_18 v22
  v23.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_19 : BitVec 32 := 2#32
  let v24 : BitVec 32 := Scalar.addi v2 c2_i32_19
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_24 : BitVec 32 := 3#32
  let v28 : BitVec 32 := Scalar.addi v2 c3_i32_24
  let c16_i32_25 : BitVec 32 := 16#32
  let v29 : BitVec 32 := Scalar.remsi v28 c16_i32_25
  let c1_i32_27 : BitVec 32 := 1#32
  let v30 : BitVec 32 := Scalar.muli v29 c1_i32_27
  let v31 : BitVec 32 := Scalar.addi c0_i32_28 v30
  v31.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v32 : BitVec 32 := Scalar.addi v2 c4_i32
  let c16_i32_29 : BitVec 32 := 16#32
  let v33 : BitVec 32 := Scalar.remsi v32 c16_i32_29
  let c1_i32_31 : BitVec 32 := 1#32
  let v34 : BitVec 32 := Scalar.muli v33 c1_i32_31
  let v35 : BitVec 32 := Scalar.addi c0_i32_32 v34
  v35.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v36 : BitVec 32 := Scalar.addi v2 c5_i32
  let c16_i32_33 : BitVec 32 := 16#32
  let v37 : BitVec 32 := Scalar.remsi v36 c16_i32_33
  let c1_i32_35 : BitVec 32 := 1#32
  let v38 : BitVec 32 := Scalar.muli v37 c1_i32_35
  let v39 : BitVec 32 := Scalar.addi c0_i32_36 v38
  v39.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v40 : BitVec 32 := Scalar.addi v2 c6_i32
  let c16_i32_37 : BitVec 32 := 16#32
  let v41 : BitVec 32 := Scalar.remsi v40 c16_i32_37
  let c1_i32_39 : BitVec 32 := 1#32
  let v42 : BitVec 32 := Scalar.muli v41 c1_i32_39
  let v43 : BitVec 32 := Scalar.addi c0_i32_40 v42
  v43.toNat
def k0_dev7 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v44 : BitVec 32 := Scalar.addi v2 c7_i32
  let c16_i32_41 : BitVec 32 := 16#32
  let v45 : BitVec 32 := Scalar.remsi v44 c16_i32_41
  let c1_i32_43 : BitVec 32 := 1#32
  let v46 : BitVec 32 := Scalar.muli v45 c1_i32_43
  let v47 : BitVec 32 := Scalar.addi c0_i32_44 v46
  v47.toNat
def k0_dev8 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 32 := Scalar.addi v2 c8_i32
  let c16_i32_45 : BitVec 32 := 16#32
  let v49 : BitVec 32 := Scalar.remsi v48 c16_i32_45
  let c1_i32_47 : BitVec 32 := 1#32
  let v50 : BitVec 32 := Scalar.muli v49 c1_i32_47
  let v51 : BitVec 32 := Scalar.addi c0_i32_48 v50
  v51.toNat
def k0_dev9 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v52 : BitVec 32 := Scalar.addi v2 c9_i32
  let c16_i32_49 : BitVec 32 := 16#32
  let v53 : BitVec 32 := Scalar.remsi v52 c16_i32_49
  let c1_i32_51 : BitVec 32 := 1#32
  let v54 : BitVec 32 := Scalar.muli v53 c1_i32_51
  let v55 : BitVec 32 := Scalar.addi c0_i32_52 v54
  v55.toNat
def k0_dev10 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v56 : BitVec 32 := Scalar.addi v2 c10_i32
  let c16_i32_53 : BitVec 32 := 16#32
  let v57 : BitVec 32 := Scalar.remsi v56 c16_i32_53
  let c1_i32_55 : BitVec 32 := 1#32
  let v58 : BitVec 32 := Scalar.muli v57 c1_i32_55
  let v59 : BitVec 32 := Scalar.addi c0_i32_56 v58
  v59.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v60 : BitVec 32 := Scalar.addi v2 c11_i32
  let c16_i32_57 : BitVec 32 := 16#32
  let v61 : BitVec 32 := Scalar.remsi v60 c16_i32_57
  let c1_i32_59 : BitVec 32 := 1#32
  let v62 : BitVec 32 := Scalar.muli v61 c1_i32_59
  let v63 : BitVec 32 := Scalar.addi c0_i32_60 v62
  v63.toNat
def k0_dev12 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v64 : BitVec 32 := Scalar.addi v2 c12_i32
  let c16_i32_61 : BitVec 32 := 16#32
  let v65 : BitVec 32 := Scalar.remsi v64 c16_i32_61
  let c1_i32_63 : BitVec 32 := 1#32
  let v66 : BitVec 32 := Scalar.muli v65 c1_i32_63
  let v67 : BitVec 32 := Scalar.addi c0_i32_64 v66
  v67.toNat
def k0_dev13 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v68 : BitVec 32 := Scalar.addi v2 c13_i32
  let c16_i32_65 : BitVec 32 := 16#32
  let v69 : BitVec 32 := Scalar.remsi v68 c16_i32_65
  let c1_i32_67 : BitVec 32 := 1#32
  let v70 : BitVec 32 := Scalar.muli v69 c1_i32_67
  let v71 : BitVec 32 := Scalar.addi c0_i32_68 v70
  v71.toNat
def k0_dev14 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v72 : BitVec 32 := Scalar.addi v2 c14_i32
  let c16_i32_69 : BitVec 32 := 16#32
  let v73 : BitVec 32 := Scalar.remsi v72 c16_i32_69
  let c1_i32_71 : BitVec 32 := 1#32
  let v74 : BitVec 32 := Scalar.muli v73 c1_i32_71
  let v75 : BitVec 32 := Scalar.addi c0_i32_72 v74
  v75.toNat
def k0_dev15 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v76 : BitVec 32 := Scalar.addi v2 c15_i32
  let c16_i32_73 : BitVec 32 := 16#32
  let v77 : BitVec 32 := Scalar.remsi v76 c16_i32_73
  let c1_i32_75 : BitVec 32 := 1#32
  let v78 : BitVec 32 := Scalar.muli v77 c1_i32_75
  let v79 : BitVec 32 := Scalar.addi c0_i32_76 v78
  v79.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v90 : Index := Scalar.indexCast v2
  let c0_84 : Index := 0#32
  let c0_85 : Index := 0#32
  let c0_86 : Index := 0#32
  ![v90.toNat, 0, 0, 0]
def k0_off2 (d0 : Dev nD) : Fin 2 → Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_91 : BitVec 32 := 0#32
  let c0_i32_97 : BitVec 32 := 0#32
  let c0_i32_98 : BitVec 32 := 0#32
  ![v2.toNat, 0, 0, 0]
def k0_dev16 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_88 : BitVec 32 := 1#32
  let v94 : BitVec 32 := Scalar.addi v2 c1_i32_88
  let c16_i32_89 : BitVec 32 := 16#32
  let v95 : BitVec 32 := Scalar.remsi v94 c16_i32_89
  let c1_i32_95 : BitVec 32 := 1#32
  let v96 : BitVec 32 := Scalar.muli v95 c1_i32_95
  let v97 : BitVec 32 := Scalar.addi c0_i32_96 v96
  v97.toNat
def k0_dev17 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_101 : BitVec 32 := 2#32
  let v106 : BitVec 32 := Scalar.addi v2 c2_i32_101
  let c16_i32_102 : BitVec 32 := 16#32
  let v107 : BitVec 32 := Scalar.remsi v106 c16_i32_102
  let c1_i32_108 : BitVec 32 := 1#32
  let v108 : BitVec 32 := Scalar.muli v107 c1_i32_108
  let v109 : BitVec 32 := Scalar.addi c0_i32_109 v108
  v109.toNat
def k0_dev18 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_114 : BitVec 32 := 3#32
  let v118 : BitVec 32 := Scalar.addi v2 c3_i32_114
  let c16_i32_115 : BitVec 32 := 16#32
  let v119 : BitVec 32 := Scalar.remsi v118 c16_i32_115
  let c1_i32_121 : BitVec 32 := 1#32
  let v120 : BitVec 32 := Scalar.muli v119 c1_i32_121
  let v121 : BitVec 32 := Scalar.addi c0_i32_122 v120
  v121.toNat
def k0_dev19 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_127 : BitVec 32 := 4#32
  let v130 : BitVec 32 := Scalar.addi v2 c4_i32_127
  let c16_i32_128 : BitVec 32 := 16#32
  let v131 : BitVec 32 := Scalar.remsi v130 c16_i32_128
  let c1_i32_134 : BitVec 32 := 1#32
  let v132 : BitVec 32 := Scalar.muli v131 c1_i32_134
  let v133 : BitVec 32 := Scalar.addi c0_i32_135 v132
  v133.toNat
def k0_dev20 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_140 : BitVec 32 := 5#32
  let v142 : BitVec 32 := Scalar.addi v2 c5_i32_140
  let c16_i32_141 : BitVec 32 := 16#32
  let v143 : BitVec 32 := Scalar.remsi v142 c16_i32_141
  let c1_i32_147 : BitVec 32 := 1#32
  let v144 : BitVec 32 := Scalar.muli v143 c1_i32_147
  let v145 : BitVec 32 := Scalar.addi c0_i32_148 v144
  v145.toNat
def k0_dev21 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_153 : BitVec 32 := 6#32
  let v154 : BitVec 32 := Scalar.addi v2 c6_i32_153
  let c16_i32_154 : BitVec 32 := 16#32
  let v155 : BitVec 32 := Scalar.remsi v154 c16_i32_154
  let c1_i32_160 : BitVec 32 := 1#32
  let v156 : BitVec 32 := Scalar.muli v155 c1_i32_160
  let v157 : BitVec 32 := Scalar.addi c0_i32_161 v156
  v157.toNat
def k0_dev22 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_166 : BitVec 32 := 7#32
  let v166 : BitVec 32 := Scalar.addi v2 c7_i32_166
  let c16_i32_167 : BitVec 32 := 16#32
  let v167 : BitVec 32 := Scalar.remsi v166 c16_i32_167
  let c1_i32_173 : BitVec 32 := 1#32
  let v168 : BitVec 32 := Scalar.muli v167 c1_i32_173
  let v169 : BitVec 32 := Scalar.addi c0_i32_174 v168
  v169.toNat
def k0_dev23 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_179 : BitVec 32 := 8#32
  let v178 : BitVec 32 := Scalar.addi v2 c8_i32_179
  let c16_i32_180 : BitVec 32 := 16#32
  let v179 : BitVec 32 := Scalar.remsi v178 c16_i32_180
  let c1_i32_186 : BitVec 32 := 1#32
  let v180 : BitVec 32 := Scalar.muli v179 c1_i32_186
  let v181 : BitVec 32 := Scalar.addi c0_i32_187 v180
  v181.toNat
def k0_dev24 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_192 : BitVec 32 := 9#32
  let v190 : BitVec 32 := Scalar.addi v2 c9_i32_192
  let c16_i32_193 : BitVec 32 := 16#32
  let v191 : BitVec 32 := Scalar.remsi v190 c16_i32_193
  let c1_i32_199 : BitVec 32 := 1#32
  let v192 : BitVec 32 := Scalar.muli v191 c1_i32_199
  let v193 : BitVec 32 := Scalar.addi c0_i32_200 v192
  v193.toNat
def k0_dev25 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_205 : BitVec 32 := 10#32
  let v202 : BitVec 32 := Scalar.addi v2 c10_i32_205
  let c16_i32_206 : BitVec 32 := 16#32
  let v203 : BitVec 32 := Scalar.remsi v202 c16_i32_206
  let c1_i32_212 : BitVec 32 := 1#32
  let v204 : BitVec 32 := Scalar.muli v203 c1_i32_212
  let v205 : BitVec 32 := Scalar.addi c0_i32_213 v204
  v205.toNat
def k0_dev26 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_218 : BitVec 32 := 11#32
  let v214 : BitVec 32 := Scalar.addi v2 c11_i32_218
  let c16_i32_219 : BitVec 32 := 16#32
  let v215 : BitVec 32 := Scalar.remsi v214 c16_i32_219
  let c1_i32_225 : BitVec 32 := 1#32
  let v216 : BitVec 32 := Scalar.muli v215 c1_i32_225
  let v217 : BitVec 32 := Scalar.addi c0_i32_226 v216
  v217.toNat
def k0_dev27 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_231 : BitVec 32 := 12#32
  let v226 : BitVec 32 := Scalar.addi v2 c12_i32_231
  let c16_i32_232 : BitVec 32 := 16#32
  let v227 : BitVec 32 := Scalar.remsi v226 c16_i32_232
  let c1_i32_238 : BitVec 32 := 1#32
  let v228 : BitVec 32 := Scalar.muli v227 c1_i32_238
  let v229 : BitVec 32 := Scalar.addi c0_i32_239 v228
  v229.toNat
def k0_dev28 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_244 : BitVec 32 := 13#32
  let v238 : BitVec 32 := Scalar.addi v2 c13_i32_244
  let c16_i32_245 : BitVec 32 := 16#32
  let v239 : BitVec 32 := Scalar.remsi v238 c16_i32_245
  let c1_i32_251 : BitVec 32 := 1#32
  let v240 : BitVec 32 := Scalar.muli v239 c1_i32_251
  let v241 : BitVec 32 := Scalar.addi c0_i32_252 v240
  v241.toNat
def k0_dev29 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_257 : BitVec 32 := 14#32
  let v250 : BitVec 32 := Scalar.addi v2 c14_i32_257
  let c16_i32_258 : BitVec 32 := 16#32
  let v251 : BitVec 32 := Scalar.remsi v250 c16_i32_258
  let c1_i32_264 : BitVec 32 := 1#32
  let v252 : BitVec 32 := Scalar.muli v251 c1_i32_264
  let v253 : BitVec 32 := Scalar.addi c0_i32_265 v252
  v253.toNat
def k0_dev30 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_270 : BitVec 32 := 15#32
  let v262 : BitVec 32 := Scalar.addi v2 c15_i32_270
  let c16_i32_271 : BitVec 32 := 16#32
  let v263 : BitVec 32 := Scalar.remsi v262 c16_i32_271
  let c1_i32_277 : BitVec 32 := 1#32
  let v264 : BitVec 32 := Scalar.muli v263 c1_i32_277
  let v265 : BitVec 32 := Scalar.addi c0_i32_278 v264
  v265.toNat
def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v284 : Index := Scalar.indexCast v2
  let c1 : Index := 1#32
  let c0_291 : Index := 0#32
  let c0_292 : Index := 0#32
  ![v284.toNat, 1, 0, 0]
def k0_off5 (d0 : Dev nD) : Fin 2 → Nat :=
  let c1_i32_297 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_296 : BitVec 32 := 1#32
  let c0_i32_302 : BitVec 32 := 0#32
  let c0_i32_303 : BitVec 32 := 0#32
  ![v2.toNat, 1, 0, 0]
def k0_dev31 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_293 : BitVec 32 := 1#32
  let v288 : BitVec 32 := Scalar.addi v2 c1_i32_293
  let c16_i32_294 : BitVec 32 := 16#32
  let v289 : BitVec 32 := Scalar.remsi v288 c16_i32_294
  let c1_i32_300 : BitVec 32 := 1#32
  let v290 : BitVec 32 := Scalar.muli v289 c1_i32_300
  let v291 : BitVec 32 := Scalar.addi c0_i32_301 v290
  v291.toNat
def k0_dev32 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_306 : BitVec 32 := 2#32
  let v300 : BitVec 32 := Scalar.addi v2 c2_i32_306
  let c16_i32_307 : BitVec 32 := 16#32
  let v301 : BitVec 32 := Scalar.remsi v300 c16_i32_307
  let c1_i32_313 : BitVec 32 := 1#32
  let v302 : BitVec 32 := Scalar.muli v301 c1_i32_313
  let v303 : BitVec 32 := Scalar.addi c0_i32_314 v302
  v303.toNat
def k0_dev33 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_319 : BitVec 32 := 3#32
  let v312 : BitVec 32 := Scalar.addi v2 c3_i32_319
  let c16_i32_320 : BitVec 32 := 16#32
  let v313 : BitVec 32 := Scalar.remsi v312 c16_i32_320
  let c1_i32_326 : BitVec 32 := 1#32
  let v314 : BitVec 32 := Scalar.muli v313 c1_i32_326
  let v315 : BitVec 32 := Scalar.addi c0_i32_327 v314
  v315.toNat
def k0_dev34 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_332 : BitVec 32 := 4#32
  let v324 : BitVec 32 := Scalar.addi v2 c4_i32_332
  let c16_i32_333 : BitVec 32 := 16#32
  let v325 : BitVec 32 := Scalar.remsi v324 c16_i32_333
  let c1_i32_339 : BitVec 32 := 1#32
  let v326 : BitVec 32 := Scalar.muli v325 c1_i32_339
  let v327 : BitVec 32 := Scalar.addi c0_i32_340 v326
  v327.toNat
def k0_dev35 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_345 : BitVec 32 := 5#32
  let v336 : BitVec 32 := Scalar.addi v2 c5_i32_345
  let c16_i32_346 : BitVec 32 := 16#32
  let v337 : BitVec 32 := Scalar.remsi v336 c16_i32_346
  let c1_i32_352 : BitVec 32 := 1#32
  let v338 : BitVec 32 := Scalar.muli v337 c1_i32_352
  let v339 : BitVec 32 := Scalar.addi c0_i32_353 v338
  v339.toNat
def k0_dev36 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_358 : BitVec 32 := 6#32
  let v348 : BitVec 32 := Scalar.addi v2 c6_i32_358
  let c16_i32_359 : BitVec 32 := 16#32
  let v349 : BitVec 32 := Scalar.remsi v348 c16_i32_359
  let c1_i32_365 : BitVec 32 := 1#32
  let v350 : BitVec 32 := Scalar.muli v349 c1_i32_365
  let v351 : BitVec 32 := Scalar.addi c0_i32_366 v350
  v351.toNat
def k0_dev37 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_371 : BitVec 32 := 7#32
  let v360 : BitVec 32 := Scalar.addi v2 c7_i32_371
  let c16_i32_372 : BitVec 32 := 16#32
  let v361 : BitVec 32 := Scalar.remsi v360 c16_i32_372
  let c1_i32_378 : BitVec 32 := 1#32
  let v362 : BitVec 32 := Scalar.muli v361 c1_i32_378
  let v363 : BitVec 32 := Scalar.addi c0_i32_379 v362
  v363.toNat
def k0_dev38 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_384 : BitVec 32 := 8#32
  let v372 : BitVec 32 := Scalar.addi v2 c8_i32_384
  let c16_i32_385 : BitVec 32 := 16#32
  let v373 : BitVec 32 := Scalar.remsi v372 c16_i32_385
  let c1_i32_391 : BitVec 32 := 1#32
  let v374 : BitVec 32 := Scalar.muli v373 c1_i32_391
  let v375 : BitVec 32 := Scalar.addi c0_i32_392 v374
  v375.toNat
def k0_dev39 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_397 : BitVec 32 := 9#32
  let v384 : BitVec 32 := Scalar.addi v2 c9_i32_397
  let c16_i32_398 : BitVec 32 := 16#32
  let v385 : BitVec 32 := Scalar.remsi v384 c16_i32_398
  let c1_i32_404 : BitVec 32 := 1#32
  let v386 : BitVec 32 := Scalar.muli v385 c1_i32_404
  let v387 : BitVec 32 := Scalar.addi c0_i32_405 v386
  v387.toNat
def k0_dev40 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_410 : BitVec 32 := 10#32
  let v396 : BitVec 32 := Scalar.addi v2 c10_i32_410
  let c16_i32_411 : BitVec 32 := 16#32
  let v397 : BitVec 32 := Scalar.remsi v396 c16_i32_411
  let c1_i32_417 : BitVec 32 := 1#32
  let v398 : BitVec 32 := Scalar.muli v397 c1_i32_417
  let v399 : BitVec 32 := Scalar.addi c0_i32_418 v398
  v399.toNat
def k0_dev41 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_423 : BitVec 32 := 11#32
  let v408 : BitVec 32 := Scalar.addi v2 c11_i32_423
  let c16_i32_424 : BitVec 32 := 16#32
  let v409 : BitVec 32 := Scalar.remsi v408 c16_i32_424
  let c1_i32_430 : BitVec 32 := 1#32
  let v410 : BitVec 32 := Scalar.muli v409 c1_i32_430
  let v411 : BitVec 32 := Scalar.addi c0_i32_431 v410
  v411.toNat
def k0_dev42 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_436 : BitVec 32 := 12#32
  let v420 : BitVec 32 := Scalar.addi v2 c12_i32_436
  let c16_i32_437 : BitVec 32 := 16#32
  let v421 : BitVec 32 := Scalar.remsi v420 c16_i32_437
  let c1_i32_443 : BitVec 32 := 1#32
  let v422 : BitVec 32 := Scalar.muli v421 c1_i32_443
  let v423 : BitVec 32 := Scalar.addi c0_i32_444 v422
  v423.toNat
def k0_dev43 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_449 : BitVec 32 := 13#32
  let v432 : BitVec 32 := Scalar.addi v2 c13_i32_449
  let c16_i32_450 : BitVec 32 := 16#32
  let v433 : BitVec 32 := Scalar.remsi v432 c16_i32_450
  let c1_i32_456 : BitVec 32 := 1#32
  let v434 : BitVec 32 := Scalar.muli v433 c1_i32_456
  let v435 : BitVec 32 := Scalar.addi c0_i32_457 v434
  v435.toNat
def k0_dev44 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_462 : BitVec 32 := 14#32
  let v444 : BitVec 32 := Scalar.addi v2 c14_i32_462
  let c16_i32_463 : BitVec 32 := 16#32
  let v445 : BitVec 32 := Scalar.remsi v444 c16_i32_463
  let c1_i32_469 : BitVec 32 := 1#32
  let v446 : BitVec 32 := Scalar.muli v445 c1_i32_469
  let v447 : BitVec 32 := Scalar.addi c0_i32_470 v446
  v447.toNat
def k0_dev45 (d0 : Dev nD) : Nat :=
  let c0_i32_483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_475 : BitVec 32 := 15#32
  let v456 : BitVec 32 := Scalar.addi v2 c15_i32_475
  let c16_i32_476 : BitVec 32 := 16#32
  let v457 : BitVec 32 := Scalar.remsi v456 c16_i32_476
  let c1_i32_482 : BitVec 32 := 1#32
  let v458 : BitVec 32 := Scalar.muli v457 c1_i32_482
  let v459 : BitVec 32 := Scalar.addi c0_i32_483 v458
  v459.toNat
def k0_off7 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v478 : Index := Scalar.indexCast v2
  let c2 : Index := 2#32
  let c0_496 : Index := 0#32
  let c0_497 : Index := 0#32
  ![v478.toNat, 2, 0, 0]
def k0_off8 (d0 : Dev nD) : Fin 2 → Nat :=
  let c2_i32_502 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![2, v2.toNat]
def k0_off9 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_501 : BitVec 32 := 2#32
  let c0_i32_507 : BitVec 32 := 0#32
  let c0_i32_508 : BitVec 32 := 0#32
  ![v2.toNat, 2, 0, 0]
def k0_dev46 (d0 : Dev nD) : Nat :=
  let c0_i32_506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_498 : BitVec 32 := 1#32
  let v482 : BitVec 32 := Scalar.addi v2 c1_i32_498
  let c16_i32_499 : BitVec 32 := 16#32
  let v483 : BitVec 32 := Scalar.remsi v482 c16_i32_499
  let c1_i32_505 : BitVec 32 := 1#32
  let v484 : BitVec 32 := Scalar.muli v483 c1_i32_505
  let v485 : BitVec 32 := Scalar.addi c0_i32_506 v484
  v485.toNat
def k0_dev47 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_511 : BitVec 32 := 2#32
  let v494 : BitVec 32 := Scalar.addi v2 c2_i32_511
  let c16_i32_512 : BitVec 32 := 16#32
  let v495 : BitVec 32 := Scalar.remsi v494 c16_i32_512
  let c1_i32_518 : BitVec 32 := 1#32
  let v496 : BitVec 32 := Scalar.muli v495 c1_i32_518
  let v497 : BitVec 32 := Scalar.addi c0_i32_519 v496
  v497.toNat
def k0_dev48 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_524 : BitVec 32 := 3#32
  let v506 : BitVec 32 := Scalar.addi v2 c3_i32_524
  let c16_i32_525 : BitVec 32 := 16#32
  let v507 : BitVec 32 := Scalar.remsi v506 c16_i32_525
  let c1_i32_531 : BitVec 32 := 1#32
  let v508 : BitVec 32 := Scalar.muli v507 c1_i32_531
  let v509 : BitVec 32 := Scalar.addi c0_i32_532 v508
  v509.toNat
def k0_dev49 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_537 : BitVec 32 := 4#32
  let v518 : BitVec 32 := Scalar.addi v2 c4_i32_537
  let c16_i32_538 : BitVec 32 := 16#32
  let v519 : BitVec 32 := Scalar.remsi v518 c16_i32_538
  let c1_i32_544 : BitVec 32 := 1#32
  let v520 : BitVec 32 := Scalar.muli v519 c1_i32_544
  let v521 : BitVec 32 := Scalar.addi c0_i32_545 v520
  v521.toNat
def k0_dev50 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_550 : BitVec 32 := 5#32
  let v530 : BitVec 32 := Scalar.addi v2 c5_i32_550
  let c16_i32_551 : BitVec 32 := 16#32
  let v531 : BitVec 32 := Scalar.remsi v530 c16_i32_551
  let c1_i32_557 : BitVec 32 := 1#32
  let v532 : BitVec 32 := Scalar.muli v531 c1_i32_557
  let v533 : BitVec 32 := Scalar.addi c0_i32_558 v532
  v533.toNat
def k0_dev51 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_563 : BitVec 32 := 6#32
  let v542 : BitVec 32 := Scalar.addi v2 c6_i32_563
  let c16_i32_564 : BitVec 32 := 16#32
  let v543 : BitVec 32 := Scalar.remsi v542 c16_i32_564
  let c1_i32_570 : BitVec 32 := 1#32
  let v544 : BitVec 32 := Scalar.muli v543 c1_i32_570
  let v545 : BitVec 32 := Scalar.addi c0_i32_571 v544
  v545.toNat
def k0_dev52 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_576 : BitVec 32 := 7#32
  let v554 : BitVec 32 := Scalar.addi v2 c7_i32_576
  let c16_i32_577 : BitVec 32 := 16#32
  let v555 : BitVec 32 := Scalar.remsi v554 c16_i32_577
  let c1_i32_583 : BitVec 32 := 1#32
  let v556 : BitVec 32 := Scalar.muli v555 c1_i32_583
  let v557 : BitVec 32 := Scalar.addi c0_i32_584 v556
  v557.toNat
def k0_dev53 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_589 : BitVec 32 := 8#32
  let v566 : BitVec 32 := Scalar.addi v2 c8_i32_589
  let c16_i32_590 : BitVec 32 := 16#32
  let v567 : BitVec 32 := Scalar.remsi v566 c16_i32_590
  let c1_i32_596 : BitVec 32 := 1#32
  let v568 : BitVec 32 := Scalar.muli v567 c1_i32_596
  let v569 : BitVec 32 := Scalar.addi c0_i32_597 v568
  v569.toNat
def k0_dev54 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_602 : BitVec 32 := 9#32
  let v578 : BitVec 32 := Scalar.addi v2 c9_i32_602
  let c16_i32_603 : BitVec 32 := 16#32
  let v579 : BitVec 32 := Scalar.remsi v578 c16_i32_603
  let c1_i32_609 : BitVec 32 := 1#32
  let v580 : BitVec 32 := Scalar.muli v579 c1_i32_609
  let v581 : BitVec 32 := Scalar.addi c0_i32_610 v580
  v581.toNat
def k0_dev55 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_615 : BitVec 32 := 10#32
  let v590 : BitVec 32 := Scalar.addi v2 c10_i32_615
  let c16_i32_616 : BitVec 32 := 16#32
  let v591 : BitVec 32 := Scalar.remsi v590 c16_i32_616
  let c1_i32_622 : BitVec 32 := 1#32
  let v592 : BitVec 32 := Scalar.muli v591 c1_i32_622
  let v593 : BitVec 32 := Scalar.addi c0_i32_623 v592
  v593.toNat
def k0_dev56 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_628 : BitVec 32 := 11#32
  let v602 : BitVec 32 := Scalar.addi v2 c11_i32_628
  let c16_i32_629 : BitVec 32 := 16#32
  let v603 : BitVec 32 := Scalar.remsi v602 c16_i32_629
  let c1_i32_635 : BitVec 32 := 1#32
  let v604 : BitVec 32 := Scalar.muli v603 c1_i32_635
  let v605 : BitVec 32 := Scalar.addi c0_i32_636 v604
  v605.toNat
def k0_dev57 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_641 : BitVec 32 := 12#32
  let v614 : BitVec 32 := Scalar.addi v2 c12_i32_641
  let c16_i32_642 : BitVec 32 := 16#32
  let v615 : BitVec 32 := Scalar.remsi v614 c16_i32_642
  let c1_i32_648 : BitVec 32 := 1#32
  let v616 : BitVec 32 := Scalar.muli v615 c1_i32_648
  let v617 : BitVec 32 := Scalar.addi c0_i32_649 v616
  v617.toNat
def k0_dev58 (d0 : Dev nD) : Nat :=
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_654 : BitVec 32 := 13#32
  let v626 : BitVec 32 := Scalar.addi v2 c13_i32_654
  let c16_i32_655 : BitVec 32 := 16#32
  let v627 : BitVec 32 := Scalar.remsi v626 c16_i32_655
  let c1_i32_661 : BitVec 32 := 1#32
  let v628 : BitVec 32 := Scalar.muli v627 c1_i32_661
  let v629 : BitVec 32 := Scalar.addi c0_i32_662 v628
  v629.toNat
def k0_dev59 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_667 : BitVec 32 := 14#32
  let v638 : BitVec 32 := Scalar.addi v2 c14_i32_667
  let c16_i32_668 : BitVec 32 := 16#32
  let v639 : BitVec 32 := Scalar.remsi v638 c16_i32_668
  let c1_i32_674 : BitVec 32 := 1#32
  let v640 : BitVec 32 := Scalar.muli v639 c1_i32_674
  let v641 : BitVec 32 := Scalar.addi c0_i32_675 v640
  v641.toNat
def k0_dev60 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_680 : BitVec 32 := 15#32
  let v650 : BitVec 32 := Scalar.addi v2 c15_i32_680
  let c16_i32_681 : BitVec 32 := 16#32
  let v651 : BitVec 32 := Scalar.remsi v650 c16_i32_681
  let c1_i32_687 : BitVec 32 := 1#32
  let v652 : BitVec 32 := Scalar.muli v651 c1_i32_687
  let v653 : BitVec 32 := Scalar.addi c0_i32_688 v652
  v653.toNat
def k0_off10 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v672 : Index := Scalar.indexCast v2
  let c3 : Index := 3#32
  let c0_701 : Index := 0#32
  let c0_702 : Index := 0#32
  ![v672.toNat, 3, 0, 0]
def k0_off11 (d0 : Dev nD) : Fin 2 → Nat :=
  let c3_i32_707 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![3, v2.toNat]
def k0_off12 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_706 : BitVec 32 := 3#32
  let c0_i32_712 : BitVec 32 := 0#32
  let c0_i32_713 : BitVec 32 := 0#32
  ![v2.toNat, 3, 0, 0]
def k0_dev61 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_703 : BitVec 32 := 1#32
  let v676 : BitVec 32 := Scalar.addi v2 c1_i32_703
  let c16_i32_704 : BitVec 32 := 16#32
  let v677 : BitVec 32 := Scalar.remsi v676 c16_i32_704
  let c1_i32_710 : BitVec 32 := 1#32
  let v678 : BitVec 32 := Scalar.muli v677 c1_i32_710
  let v679 : BitVec 32 := Scalar.addi c0_i32_711 v678
  v679.toNat
def k0_dev62 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_716 : BitVec 32 := 2#32
  let v688 : BitVec 32 := Scalar.addi v2 c2_i32_716
  let c16_i32_717 : BitVec 32 := 16#32
  let v689 : BitVec 32 := Scalar.remsi v688 c16_i32_717
  let c1_i32_723 : BitVec 32 := 1#32
  let v690 : BitVec 32 := Scalar.muli v689 c1_i32_723
  let v691 : BitVec 32 := Scalar.addi c0_i32_724 v690
  v691.toNat
def k0_dev63 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_729 : BitVec 32 := 3#32
  let v700 : BitVec 32 := Scalar.addi v2 c3_i32_729
  let c16_i32_730 : BitVec 32 := 16#32
  let v701 : BitVec 32 := Scalar.remsi v700 c16_i32_730
  let c1_i32_736 : BitVec 32 := 1#32
  let v702 : BitVec 32 := Scalar.muli v701 c1_i32_736
  let v703 : BitVec 32 := Scalar.addi c0_i32_737 v702
  v703.toNat
def k0_dev64 (d0 : Dev nD) : Nat :=
  let c0_i32_750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_742 : BitVec 32 := 4#32
  let v712 : BitVec 32 := Scalar.addi v2 c4_i32_742
  let c16_i32_743 : BitVec 32 := 16#32
  let v713 : BitVec 32 := Scalar.remsi v712 c16_i32_743
  let c1_i32_749 : BitVec 32 := 1#32
  let v714 : BitVec 32 := Scalar.muli v713 c1_i32_749
  let v715 : BitVec 32 := Scalar.addi c0_i32_750 v714
  v715.toNat
def k0_dev65 (d0 : Dev nD) : Nat :=
  let c0_i32_763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_755 : BitVec 32 := 5#32
  let v724 : BitVec 32 := Scalar.addi v2 c5_i32_755
  let c16_i32_756 : BitVec 32 := 16#32
  let v725 : BitVec 32 := Scalar.remsi v724 c16_i32_756
  let c1_i32_762 : BitVec 32 := 1#32
  let v726 : BitVec 32 := Scalar.muli v725 c1_i32_762
  let v727 : BitVec 32 := Scalar.addi c0_i32_763 v726
  v727.toNat
def k0_dev66 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_768 : BitVec 32 := 6#32
  let v736 : BitVec 32 := Scalar.addi v2 c6_i32_768
  let c16_i32_769 : BitVec 32 := 16#32
  let v737 : BitVec 32 := Scalar.remsi v736 c16_i32_769
  let c1_i32_775 : BitVec 32 := 1#32
  let v738 : BitVec 32 := Scalar.muli v737 c1_i32_775
  let v739 : BitVec 32 := Scalar.addi c0_i32_776 v738
  v739.toNat
def k0_dev67 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_781 : BitVec 32 := 7#32
  let v748 : BitVec 32 := Scalar.addi v2 c7_i32_781
  let c16_i32_782 : BitVec 32 := 16#32
  let v749 : BitVec 32 := Scalar.remsi v748 c16_i32_782
  let c1_i32_788 : BitVec 32 := 1#32
  let v750 : BitVec 32 := Scalar.muli v749 c1_i32_788
  let v751 : BitVec 32 := Scalar.addi c0_i32_789 v750
  v751.toNat
def k0_dev68 (d0 : Dev nD) : Nat :=
  let c0_i32_802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_794 : BitVec 32 := 8#32
  let v760 : BitVec 32 := Scalar.addi v2 c8_i32_794
  let c16_i32_795 : BitVec 32 := 16#32
  let v761 : BitVec 32 := Scalar.remsi v760 c16_i32_795
  let c1_i32_801 : BitVec 32 := 1#32
  let v762 : BitVec 32 := Scalar.muli v761 c1_i32_801
  let v763 : BitVec 32 := Scalar.addi c0_i32_802 v762
  v763.toNat
def k0_dev69 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_807 : BitVec 32 := 9#32
  let v772 : BitVec 32 := Scalar.addi v2 c9_i32_807
  let c16_i32_808 : BitVec 32 := 16#32
  let v773 : BitVec 32 := Scalar.remsi v772 c16_i32_808
  let c1_i32_814 : BitVec 32 := 1#32
  let v774 : BitVec 32 := Scalar.muli v773 c1_i32_814
  let v775 : BitVec 32 := Scalar.addi c0_i32_815 v774
  v775.toNat
def k0_dev70 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_820 : BitVec 32 := 10#32
  let v784 : BitVec 32 := Scalar.addi v2 c10_i32_820
  let c16_i32_821 : BitVec 32 := 16#32
  let v785 : BitVec 32 := Scalar.remsi v784 c16_i32_821
  let c1_i32_827 : BitVec 32 := 1#32
  let v786 : BitVec 32 := Scalar.muli v785 c1_i32_827
  let v787 : BitVec 32 := Scalar.addi c0_i32_828 v786
  v787.toNat
def k0_dev71 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_833 : BitVec 32 := 11#32
  let v796 : BitVec 32 := Scalar.addi v2 c11_i32_833
  let c16_i32_834 : BitVec 32 := 16#32
  let v797 : BitVec 32 := Scalar.remsi v796 c16_i32_834
  let c1_i32_840 : BitVec 32 := 1#32
  let v798 : BitVec 32 := Scalar.muli v797 c1_i32_840
  let v799 : BitVec 32 := Scalar.addi c0_i32_841 v798
  v799.toNat
def k0_dev72 (d0 : Dev nD) : Nat :=
  let c0_i32_854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_846 : BitVec 32 := 12#32
  let v808 : BitVec 32 := Scalar.addi v2 c12_i32_846
  let c16_i32_847 : BitVec 32 := 16#32
  let v809 : BitVec 32 := Scalar.remsi v808 c16_i32_847
  let c1_i32_853 : BitVec 32 := 1#32
  let v810 : BitVec 32 := Scalar.muli v809 c1_i32_853
  let v811 : BitVec 32 := Scalar.addi c0_i32_854 v810
  v811.toNat
def k0_dev73 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_859 : BitVec 32 := 13#32
  let v820 : BitVec 32 := Scalar.addi v2 c13_i32_859
  let c16_i32_860 : BitVec 32 := 16#32
  let v821 : BitVec 32 := Scalar.remsi v820 c16_i32_860
  let c1_i32_866 : BitVec 32 := 1#32
  let v822 : BitVec 32 := Scalar.muli v821 c1_i32_866
  let v823 : BitVec 32 := Scalar.addi c0_i32_867 v822
  v823.toNat
def k0_dev74 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_872 : BitVec 32 := 14#32
  let v832 : BitVec 32 := Scalar.addi v2 c14_i32_872
  let c16_i32_873 : BitVec 32 := 16#32
  let v833 : BitVec 32 := Scalar.remsi v832 c16_i32_873
  let c1_i32_879 : BitVec 32 := 1#32
  let v834 : BitVec 32 := Scalar.muli v833 c1_i32_879
  let v835 : BitVec 32 := Scalar.addi c0_i32_880 v834
  v835.toNat
def k0_dev75 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_885 : BitVec 32 := 15#32
  let v844 : BitVec 32 := Scalar.addi v2 c15_i32_885
  let c16_i32_886 : BitVec 32 := 16#32
  let v845 : BitVec 32 := Scalar.remsi v844 c16_i32_886
  let c1_i32_892 : BitVec 32 := 1#32
  let v846 : BitVec 32 := Scalar.muli v845 c1_i32_892
  let v847 : BitVec 32 := Scalar.addi c0_i32_893 v846
  v847.toNat
def k0_off13 (d0 : Dev nD) (c1_i32_902 : BitVec 32) : Fin 2 → Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v862 : BitVec 32 := Scalar.addi v2 c1_i32_902
  let c16_i32_903 : BitVec 32 := 16#32
  let v863 : BitVec 32 := Scalar.remsi v862 c16_i32_903
  ![0, v863.toNat]
def k0_off14 (d0 : Dev nD) (c1_i32_902 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v862 : BitVec 32 := Scalar.addi v2 c1_i32_902
  let c16_i32_903 : BitVec 32 := 16#32
  let v863 : BitVec 32 := Scalar.remsi v862 c16_i32_903
  let c0_i32_905 : BitVec 32 := 0#32
  let c0_i32_911 : BitVec 32 := 0#32
  let c0_i32_912 : BitVec 32 := 0#32
  ![v863.toNat, 0, 0, 0]
def k0_off15 (d0 : Dev nD) (c1_i32_1114 : BitVec 32) : Fin 2 → Nat :=
  let c1_i32_1118 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1046 : BitVec 32 := Scalar.addi v2 c1_i32_1114
  let c16_i32_1115 : BitVec 32 := 16#32
  let v1047 : BitVec 32 := Scalar.remsi v1046 c16_i32_1115
  ![1, v1047.toNat]
def k0_off16 (d0 : Dev nD) (c1_i32_1114 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1046 : BitVec 32 := Scalar.addi v2 c1_i32_1114
  let c16_i32_1115 : BitVec 32 := 16#32
  let v1047 : BitVec 32 := Scalar.remsi v1046 c16_i32_1115
  let c1_i32_1117 : BitVec 32 := 1#32
  let c0_i32_1123 : BitVec 32 := 0#32
  let c0_i32_1124 : BitVec 32 := 0#32
  ![v1047.toNat, 1, 0, 0]
def k0_off17 (d0 : Dev nD) (c1_i32_1326 : BitVec 32) : Fin 2 → Nat :=
  let c2_i32_1330 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1230 : BitVec 32 := Scalar.addi v2 c1_i32_1326
  let c16_i32_1327 : BitVec 32 := 16#32
  let v1231 : BitVec 32 := Scalar.remsi v1230 c16_i32_1327
  ![2, v1231.toNat]
def k0_off18 (d0 : Dev nD) (c1_i32_1326 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1230 : BitVec 32 := Scalar.addi v2 c1_i32_1326
  let c16_i32_1327 : BitVec 32 := 16#32
  let v1231 : BitVec 32 := Scalar.remsi v1230 c16_i32_1327
  let c2_i32_1329 : BitVec 32 := 2#32
  let c0_i32_1335 : BitVec 32 := 0#32
  let c0_i32_1336 : BitVec 32 := 0#32
  ![v1231.toNat, 2, 0, 0]
def k0_off19 (d0 : Dev nD) (c1_i32_1538 : BitVec 32) : Fin 2 → Nat :=
  let c3_i32_1542 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1414 : BitVec 32 := Scalar.addi v2 c1_i32_1538
  let c16_i32_1539 : BitVec 32 := 16#32
  let v1415 : BitVec 32 := Scalar.remsi v1414 c16_i32_1539
  ![3, v1415.toNat]
def k0_off20 (d0 : Dev nD) (c1_i32_1538 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1414 : BitVec 32 := Scalar.addi v2 c1_i32_1538
  let c16_i32_1539 : BitVec 32 := 16#32
  let v1415 : BitVec 32 := Scalar.remsi v1414 c16_i32_1539
  let c3_i32_1541 : BitVec 32 := 3#32
  let c0_i32_1547 : BitVec 32 := 0#32
  let c0_i32_1548 : BitVec 32 := 0#32
  ![v1415.toNat, 3, 0, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x16384 : Shape := ⟨2, ![2048, 16384]⟩
abbrev S16384 : Shape := ⟨1, ![16384]⟩
abbrev S_ : Shape := ⟨0, ![]⟩
abbrev S2048 : Shape := ⟨1, ![2048]⟩
abbrev S2048x1 : Shape := ⟨2, ![2048, 1]⟩
abbrev S1x16384 : Shape := ⟨2, ![1, 16384]⟩

abbrev nBuf : Space → Nat
  | .hbm => 47
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x16384, .f32⟩
  | .hbm, ⟨17, _⟩ => ⟨S2048x16384, .f32⟩
  | .hbm, ⟨18, _⟩ => ⟨S2048x16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x16384, .f32⟩
  | .hbm, ⟨34, _⟩ => ⟨S2048x16384, .f32⟩
  | .hbm, ⟨35, _⟩ => ⟨S1x16384, .f32⟩
  | .hbm, ⟨36, _⟩ => ⟨S2048x16384, .f32⟩
  | .hbm, ⟨37, _⟩ => ⟨S2048x16384, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x16384, .f32⟩
  | .hbm, ⟨43, _⟩ => ⟨S2048x16384, .f32⟩
  | .hbm, ⟨44, _⟩ => ⟨S1x16384, .f32⟩
  | .hbm, ⟨45, _⟩ => ⟨S2048x16384, .f32⟩
  | .hbm, ⟨46, _⟩ => ⟨S2048x16384, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Ideal.Geometry.lean ====
/-
  The places the kernel's transfers read and write, and the semaphores they complete on, in closed
  form: the DMA semaphore of each array entry, the element set of each row chunk and of each
  statistics slot, and what a copy between two places of the same shape leaves.
-/
module

public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.Transfers

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Semaphores -/

/-- The kernel's own DMA semaphores, in the order they lie in: 4 of the incoming chunks, 4 of the outgoing
    chunks, 4 × 16 of the sends, 4 × 16 of the receipts. -/
def own (i : Fin 136) : SemLoc sig := .dma ⟨2 + i.val, by have := i.isLt; show 2 + i.val < 138; omega⟩

/-- Chunk `k`'s incoming semaphore. -/
def inI (k : Fin 4) : Fin 136 := ⟨k.val, by omega⟩
/-- Chunk `k`'s outgoing semaphore. -/
def outI (k : Fin 4) : Fin 136 := ⟨4 + k.val, by omega⟩
/-- The semaphore of the send of chunk `k`'s statistics to the device `d` places ahead. -/
def sendI (k : Fin 4) (d : Fin 16) : Fin 136 := ⟨8 + 16 * k.val + d.val, by omega⟩
/-- The semaphore of the receipt of device `s`'s statistics of chunk `k`. -/
def recvI (k : Fin 4) (s : Fin 16) : Fin 136 := ⟨72 + 16 * k.val + s.val, by omega⟩

theorem in_sem (k : Fin 4) {off : Fin 1 → Nat} (h : ∀ a, off a + S1.size a ≤ S4.size a) (e : off = ![k.val]) :
    (SemLoc.dma ((cc0_scratch2.slice (Rect.unit (s := S4) off S1.size h)).squeeze S_ squeezes_S1_S_).sem : SemLoc sig) = own (inI k) := by
  subst e; revert k; decide

theorem out_sem (k : Fin 4) {off : Fin 1 → Nat} (h : ∀ a, off a + S1.size a ≤ S4.size a) (e : off = ![k.val]) :
    (SemLoc.dma ((cc0_scratch3.slice (Rect.unit (s := S4) off S1.size h)).squeeze S_ squeezes_S1_S_).sem : SemLoc sig) = own (outI k) := by
  subst e; revert k; decide

theorem send_sem (k : Fin 4) (d : Fin 16) {off : Fin 2 → Nat} (h : ∀ a, off a + S1x1.size a ≤ S4x16.size a) (e : off = ![k.val, d.val]) :
    (SemLoc.dma ((cc0_scratch4.slice (Rect.unit (s := S4x16) off S1x1.size h)).squeeze S_ squeezes_S1x1_S_).sem : SemLoc sig) = own (sendI k d) := by
  subst e; revert k d; decide

theorem recv_sem (k : Fin 4) (s : Fin 16) {off : Fin 2 → Nat} (h : ∀ a, off a + S1x1.size a ≤ S4x16.size a) (e : off = ![k.val, s.val]) :
    (SemLoc.dma ((cc0_scratch5.slice (Rect.unit (s := S4x16) off S1x1.size h)).squeeze S_ squeezes_S1x1_S_).sem : SemLoc sig) = own (recvI k s) := by
  subst e; revert k s; decide

theorem own_injective : Function.Injective own := fun i j h => by
  have h' := congrArg Fin.val (SemLoc.dma.inj h); exact Fin.ext (by simpa using h')

/-! ## Element sets -/

/-- The elements of row chunk `k` of a 2048×1024 array. -/
def rowSet (k : ℕ) : Finset S2048x1024.Idx := Finset.univ.filter fun i => (i 0).val / 512 = k
/-- The elements of the statistics slot of device `s` and chunk `k`. -/
def slotSet (s k : ℕ) : Finset S16x4x8x128.Idx := Finset.univ.filter fun i => (i 0).val = s ∧ (i 1).val = k
/-- The elements of every device's slot of chunk `k`. -/
def stripSet (k : ℕ) : Finset S16x4x8x128.Idx := Finset.univ.filter fun i => (i 1).val = k

theorem rect_rows (k : ℕ) {off : Fin 2 → Nat} (h : ∀ a, off a + S512x1024.size a ≤ S2048x1024.size a) (e : off = ![512 * k, 0]) :
    (Rect.unit (s := S2048x1024) off S512x1024.size h).set = rowSet k := by
  subst e
  ext i
  rw [Rect.mem_set_unit, rowSet, Finset.mem_filter]
  have h1 := (i 1).isLt
  constructor
  · intro H
    have := H 0
    simp [S512x1024] at this
    refine ⟨Finset.mem_univ _, by omega⟩
  · rintro ⟨-, H⟩ a
    match a with
    | ⟨0, _⟩ => show 512 * k ≤ (i 0).val ∧ (i 0).val < 512 * k + 512; omega
    | ⟨1, _⟩ => show 0 ≤ (i 1).val ∧ (i 1).val < 0 + 1024; exact ⟨Nat.zero_le _, by simpa [S2048x1024] using h1⟩

theorem rect_slot (s k : ℕ) {off : Fin 4 → Nat} (h : ∀ a, off a + S1x1x8x128.size a ≤ S16x4x8x128.size a) (e : off = ![s, k, 0, 0]) :
    (Rect.unit (s := S16x4x8x128) off S1x1x8x128.size h).set = slotSet s k := by
  subst e
  ext i
  rw [Rect.mem_set_unit, slotSet, Finset.mem_filter]
  have h2 := (i 2).isLt
  have h3 := (i 3).isLt
  constructor
  · intro H
    have H0 := H 0
    have H1 := H 1
    simp [S1x1x8x128] at H0 H1
    refine ⟨Finset.mem_univ _, by omega, by omega⟩
  · rintro ⟨-, H0, H1⟩ a
    match a with
    | ⟨0, _⟩ => show s ≤ (i 0).val ∧ (i 0).val < s + 1; omega
    | ⟨1, _⟩ => show k ≤ (i 1).val ∧ (i 1).val < k + 1; omega
    | ⟨2, _⟩ => show 0 ≤ (i 2).val ∧ (i 2).val < 0 + 8; exact ⟨Nat.zero_le _, by simpa [S16x4x8x128] using h2⟩
    | ⟨3, _⟩ => show 0 ≤ (i 3).val ∧ (i 3).val < 0 + 128; exact ⟨Nat.zero_le _, by simpa [S16x4x8x128] using h3⟩

theorem rect_strip (k : ℕ) {off : Fin 4 → Nat} (h : ∀ a, off a + S16x1x8x128.size a ≤ S16x4x8x128.size a) (e : off = ![0, k, 0, 0]) :
    (Rect.unit (s := S16x4x8x128) off S16x1x8x128.size h).set = stripSet k := by
  subst e
  ext i
  rw [Rect.mem_set_unit, stripSet, Finset.mem_filter]
  have h0 := (i 0).isLt
  have h2 := (i 2).isLt
  have h3 := (i 3).isLt
  constructor
  · intro H
    have H1 := H 1
    simp [S16x1x8x128] at H1
    refine ⟨Finset.mem_univ _, by omega⟩
  · rintro ⟨-, H1⟩ a
    match a with
    | ⟨0, _⟩ => show 0 ≤ (i 0).val ∧ (i 0).val < 0 + 16; exact ⟨Nat.zero_le _, by simpa [S16x4x8x128] using h0⟩
    | ⟨1, _⟩ => show k ≤ (i 1).val ∧ (i 1).val < k + 1; omega
    | ⟨2, _⟩ => show 0 ≤ (i 2).val ∧ (i 2).val < 0 + 8; exact ⟨Nat.zero_le _, by simpa [S16x4x8x128] using h2⟩
    | ⟨3, _⟩ => show 0 ≤ (i 3).val ∧ (i 3).val < 0 + 128; exact ⟨Nat.zero_le _, by simpa [S16x4x8x128] using h3⟩

theorem rowSet_disjoint {k k' : ℕ} (h : k ≠ k') : Disjoint (rowSet k) (rowSet k') := by
  rw [Finset.disjoint_left]; intro i hi hj
  exact h ((Finset.mem_filter.mp hi).2.symm.trans (Finset.mem_filter.mp hj).2)

theorem slotSet_disjoint {s k s' k' : ℕ} (h : ¬ (s = s' ∧ k = k')) : Disjoint (slotSet s k) (slotSet s' k') := by
  rw [Finset.disjoint_left]; intro i hi hj
  obtain ⟨-, h1, h2⟩ := Finset.mem_filter.mp hi
  obtain ⟨-, h3, h4⟩ := Finset.mem_filter.mp hj
  exact h ⟨h1.symm.trans h3, h2.symm.trans h4⟩

theorem rowSet_cover : (Finset.univ : Finset (Fin 4)).biUnion (fun k => rowSet k.val) = Finset.univ := by
  ext i
  simp only [Finset.mem_biUnion, Finset.mem_univ, true_and, iff_true]
  have h0 : (i 0).val < 2048 := (i 0).isLt
  exact ⟨⟨(i 0).val / 512, by omega⟩, Finset.mem_filter.mpr ⟨Finset.mem_univ _, rfl⟩⟩

theorem slotSet_strip (k : ℕ) : (Finset.univ : Finset (Fin 16)).biUnion (fun s => slotSet s.val k) = stripSet k := by
  ext i
  simp only [Finset.mem_biUnion, Finset.mem_univ, true_and, slotSet, stripSet, Finset.mem_filter]
  constructor
  · rintro ⟨s, -, h⟩; exact h
  · intro h; exact ⟨⟨(i 0).val, (i 0).isLt⟩, rfl, h⟩

theorem slotSet_cover : (Finset.univ : Finset (Fin 16 × Fin 4)).biUnion (fun p => slotSet p.1.val p.2.val) = Finset.univ := by
  ext i
  simp only [Finset.mem_biUnion, Finset.mem_univ, true_and, iff_true, slotSet, Finset.mem_filter]
  exact ⟨⟨⟨(i 0).val, (i 0).isLt⟩, ⟨(i 1).val, (i 1).isLt⟩⟩, rfl, rfl⟩

/-! ## What a copy leaves -/

section Views

variable {Val : EltTy → Type} {κ : Kind} {sp sp' : Space} {s : Shape} {e : EltTy}

/-- A view written with what it reads of `f` holds `f` on its elements. -/
theorem write_read_self (v : View sig κ sp s e) (g f : v.ty.Contents Val) :
    ∀ i ∈ v.set, v.write Val g (v.read Val f) Finset.univ i = f i := by
  intro i hi
  obtain ⟨x, hx, rfl⟩ := Finset.mem_map.mp hi
  rw [View.write_emb_of_mem _ _ hx, View.read_apply, cast_cast, cast_eq]

/-- The elements of a slice of a whole buffer, squeezed. -/
theorem set_squeeze_slice (b : Ref sig κ) (r : Rect b.ty.shape) (hr : ∀ a, r.stride a = 1) (s' : Shape) (h : r.shape.Squeezes s') :
    ((((Memref.whole b).slice r hr).squeeze s' h).view.set : Finset b.ty.shape.Idx) = r.set := by
  exact (View.set_reshape (v := (View.whole b).slice r) h.numel_eq).trans (View.set_slice_whole b r)

end Views

end Cert.KernelIdeal.Talk

end
-- ==== Proof.Ideal.Protocol.lean ====
/-
  The protocol of the sixteen devices: what each semaphore stands for, what a wait on it hands over, what every
  device owes the others, and in which order the waits may come.

  Every device computes the statistics of its own columns, four chunks of rows at a time, in its own slot of a
  buffer of 16 × 4 slots, and copies each slot into the same slot of the fifteen others. A device may write another's buffer only
  after that one's signal on the barrier semaphore, with which the other hands it the four slots.
-/
module

public import proofs.«01_k».proof.Proof.Ideal.Geometry

@[expose] public section

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type} [FloatOps F]

/-- The algebra of the run: the pipelines' rounds and this protocol's. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Devices -/

/-- The device `j + 1` places ahead of `c` on the ring of sixteen. -/
def nxt (c : Dev nD) (j : ℕ) : Dev nD := ⟨(c.val + j + 1) % 16, Nat.mod_lt _ (by decide)⟩

theorem nxt_ne (c : Dev nD) {j : ℕ} (h : j < 15) : nxt c j ≠ c := fun e => by
  have := congrArg Fin.val e; have hc : c.val < 16 := c.isLt; simp only [nxt] at this; omega

theorem nxt_inj (c : Dev nD) {i j : ℕ} (hi : i < 15) (hj : j < 15) (e : nxt c i = nxt c j) : i = j := by
  have := congrArg Fin.val e; have hc : c.val < 16 := c.isLt; simp only [nxt] at this; omega

/-- The others, in the order of the ring. -/
theorem others_eq (c : Dev nD) : (Finset.univ.erase c : Finset (Dev nD)) = (Finset.range 15).image (nxt c) := by
  revert c; decide

/-- The distance `j + 1` as a column of the array of send semaphores. -/
def dist (j : ℕ) : Fin 16 := ⟨(j + 1) % 16, Nat.mod_lt _ (by decide)⟩

/-- A resource of every other device, in the order of the ring. -/
theorem bigSep_others (c : Dev nD) (Φ : Dev nD → sProp 𝕄) :
    bigSep (Finset.univ.erase c) Φ = bigSep (Finset.range 15) fun j => Φ (nxt c j) := by
  rw [others_eq]
  have H : ∀ n, n ≤ 15 → bigSep ((Finset.range n).image (nxt c)) Φ = bigSep (Finset.range n) fun j => Φ (nxt c j) := by
    intro n
    induction n with
    | zero => intro _; rw [Finset.range_zero, Finset.image_empty, BI.bigSep_empty, BI.bigSep_empty]
    | succ n ih =>
      intro hn
      rw [Finset.range_add_one, Finset.image_insert, BI.bigSep_insert, BI.bigSep_insert Finset.notMem_range_self, ih (by omega)]
      intro hm
      obtain ⟨j, hj, e⟩ := Finset.mem_image.mp hm
      have hj := Finset.mem_range.mp hj
      have := nxt_inj c (by omega) (by omega) e
      omega
  exact H 15 (le_refl 15)

/-! ## Cells -/

/-- The barrier semaphore. -/
abbrev barS : Sem sig := sig.barrier 0 rfl
abbrev barCell (c : Dev nD) : GSem nD τ sig := ((c : Thread nD τ), .reg barS)
abbrev ownCell (c : Dev nD) (i : Fin 136) : GSem nD τ sig := ((c : Thread nD τ), own i)

/-! ## Contents -/

/-- What the devices hold when the kernel starts: the columns of x, and the windows of gamma and beta. -/
structure Ins (F : FTy → Type) where
  x : Dev nD → S2048x1024.Idx → Elt F .f32
  gam : Dev nD → S1x1024.Idx → Elt F .f32
  bet : Dev nD → S1x1024.Idx → Elt F .f32

theorem rows_inb (k : Fin 4) : ∀ a, (![512 * k.val, 0] : Fin 2 → ℕ) a + S512x1024.size a ≤ S2048x1024.size a := by
  revert k; decide
theorem strip_inb (k : Fin 4) : ∀ a, (![0, k.val, 0, 0] : Fin 4 → ℕ) a + S16x1x8x128.size a ≤ S16x4x8x128.size a := by
  revert k; decide

/-- Row chunk `k` of a 2048×1024 array. -/
def chunkOf (f : S2048x1024.Idx → Elt F .f32) (k : Fin 4) : Vec F S512x1024 .f32 :=
  fun j => f ((Rect.unit (s := S2048x1024) ![512 * k.val, 0] S512x1024.size (rows_inb k)).emb j)
/-- The slots of chunk `k` of all devices. -/
def stripOf (f : S16x4x8x128.Idx → Elt F .f32) (k : Fin 4) : Vec F S16x1x8x128 .f32 :=
  fun j => f ((Rect.unit (s := S16x4x8x128) ![0, k.val, 0, 0] S16x1x8x128.size (strip_inb k)).emb j)

variable (A : Ins F)

/-- The statistics of all devices, each in its slot: the same on every device once all copies have landed. -/
def statG (i : S16x4x8x128.Idx) : Elt F .f32 :=
  k0_pay1 (chunkOf (A.x ⟨(i 0).val, (i 0).isLt⟩) ⟨(i 1).val, (i 1).isLt⟩)
    (fun | 0 => ⟨0, Nat.one_pos⟩ | 1 => ⟨0, Nat.one_pos⟩ | 2 => ⟨(i 2).val, (i 2).isLt⟩ | 3 => ⟨(i 3).val, (i 3).isLt⟩)

/-- Device `c`'s rows of chunk `k`, normalised with the statistics of all devices. -/
def outC (c : Dev nD) (k : Fin 4) : Vec F S512x1024 .f32 :=
  k0_pay8 (k0_pay7 (k0_pay5 (A.gam c)) (k0_pay6 (A.bet c)) (stripOf (statG A) k) (chunkOf (A.x c) k))

/-- Device `c`'s result. -/
def outG (c : Dev nD) (i : S2048x1024.Idx) : Elt F .f32 :=
  outC A c ⟨(i 0).val / 512, by have h : (i 0).val < 2048 := (i 0).isLt; omega⟩
    (fun | 0 => ⟨(i 0).val % 512, Nat.mod_lt _ (by decide)⟩ | 1 => ⟨(i 1).val, (i 1).isLt⟩)

/-! ## Points-tos -/

/-- Chunk `k` of x in device `c`'s main memory. -/
abbrev argP (c : Dev nD) (k : ℕ) : sProp 𝕄 := (c : Thread nD τ).loc main_arg0 ↦[rowSet k]{fullShare} A.x c
/-- Chunk `k` of device `c`'s working copy. -/
abbrev xvP (c : Dev nD) (k : ℕ) (f : S2048x1024.Idx → Elt F .f32) : sProp 𝕄 := (c : Thread nD τ).loc cc0_scratch0 ↦[rowSet k]{fullShare} f
/-- Chunk `k` of device `c`'s result in main memory. -/
abbrev resP (c : Dev nD) (k : ℕ) (f : S2048x1024.Idx → Elt F .f32) : sProp 𝕄 := (c : Thread nD τ).loc main_v3 ↦[rowSet k]{fullShare} f
/-- A share of the slot of device `s` and chunk `k` in device `c`'s buffer. -/
abbrev slotQ (c : Dev nD) (q : PosShare TreeShare) (s : Dev nD) (k : ℕ) (f : S16x4x8x128.Idx → Elt F .f32) : sProp 𝕄 :=
  (c : Thread nD τ).loc cc0_scratch1 ↦[slotSet s.val k]{q} f
/-- The same slot at contents not named. -/
abbrev slotE (c : Dev nD) (s : Dev nD) (k : ℕ) : sProp 𝕄 := iprop(∃ f : S16x4x8x128.Idx → Elt F .f32, slotQ c fullShare s k f)

/-! ## The schedule -/

/-- What a copy of a chunk, and of a slot, adds to a semaphore. -/
abbrev Nin : ℕ := ((Memref.whole cc0_scratch0).slice (Rect.unit (s := S2048x1024) ![0, 0] S512x1024.size inb_S2048x1024_S512x1024_0_0) (fun _ => rfl)).view.dmaCredit
abbrev Nout : ℕ := ((Memref.whole main_v3).slice (Rect.unit (s := S2048x1024) ![0, 0] S512x1024.size inb_S2048x1024_S512x1024_0_0) (fun _ => rfl)).view.dmaCredit
abbrev Nslot : ℕ := (((Memref.whole cc0_scratch1).slice (Rect.unit (s := S16x4x8x128) (k0_off3 0) S1x1x8x128.size (k0_off3_inb 0)) (fun _ => rfl)).squeeze S8x128 squeezes_S1x1x8x128_S8x128).view.dmaCredit

theorem Nin_pos : 0 < Nin := View.dmaCredit_pos _ (by decide)
theorem Nout_pos : 0 < Nout := View.dmaCredit_pos _ (by decide)
theorem Nslot_pos : 0 < Nslot := View.dmaCredit_pos _ (by decide)

/-- With its signal on `c`'s barrier semaphore, device `p` hands over `c`'s four slots of its buffer, ready to be written. -/
def barPay (c p : Dev nD) : sProp 𝕄 :=
  bigSep Finset.univ fun k : Fin 4 => iprop(slotE p c k.val ∗ reached ER (ownCell p (recvI k c)) 0)
/-- A landed copy of `s`'s statistics. -/
def recvPay (c : Dev nD) (k : ℕ) (s : Dev nD) : sProp 𝕄 := slotQ c fullShare s k (statG A)
/-- The share of its own slot a device lends to its copy to the device `d` places ahead. -/
def sendPay (c : Dev nD) (k : ℕ) (d : ℕ) : sProp 𝕄 := slotQ c (shareTokN fullShare (d - 1)) c k (statG A)
def inPay (c : Dev nD) (k : ℕ) : sProp 𝕄 := iprop(xvP c k (A.x c) ∗ argP A c k)
def outPay (c : Dev nD) (k : ℕ) : sProp 𝕄 := iprop(resP c k (outG A c) ∗ xvP c k (outG A c))

/-- What a DMA semaphore of device `c`, by its number, hands over. -/
def dmaPay (c : Dev nD) (q : ℕ) : sProp 𝕄 :=
  if q < 4 then inPay A c q
  else if q < 8 then outPay A c (q - 4)
  else if q < 72 then sendPay A c ((q - 8) / 16) ((q - 8) % 16)
  else recvPay A c ((q - 72) / 16) ⟨(q - 72) % 16, Nat.mod_lt _ (by decide)⟩

/-- Whether a DMA semaphore of device `c` is used: not the send to distance 0, nor the receipt from itself. -/
def dmaUsed (c : Dev nD) (q : ℕ) : Prop :=
  q < 8 ∨ (q < 72 ∧ (q - 8) % 16 ≠ 0) ∨ (72 ≤ q ∧ (q - 72) % 16 ≠ c.val)
instance (c : Dev nD) (q : ℕ) : Decidable (dmaUsed c q) := by unfold dmaUsed; infer_instance

def dmaAmt (q : ℕ) : ℕ := if q < 4 then Nin else if q < 8 then Nout else Nslot

theorem dmaAmt_pos (q : ℕ) : 0 < dmaAmt q := by
  unfold dmaAmt; split; exact Nin_pos; split; exact Nout_pos; exact Nslot_pos

/-- One round on every cell: a barrier semaphore is paid by each other device, a DMA semaphore by one copy. -/
def Rd : Rounds.Schedule (GSem nD τ sig) (Dev nD) 𝕄 where
  duties g r := if r = 0 ∧ g.1.2 = .tc then
      (match g.2 with | .reg _ => Finset.univ.erase g.1.1 | .dma q => if dmaUsed g.1.1 (q.val - 2) then {0} else ∅) else ∅
  amount g _ _ := match g.2 with | .reg _ => 1 | .dma q => dmaAmt (q.val - 2)
  payload g _ d := match g.2 with | .reg _ => barPay g.1.1 d | .dma q => dmaPay A g.1.1 (q.val - 2)
  amount_pos g _ _ _ := by
    split
    · exact Nat.one_pos
    · exact dmaAmt_pos _

instance Rd_payload_storable (g : GSem nD τ sig) (r : ℕ) (d : Dev nD) :
    BI.Storable (upEmb : UEmb _ 𝕄) ((Rd A).payload g r d) := by
  show BI.Storable upEmb (match g.2 with | .reg _ => barPay g.1.1 d | .dma q => dmaPay A g.1.1 (q.val - 2))
  unfold barPay dmaPay inPay outPay sendPay recvPay
  (repeat' split) <;> infer_instance

section Tables

variable (c : Dev nD)

theorem duties_bar : (Rd A).duties (barCell c) 0 = Finset.univ.erase c := by
  dsimp only [Rd]; exact if_pos ⟨rfl, rfl⟩
theorem duties_own (i : Fin 136) (h : dmaUsed c i.val) : (Rd A).duties (ownCell c i) 0 = {0} := by
  dsimp only [Rd, own]; rw [if_pos ⟨rfl, rfl⟩]; exact if_pos (by rwa [Nat.add_sub_cancel_left])
theorem duties_unused (i : Fin 136) (h : ¬ dmaUsed c i.val) : (Rd A).duties (ownCell c i) 0 = ∅ := by
  dsimp only [Rd, own]; rw [if_pos ⟨rfl, rfl⟩]; exact if_neg (by rwa [Nat.add_sub_cancel_left])
theorem duties_later (g : GSem nD τ sig) : ∀ r, 1 ≤ r → (Rd A).duties g r = ∅ :=
  fun r hr => by dsimp only [Rd]; exact if_neg (fun h => by omega)

theorem amount_bar (d : Dev nD) : (Rd A).amount (barCell c) 0 d = 1 := rfl
theorem amount_own (i : Fin 136) (d : Dev nD) : (Rd A).amount (ownCell c i) 0 d = dmaAmt i.val := by
  dsimp only [Rd, own]; rw [Nat.add_sub_cancel_left]
theorem payload_bar (d : Dev nD) : (Rd A).payload (barCell c) 0 d = barPay c d := rfl
theorem payload_own (i : Fin 136) (d : Dev nD) : (Rd A).payload (ownCell c i) 0 d = dmaPay A c i.val := by
  dsimp only [Rd, own]; rw [Nat.add_sub_cancel_left]

theorem expect_bar : (Rd A).expect (barCell c) 0 = 15 := by
  unfold Schedule.expect Schedule.amountOf
  rw [duties_bar, Finset.sum_congr rfl fun d _ => amount_bar A c d, Finset.sum_const, Finset.card_erase_of_mem (Finset.mem_univ _)]
  rfl
theorem expect_own (i : Fin 136) (h : dmaUsed c i.val) : (Rd A).expect (ownCell c i) 0 = dmaAmt i.val := by
  unfold Schedule.expect Schedule.amountOf; rw [duties_own A c i h, Finset.sum_singleton, amount_own]
theorem rest_own (i : Fin 136) (h : dmaUsed c i.val) :
    bigSep ((Rd A).duties (ownCell c i) 0 \ ∅) (fun d => (Rd A).payload (ownCell c i) 0 d) = dmaPay A c i.val := by
  rw [Finset.sdiff_empty, duties_own A c i h, bigSep_singleton, payload_own]
theorem rest_bar :
    bigSep ((Rd A).duties (barCell c) 0 \ ∅) (fun d => (Rd A).payload (barCell c) 0 d) = bigSep (Finset.range 15) (fun j => (barPay c (nxt c j) : sProp 𝕄)) := by
  rw [Finset.sdiff_empty, duties_bar, bigSep_others]
  rfl

theorem used_in (k : Fin 4) : dmaUsed c (inI k).val := .inl (by have := k.isLt; show k.val < 8; omega)
theorem used_out (k : Fin 4) : dmaUsed c (outI k).val := .inl (by have := k.isLt; show 4 + k.val < 8; omega)
theorem used_send (k : Fin 4) {j : ℕ} (h : j < 15) : dmaUsed c (sendI k (dist j)).val :=
  .inr (.inl (by have := k.isLt; simp only [sendI, dist]; omega))
theorem used_recv (k : Fin 4) {s : Dev nD} (h : s ≠ c) : dmaUsed c (recvI k s).val :=
  .inr (.inr (by
    have := k.isLt; have hs : s.val < 16 := s.isLt; have hc : s.val ≠ c.val := fun e => h (Fin.ext e)
    show 72 ≤ 72 + 16 * k.val + s.val ∧ (72 + 16 * k.val + s.val - 72) % 16 ≠ c.val; omega))

theorem amt_low {q : ℕ} (h : q < 4) : dmaAmt q = Nin := if_pos h
theorem amt_mid {q : ℕ} (h : 4 ≤ q) (h' : q < 8) : dmaAmt q = Nout := by unfold dmaAmt; rw [if_neg (by omega), if_pos h']
theorem amt_high {q : ℕ} (h : 8 ≤ q) : dmaAmt q = Nslot := by unfold dmaAmt; rw [if_neg (by omega), if_neg (by omega)]
theorem amt_in (k : Fin 4) : dmaAmt (inI k).val = Nin := amt_low k.isLt
theorem amt_out (k : Fin 4) : dmaAmt (outI k).val = Nout := amt_mid (Nat.le_add_right 4 _) (Nat.add_lt_add_left k.isLt 4)
theorem amt_send (k : Fin 4) (d : Fin 16) : dmaAmt (sendI k d).val = Nslot := amt_high (by show 8 ≤ 8 + 16 * k.val + d.val; omega)
theorem amt_recv (k : Fin 4) (s : Fin 16) : dmaAmt (recvI k s).val = Nslot := amt_high (by show 8 ≤ 72 + 16 * k.val + s.val; omega)

theorem pay_low {q : ℕ} (h : q < 4) : dmaPay A c q = inPay A c q := if_pos h
theorem pay_mid {q : ℕ} (h : 4 ≤ q) (h' : q < 8) : dmaPay A c q = outPay A c (q - 4) := by
  unfold dmaPay; rw [if_neg (by omega), if_pos h']
theorem pay_mid' {q : ℕ} (h : 8 ≤ q) (h' : q < 72) : dmaPay A c q = sendPay A c ((q - 8) / 16) ((q - 8) % 16) := by
  unfold dmaPay; rw [if_neg (by omega), if_neg (by omega), if_pos h']
theorem pay_high {q : ℕ} (h : 72 ≤ q) : dmaPay A c q = recvPay A c ((q - 72) / 16) ⟨(q - 72) % 16, Nat.mod_lt _ (by decide)⟩ := by
  unfold dmaPay; rw [if_neg (by omega), if_neg (by omega), if_neg (by omega)]

theorem pay_in (k : Fin 4) : dmaPay A c (inI k).val = inPay A c k.val := pay_low A c k.isLt
theorem pay_out (k : Fin 4) : dmaPay A c (outI k).val = outPay A c k.val := by
  refine (pay_mid A c (Nat.le_add_right 4 k.val) (Nat.add_lt_add_left k.isLt 4)).trans ?_
  exact congrArg (outPay A c) (Nat.add_sub_cancel_left 4 k.val)
theorem pay_send (k : Fin 4) {j : ℕ} (h : j < 15) : dmaPay A c (sendI k (dist j)).val = slotQ c (shareTokN fullShare j) c k.val (statG A) := by
  have hk := k.isLt
  have e : (sendI k (dist j)).val = 8 + 16 * k.val + (j + 1) := by
    show 8 + 16 * k.val + (j + 1) % 16 = _; omega
  rw [e, pay_mid' A c (by omega) (by omega), sendPay, show (8 + 16 * k.val + (j + 1) - 8) / 16 = k.val by omega,
    show (8 + 16 * k.val + (j + 1) - 8) % 16 - 1 = j by omega]
theorem pay_recv (k : Fin 4) (s : Dev nD) : dmaPay A c (recvI k s).val = slotQ c fullShare s k.val (statG A) := by
  have hs : s.val < 16 := s.isLt
  refine (pay_high A c (show 72 ≤ (recvI k s).val by show 72 ≤ 72 + 16 * k.val + s.val; omega)).trans ?_
  rw [recvPay]
  have e1 : ((recvI k s).val - 72) / 16 = k.val := by show (72 + 16 * k.val + s.val - 72) / 16 = k.val; omega
  have e2 : (⟨((recvI k s).val - 72) % 16, Nat.mod_lt _ (by decide)⟩ : Dev nD) = s :=
    Fin.ext (by show (72 + 16 * k.val + s.val - 72) % 16 = s.val; omega)
  rw [e1, e2]

end Tables

/-! ## Dues and levels -/

/-- Chunk number `n / 15`, and its place in the ring's order. -/
def chk (n : ℕ) : Fin 4 := ⟨n / 15 % 4, Nat.mod_lt _ (by decide)⟩

/-- The `i`-th thing device `c` gives to others: fifteen signals, then the fifteen copies of each chunk. -/
def payN (c : Dev nD) (i : ℕ) : CellTallies nD τ sig Unit :=
  if i < 15 then tallyAt (barCell (nxt c i)) () 1
  else tallyAt (ownCell (nxt c ((i - 15) % 15)) (recvI (chk (i - 15)) c)) () Nslot

/-- What device `c` still owes after the first `n`. -/
def owed (c : Dev nD) (n : ℕ) : CellTallies nD τ sig Unit := ∑ i ∈ Finset.Ico n 75, payN c i

theorem Ico_cons {n : ℕ} (h : n < 75) : Finset.Ico n 75 = insert n (Finset.Ico (n + 1) 75) := by
  ext i; simp only [Finset.mem_Ico, Finset.mem_insert]; omega
theorem owed_cons (c : Dev nD) {n : ℕ} (h : n < 75) : owed c n = owed c (n + 1) + payN c n := by
  unfold owed
  rw [Ico_cons h, Finset.sum_insert (by simp only [Finset.mem_Ico]; omega), add_comm]

theorem owed_end (c : Dev nD) : owed c 75 = 0 := by unfold owed; rw [Finset.Ico_self, Finset.sum_empty]
theorem owed_signal (c : Dev nD) {j : ℕ} (h : j < 15) : owed c j = owed c (j + 1) + tallyAt (barCell (nxt c j)) () 1 := by
  rw [owed_cons c (by omega), payN, if_pos h]
theorem owed_send (c : Dev nD) (k : Fin 4) {j : ℕ} (h : j < 15) :
    owed c (15 + 15 * k.val + j) = owed c (15 + 15 * k.val + (j + 1)) + tallyAt (ownCell (nxt c j) (recvI k c)) () Nslot := by
  have := k.isLt
  have e : chk (15 + 15 * k.val + j - 15) = k := Fin.ext (by show (15 + 15 * k.val + j - 15) / 15 % 4 = k.val; omega)
  rw [owed_cons c (by omega), payN, if_neg (by omega), show (15 + 15 * k.val + j - 15) % 15 = j by omega, e]
  rfl

def L (g : GSem nD τ sig) : Finset Unit := if g.1.2 = .tc then {()} else ∅
/-- Barrier cells at level 1, receipts at 2, everything else at 0. -/
def lv (g : GSem nD τ sig) (_ : Unit) : ℕ := match g.2 with | .reg _ => 1 | .dma q => if 74 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 4) (s : Fin 16) (u : Unit) : lv (ownCell c (recvI k s)) u = 2 := by
  dsimp only [lv, own, recvI]; exact if_pos (by omega)
theorem lv_low (c : Dev nD) (i : Fin 136) (h : i.val < 72) (u : Unit) : lv (ownCell c i) u = 0 := by
  dsimp only [lv, own]; exact if_neg (by omega)

theorem tally_pos {g g' : GSem nD τ sig} {u u' : Unit} {n : ℕ} (h : 0 < (tallyAt g u n : CellTallies nD τ sig Unit) g' u') : g' = g := by
  rw [tallyAt_apply] at h
  by_contra hne
  rw [if_neg (fun e => hne e.1)] at h; exact Nat.lt_irrefl 0 h

/-- Where a device owes anything. -/
theorem owed_pos {c : Dev nD} {n : ℕ} {g : GSem nD τ sig} {u : Unit} (h : 0 < owed c n g u) :
    (n < 15 ∧ ∃ p : Dev nD, g = barCell p) ∨ ∃ (p : Dev nD) (k : Fin 4), g = ownCell p (recvI k c) := by
  unfold owed at h
  rw [Finset.sum_apply, Finsupp.finset_sum_apply] at h
  obtain ⟨i, hi, hp⟩ := Finset.exists_ne_zero_of_sum_ne_zero (Nat.pos_iff_ne_zero.mp h)
  have hp := Nat.pos_of_ne_zero hp
  have hn := (Finset.mem_Ico.mp hi).1
  unfold payN at hp
  split at hp
  · exact .inl ⟨by omega, _, tally_pos hp⟩
  · exact .inr ⟨_, _, tally_pos hp⟩

theorem owed_mem {c : Dev nD} {n : ℕ} {g : GSem nD τ sig} {u : Unit} (h : 0 < owed c n g u) : u ∈ L g := by
  rcases owed_pos h with ⟨-, p, rfl⟩ | ⟨p, k, rfl⟩ <;> · rw [L_tc]; exact Finset.mem_singleton_self _

theorem mayWait_low (c : Dev nD) (i : Fin 136) (hi : i.val < 72) (n : ℕ) :
    (levAts L lv : sProp 𝕄) ⊢ MayWait (c : Thread nD τ) (own i) () (owed c n) :=
  MayOwe.of_cut (L := L) (lev := lv) 0 (fun p hp => by rw [Finset.mem_singleton.mp hp, L_tc]; exact Finset.mem_singleton_self _)
    (fun g u hg => owed_mem hg)
    (fun p hp => by rw [Finset.mem_singleton.mp hp]; exact (lv_low c i hi ()).le)
    (fun g u hg => by
      rcases owed_pos hg with ⟨-, p, rfl⟩ | ⟨p, k, rfl⟩
      · exact Nat.one_pos
      · rw [lv_recv]; decide)

theorem mayWait_bar (c : Dev nD) :
    (levAts L lv : sProp 𝕄) ⊢ MayWait (c : Thread nD τ) (.reg barS) () (owed c 15) :=
  MayOwe.of_cut (L := L) (lev := lv) 1 (fun p hp => by rw [Finset.mem_singleton.mp hp, L_tc]; exact Finset.mem_singleton_self _)
    (fun g u hg => owed_mem hg)
    (fun p hp => by rw [Finset.mem_singleton.mp hp]; exact le_refl 1)
    (fun g u hg => by
      rcases owed_pos hg with ⟨h, -⟩ | ⟨p, k, rfl⟩
      · exact absurd h (by decide)
      · rw [lv_recv]; decide)

end Cert.KernelIdeal.Talk

end
-- ==== Proof.Ideal.Steps.lean ====
/-
  One theorem for each kind of operation the kernel runs: what it needs, and what it leaves.
-/
module

public import proofs.«01_k».proof.Proof.Ideal.Protocol

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type} [FloatOps F]

local notation "𝕄" => MT nD τ sig Unit (Elt F) ℕ UU ℕ

abbrev 𝒱₀ : Variants := Variants.none

variable (A : Ins F)

/-! ## What every device may consult -/

/-- The levels of all cells. -/
def Levs : sProp 𝕄 := levAts L lv

instance Levs_persistent : BI.Persistent (Levs : sProp 𝕄) := by unfold Levs; infer_instance

theorem levs_low (c : Dev nD) (i : Fin 136) (hi : i.val < 72) (n : ℕ) : (Levs : sProp 𝕄) ⊢ MayWait (c : Thread nD τ) (own i) () (owed c n) := by
  unfold Levs; exact mayWait_low c i hi n
theorem levs_bar (c : Dev nD) : (Levs : sProp 𝕄) ⊢ MayWait (c : Thread nD τ) (.reg barS) () (owed c 15) := by
  unfold Levs; exact mayWait_bar c
theorem levs_zero (c : Dev nD) (i : Fin 136) : (Levs : sProp 𝕄) ⊢ MayWait (c : Thread nD τ) (own i) () (owed c 75) := by
  rw [owed_end, MayWait_zero]; iintro -; iempintro

/-- The records of the run: every cell's schedule, under the names `K`; that every barrier cell and each of device `c`'s
    own cells has its round open; the levels. -/
def Pers (K : GSem nD τ sig → ℕ) (c : Dev nD) : sProp 𝕄 :=
  iprop((bigSep Finset.univ fun p : Dev nD => cellInv ER (Rd A) (K (barCell p)) (barCell p))
    ∗ (bigSep Finset.univ fun p : Dev nD × Fin 136 => cellInv ER (Rd A) (K (ownCell p.1 p.2)) (ownCell p.1 p.2))
    ∗ (bigSep Finset.univ fun p : Dev nD => reached ER (barCell p) 0)
    ∗ (bigSep Finset.univ fun i : Fin 136 => reached ER (ownCell c i) 0)
    ∗ Levs)

instance Pers_persistent (K : GSem nD τ sig → ℕ) (c : Dev nD) : BI.Persistent (Pers A K c) := by unfold Pers; infer_instance

/-- One of many. -/
theorem bigSep_at {ι : Type} [Fintype ι] [DecidableEq ι] (Φ : ι → sProp 𝕄) (i : ι) : bigSep Finset.univ Φ ⊢ Φ i :=
  bigSep_elim (Finset.mem_univ i)

section Records

variable (K : GSem nD τ sig → ℕ) (c : Dev nD)

theorem inv_bar (p : Dev nD) : Pers A K c ⊢ cellInv ER (Rd A) (K (barCell p)) (barCell p) := by
  unfold Pers; iintro ⟨#H, -⟩
  iapply (bigSep_at (fun p : Dev nD => (cellInv ER (Rd A) (K (barCell p)) (barCell p) : sProp 𝕄)) p); iexact H
theorem inv_own (p : Dev nD) (i : Fin 136) : Pers A K c ⊢ cellInv ER (Rd A) (K (ownCell p i)) (ownCell p i) := by
  unfold Pers; iintro ⟨-, #H, -⟩
  iapply (bigSep_at (fun p : Dev nD × Fin 136 => (cellInv ER (Rd A) (K (ownCell p.1 p.2)) (ownCell p.1 p.2) : sProp 𝕄)) (p, i)); iexact H
theorem reached_bar (p : Dev nD) : Pers A K c ⊢ reached ER (barCell p) 0 := by
  unfold Pers; iintro ⟨-, -, #H, -⟩
  iapply (bigSep_at (fun p : Dev nD => (reached ER (barCell p) 0 : sProp 𝕄)) p); iexact H
theorem reached_own (i : Fin 136) : Pers A K c ⊢ reached ER (ownCell c i) 0 := by
  unfold Pers; iintro ⟨-, -, -, #H, -⟩
  iapply (bigSep_at (fun i : Fin 136 => (reached ER (ownCell c i) 0 : sProp 𝕄)) i); iexact H
theorem of_levs {X : sProp 𝕄} (h : (Levs : sProp 𝕄) ⊢ X) : Pers A K c ⊢ X := by
  refine BIBase.Entails.trans ?_ h
  unfold Pers; iintro ⟨-, -, -, -, #H⟩; iexact H

end Records

/-! ## Runs from one state to another -/

/-- Device `c`, holding `P`, runs `e` and holds `R` of the result. -/
def Tri (K : GSem nD τ sig → ℕ) (c : Dev nD) {α : Type} (P : sProp 𝕄) (e : Prog (TpuEff nD τ sig (Elt F) Λ₀ .tc) α) (R : α → sProp 𝕄) : Prop :=
  iprop(Pers A K c ∗ P) ⊢ wp Idealize.ShloMosaic.frame (wpE (defs₀ (F := F)) 𝒱₀ (c : Thread nD τ) none) Set.univ e R

variable {A} {K : GSem nD τ sig → ℕ} {c : Dev nD}

theorem Tri.seq {α β : Type} {P : sProp 𝕄} {e : Prog (TpuEff nD τ sig (Elt F) Λ₀ .tc) α} {R : α → sProp 𝕄}
    {f : α → Prog (TpuEff nD τ sig (Elt F) Λ₀ .tc) β} {Q : β → sProp 𝕄} (h : Tri A K c P e R) (h' : ∀ a, Tri A K c (R a) (f a) Q) :
    Tri A K c P (e >>= f) Q := by
  unfold Tri at *
  rw [wp_bind]
  have h2 : iprop(Pers A K c ∗ Pers A K c ∗ P) ⊢ wp Idealize.ShloMosaic.frame (wpE (defs₀ (F := F)) 𝒱₀ (c : Thread nD τ) none) Set.univ e
      (fun a => iprop(Pers A K c ∗ R a)) := (sep_mono_right h).trans (wp_frame_l _ _ _)
  refine BIBase.Entails.trans ?_ (h2.trans (wp_mono _ _ _ fun a => h' a))
  iintro ⟨#H, HP⟩
  isplitr; · iexact H
  isplitr; · iexact H
  iexact HP

theorem Tri.frame {α : Type} {P : sProp 𝕄} {e : Prog (TpuEff nD τ sig (Elt F) Λ₀ .tc) α} {R : α → sProp 𝕄} (h : Tri A K c P e R) (X : sProp 𝕄) :
    Tri A K c iprop(P ∗ X) e (fun a => iprop(R a ∗ X)) := by
  unfold Tri at *
  exact sep_assoc.2.trans ((sep_mono_left h).trans (wp_frame_r _ _ _))

theorem Tri.pre {α : Type} {P P' : sProp 𝕄} {e : Prog (TpuEff nD τ sig (Elt F) Λ₀ .tc) α} {R : α → sProp 𝕄} (h : Tri A K c P e R) (hp : P' ⊢ P) :
    Tri A K c P' e R := (sep_mono_right hp).trans h

theorem Tri.post {α : Type} {P : sProp 𝕄} {e : Prog (TpuEff nD τ sig (Elt F) Λ₀ .tc) α} {R R' : α → sProp 𝕄} (h : Tri A K c P e R) (hp : ∀ a, R a ⊢ R' a) :
    Tri A K c P e R' := BIBase.Entails.trans h (wp_mono _ _ _ hp)

theorem Tri.ret {α : Type} {R : α → sProp 𝕄} (a : α) : Tri A K c (R a) (pure a) R := by
  unfold Tri
  show _ ⊢ wp Idealize.ShloMosaic.frame _ Set.univ (.ret a) R
  rw [wp_ret]
  iintro ⟨-, H⟩; imodintro; iexact H

/-- A run of a program's head, inside a longer proof. -/
theorem Tri.step {α β : Type} {P : sProp 𝕄} {e : Prog (TpuEff nD τ sig (Elt F) Λ₀ .tc) α} {R : α → sProp 𝕄}
    {f : α → Prog (TpuEff nD τ sig (Elt F) Λ₀ .tc) β} {Q : β → sProp 𝕄} (h : Tri A K c P e R) :
    iprop(Pers A K c ∗ P) ⊢ iprop((∀ a, R a -∗ wp Idealize.ShloMosaic.frame (wpE (defs₀ (F := F)) 𝒱₀ (c : Thread nD τ) none) Set.univ (f a) Q)
      -∗ wp Idealize.ShloMosaic.frame (wpE (defs₀ (F := F)) 𝒱₀ (c : Thread nD τ) none) Set.univ (e >>= f) Q) := by
  rw [wp_bind]
  exact BIBase.Entails.trans h (wp_wand _ _ _)

/-! ## Dues -/

/-- What device `c` still owes after the first `n` of its gifts, its waits recorded. -/
def Ow (c : Dev nD) (n : ℕ) : sProp 𝕄 := iprop(∃ W, owes (c : Thread nD τ) (owed c n) W)

theorem Ow_intro (c : Dev nD) (n : ℕ) (W) : owes (c : Thread nD τ) (owed c n) W ⊢ (Ow c n : sProp 𝕄) := by
  unfold Ow; iintro H; iexists W; iexact H

theorem Ow_elim (c : Dev nD) (n : ℕ) : (Ow c n : sProp 𝕄) ⊢ iprop(∃ W, owes (c : Thread nD τ) (owed c n) W) := by
  unfold Ow; iintro H; iexact H

/-- Places in the run of a DMA semaphore: before its wait and after. -/
abbrev at0 (c : Dev nD) (i : Fin 136) : sProp 𝕄 := atPos ER (ownCell c i) 0 ∅ 0
abbrev at1 (c : Dev nD) (i : Fin 136) : sProp 𝕄 := atPos ER (ownCell c i) (0 + 1) ∅ 0
/-- The right to wait once for a copy, on a DMA semaphore. -/
abbrev crd (c : Dev nD) (i : Fin 136) (N : ℕ) : sProp 𝕄 := cred (tallyAt (ownCell c i) () N)

/-! ## Waits -/

/-- A wait on one of the device's own DMA semaphores. -/
theorem wait_dma (i : Fin 136) (n : ℕ) (hu : dmaUsed c i.val) (hl : (Levs : sProp 𝕄) ⊢ MayWait (c : Thread nD τ) (own i) () (owed c n))
    {sp sp' : Space} {s s' : Shape} {e e' : EltTy} {sem : DmaSem sig} {src : Memref sig .tc sp' s' e'} {κ' : Kind} {dst : Memref sig κ' sp s e}
    {hsrc : src.view.WordExact} {hdst : dst.view.WordExact} (hs : (SemLoc.dma sem : SemLoc sig) = own i) (hN : dst.view.dmaCredit = dmaAmt i.val) :
    Tri A K c iprop(crd c i (dmaAmt i.val) ∗ Ow c n ∗ at0 c i) (Prog.lift (.waitDma2 sem src dst hsrc hdst))
      (fun _ => iprop(Ow c n ∗ at1 c i ∗ dmaPay A c i.val)) := by
  unfold Tri
  rw [← hN]
  have hcell : ((c : Thread nD τ), SemLoc.dma sem) = ownCell c i := by rw [hs]
  iintro ⟨#HP, Hc, HO, Ha⟩
  ihave HO := (Ow_elim c _) $$ HO
  icases HO with ⟨%W, HO⟩
  iapply (Rounds.wp_wait_rest_token 𝒱₀ ER (Rd A) (c : Thread nD τ) none (κ := K (ownCell c i)) (sm := .dma sem)
      (wpE_waitDma2_eq (src := src) (dst := dst) 𝒱₀ (c : Thread nD τ) none Set.univ) (Set.mem_univ _) () (O := owed c n) (W := W) (R := 0) (m := 0) (T := ∅)
      (by rw [hcell, expect_own A c i hu, Nat.zero_add, hN])) $$ [Hc HO Ha]
  · rw [hcell]
    isplitr; · iapply (inv_own A K c c i); iexact HP
    isplitl [Hc]; · iexact Hc
    isplitl [HO]; · iexact HO
    isplitr
    · rw [hs]; iapply (of_levs A K c hl); iexact HP
    iexact Ha
  rw [hcell, rest_own A c i hu]
  iintro ⟨HO, Ha, -, Hp⟩
  rw [wp_ret]
  imodintro
  isplitl [HO]; · iapply (Ow_intro c _ _); iexact HO
  isplitl [Ha]; · iexact Ha
  iexact Hp

/-- The barrier wait: fifteen signals, with the others' slots. -/
theorem wait_bar {w : ℤ} (hw : w = 15) :
    Tri A K c iprop(cred (tallyAt (barCell c) () 15) ∗ Ow c 15 ∗ atPos ER (barCell c) 0 ∅ 0) (semWaitWord barS 15#32)
      (fun _ => iprop(Ow c 15 ∗ atPos ER (barCell c) (0 + 1) ∅ 0 ∗ bigSep (Finset.range 15) fun j => barPay c (nxt c j))) := by
  unfold Tri
  iintro ⟨#HP, Hc, HO, Ha⟩
  ihave HO := (Ow_elim c _) $$ HO
  icases HO with ⟨%W, HO⟩
  iapply (Rounds.wp_wait_rest_token 𝒱₀ ER (Rd A) (c : Thread nD τ) none (κ := K (barCell c))
      (wpE_semWait_eq 𝒱₀ (c : Thread nD τ) none Set.univ) (Set.mem_univ _) () (O := owed c 15) (W := W) (R := 0) (m := 0) (T := ∅)
      ((Nat.zero_add 15).trans (expect_bar A c).symm)) $$ [Hc HO Ha]
  · isplitr; · iapply (inv_bar A K c c); iexact HP
    isplitl [Hc]; · iexact Hc
    isplitl [HO]; · iexact HO
    isplitr; · iapply (of_levs A K c (levs_bar c)); iexact HP
    iexact Ha
  rw [rest_bar A c]
  iintro ⟨HO, Ha, -, Hp⟩
  rw [wp_ret]
  imodintro
  isplitl [HO]; · iapply (Ow_intro c _ _); iexact HO
  isplitl [Ha]; · iexact Ha
  iexact Hp

/-! ## Signals -/

/-- What device `c` needs for its `j`-th signal, to the device `j + 1` places ahead. -/
def SigRes (c : Dev nD) (j : ℕ) : sProp 𝕄 :=
  iprop(dutyTok ER (barCell (nxt c j)) 0 c ∗ bigSep Finset.univ fun k : Fin 4 => slotE c (nxt c j) k.val)

theorem ne_nxt (c : Dev nD) {j : ℕ} (h : j < 15) : c ∈ (Finset.univ.erase (nxt c j) : Finset (Dev nD)) :=
  Finset.mem_erase.mpr ⟨fun e => nxt_ne c h e.symm, Finset.mem_univ _⟩

theorem signal_step (j : ℕ) (hj : j < 15) {d : ℕ} {hd : d < nD} (e : d = (c.val + (j + 1)) % 16) :
    Tri A K c iprop(SigRes c j ∗ Ow c j) (semSignalWord (⟨d, hd⟩ : Dev nD) barS 1#32) (fun _ => Ow c (j + 1)) := by
  have hn : (⟨d, hd⟩ : Dev nD) = nxt c j := Fin.ext (by show d = (c.val + j + 1) % 16; rw [e, Nat.add_assoc])
  rw [hn]
  unfold Tri SigRes
  iintro ⟨#HP, ⟨Ht, Hs⟩, HO⟩
  ihave HO := (Ow_elim c _) $$ HO
  icases HO with ⟨%W, HO⟩
  iapply (Rounds.wp_signal 𝒱₀ ER (Rd A) (c : Thread nD τ) none (dst := (nxt c j : Thread nD τ)) (sem := barS) (r := 0) (d := c) (κ := K (barCell (nxt c j)))
      (by rw [duties_bar]; exact ne_nxt c hj) (amount_bar A (nxt c j) c) () (owed c (j + 1)) (owed_signal c hj)) $$ [HO Ht Hs]
  · isplitr; · iapply (inv_bar A K c (nxt c j)); iexact HP
    isplitl [HO]; · iexact HO
    isplitl [Ht]; · iexact Ht
    isplitl [Hs]
    · rw [payload_bar]; unfold barPay
      iapply (bigSep_with_persistent (R := Pers A K c) (Φ := fun k : Fin 4 => (slotE c (nxt c j) k.val : sProp 𝕄)) fun k _ => by
        iintro ⟨#HP, Hs⟩
        isplitl [Hs]; · iexact Hs
        iapply (reached_own A K c (recvI k (nxt c j))); iexact HP)
      isplitr; · iexact HP
      iexact Hs
    · iapply (reached_bar A K c (nxt c j)); iexact HP
  iintro HO
  rw [wp_ret]
  imodintro
  iapply (Ow_intro c _ _); iexact HO

end Cert.KernelIdeal.Talk

end
-- ==== Proof.Ideal.Moves.lean ====
/-
  The operations that move data: loads, stores, local copies, remote copies and the waits for them.
-/
module

public import proofs.«01_k».proof.Proof.Ideal.Steps

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type} [FloatOps F]

local notation "𝕄" => MT nD τ sig Unit (Elt F) ℕ UU ℕ

variable {A : Ins F} {K : GSem nD τ sig → ℕ} {c : Dev nD}

abbrev M0 : Memref sig .tc .hbm S2048x1024 .f32 := Memref.whole main_arg0
abbrev M3 : Memref sig .tc .hbm S2048x1024 .f32 := Memref.whole main_v3
abbrev M4 : Memref sig .tc .vmem S2048x1024 .f32 := Memref.whole cc0_scratch0
abbrev M5 : Memref sig .tc .vmem S16x4x8x128 .f32 := Memref.whole cc0_scratch1

/-- Row chunk of a 2048×1024 array, and a slot of the statistics buffer, as the program names them. -/
abbrev rowsOf {sp : Space} (m : Memref sig .tc sp S2048x1024 .f32) (off : Fin 2 → Nat) (h : ∀ a, off a + S512x1024.size a ≤ S2048x1024.size a) :=
  m.slice (Rect.unit (s := S2048x1024) off S512x1024.size h) (fun _ => rfl)
abbrev slotOf (off : Fin 4 → Nat) (h : ∀ a, off a + S1x1x8x128.size a ≤ S16x4x8x128.size a) :=
  (M5.slice (Rect.unit (s := S16x4x8x128) off S1x1x8x128.size h) (fun _ => rfl)).squeeze S8x128 squeezes_S1x1x8x128_S8x128

theorem set_rows0 (k : ℕ) {off : Fin 2 → Nat} (h : ∀ a, off a + S512x1024.size a ≤ S2048x1024.size a) (e : off = ![512 * k, 0]) :
    (rowsOf M0 off h).view.set = rowSet k := (View.set_slice_whole _ _).trans (rect_rows k h e)
theorem set_rows3 (k : ℕ) {off : Fin 2 → Nat} (h : ∀ a, off a + S512x1024.size a ≤ S2048x1024.size a) (e : off = ![512 * k, 0]) :
    (rowsOf M3 off h).view.set = rowSet k := (View.set_slice_whole _ _).trans (rect_rows k h e)
theorem set_rows4 (k : ℕ) {off : Fin 2 → Nat} (h : ∀ a, off a + S512x1024.size a ≤ S2048x1024.size a) (e : off = ![512 * k, 0]) :
    (rowsOf M4 off h).view.set = rowSet k := (View.set_slice_whole _ _).trans (rect_rows k h e)
theorem set_slotOf (s k : ℕ) {off : Fin 4 → Nat} (h : ∀ a, off a + S1x1x8x128.size a ≤ S16x4x8x128.size a) (e : off = ![s, k, 0, 0]) :
    (slotOf off h).view.set = slotSet s k := (set_squeeze_slice _ _ _ _ _).trans (rect_slot s k h e)

theorem credit_rows4 (off : Fin 2 → Nat) (h : ∀ a, off a + S512x1024.size a ≤ S2048x1024.size a) : (rowsOf M4 off h).view.dmaCredit = Nin := rfl
theorem credit_rows3 (off : Fin 2 → Nat) (h : ∀ a, off a + S512x1024.size a ≤ S2048x1024.size a) : (rowsOf M3 off h).view.dmaCredit = Nout := rfl
theorem credit_slot (off : Fin 4 → Nat) (h : ∀ a, off a + S1x1x8x128.size a ≤ S16x4x8x128.size a) : (slotOf off h).view.dmaCredit = Nslot := rfl

section Generic
variable {κ κ' : Kind} {sp sp' : Space} {s : Shape} {e : EltTy}
/-- A view written with what another view reads holds the contents that read the same. -/
theorem copied (c : Thread nD τ) (v : View sig c.2.kind sp s e) (v' : View sig κ' sp' s e) (q : PosShare TreeShare) (g f : Buf (Elt F) (v.loc c)) (f' : v'.ty.Contents (Elt F))
    (hr : v'.read (Elt F) f' = v.read (Elt F) f) :
    (v.loc c ↦[v.set]{q} v.write (Elt F) g (v'.read (Elt F) f') Finset.univ : sProp 𝕄) = (v.loc c ↦[v.set]{q} f) := by
  rw [hr]; exact pointsTo_congr fun i hi => write_read_self v g f i hi
/-- The same for a written value that is what the view reads of `f`. -/
theorem stored (c : Thread nD τ) (v : View sig c.2.kind sp s e) (q : PosShare TreeShare) (g f : Buf (Elt F) (v.loc c)) (w : s.Idx → Elt F e)
    (hr : w = v.read (Elt F) f) :
    (v.loc c ↦[v.set]{q} v.write (Elt F) g w Finset.univ : sProp 𝕄) = (v.loc c ↦[v.set]{q} f) := by
  rw [hr]; exact pointsTo_congr fun i hi => write_read_self v g f i hi
end Generic

theorem in_copied (c : Dev nD) (k : ℕ) {off : Fin 2 → Nat} {h : ∀ a, off a + S512x1024.size a ≤ S2048x1024.size a} (e : off = ![512 * k, 0]) (g f : S2048x1024.Idx → Elt F .f32) :
    ((rowsOf M4 off h).view.loc (c : Thread nD τ) ↦[(rowsOf M4 off h).view.set]{fullShare} (rowsOf M4 off h).view.write (Elt F) g ((rowsOf M0 off h).view.read (Elt F) f) Finset.univ : sProp 𝕄) = xvP c k f := by
  refine (copied (c : Thread nD τ) (rowsOf M4 off h).view (rowsOf M0 off h).view fullShare g f f rfl).trans ?_
  rw [set_rows4 k h e]
theorem out_copied (c : Dev nD) (k : ℕ) {off : Fin 2 → Nat} {h : ∀ a, off a + S512x1024.size a ≤ S2048x1024.size a} (e : off = ![512 * k, 0]) (g f : S2048x1024.Idx → Elt F .f32) :
    ((rowsOf M3 off h).view.loc (c : Thread nD τ) ↦[(rowsOf M3 off h).view.set]{fullShare} (rowsOf M3 off h).view.write (Elt F) g ((rowsOf M4 off h).view.read (Elt F) f) Finset.univ : sProp 𝕄) = resP c k f := by
  refine (copied (c : Thread nD τ) (rowsOf M3 off h).view (rowsOf M4 off h).view fullShare g f f rfl).trans ?_
  rw [set_rows3 k h e]
theorem slot_copied (c p : Dev nD) (k : ℕ) {off : Fin 4 → Nat} {h : ∀ a, off a + S1x1x8x128.size a ≤ S16x4x8x128.size a} (e : off = ![c.val, k, 0, 0]) (g f : S16x4x8x128.Idx → Elt F .f32) :
    ((slotOf off h).view.loc (p : Thread nD τ) ↦[(slotOf off h).view.set]{fullShare} (slotOf off h).view.write (Elt F) g ((slotOf off h).view.read (Elt F) f) Finset.univ : sProp 𝕄) = slotQ p fullShare c k f := by
  refine (copied (p : Thread nD τ) (slotOf off h).view (slotOf off h).view fullShare g f f rfl).trans ?_
  rw [set_slotOf c.val k h e]

/-- The statistics of device `s` and chunk `k`, at any index of their slot. -/
theorem statG_at (A : Ins F) (s : Dev nD) (k : Fin 4) (i : S16x4x8x128.Idx) (j : S1x1x8x128.Idx) (h0 : (i 0).val = s.val) (h1 : (i 1).val = k.val)
    (h2 : (i 2).val = (j 2).val) (h3 : (i 3).val = (j 3).val) : statG A i = k0_pay1 (chunkOf (A.x s) k) j := by
  have e0 : (⟨(i 0).val, (i 0).isLt⟩ : Dev nD) = s := Fin.ext h0
  have e1 : (⟨(i 1).val, (i 1).isLt⟩ : Fin 4) = k := Fin.ext h1
  have e2 : ((fun | 0 => ⟨0, Nat.one_pos⟩ | 1 => ⟨0, Nat.one_pos⟩ | 2 => ⟨(i 2).val, (i 2).isLt⟩ | 3 => ⟨(i 3).val, (i 3).isLt⟩) : S1x1x8x128.Idx) = j := by
    funext a
    match a with
    | 0 => exact Fin.ext (Nat.lt_one_iff.mp (j 0).isLt).symm
    | 1 => exact Fin.ext (Nat.lt_one_iff.mp (j 1).isLt).symm
    | 2 => exact Fin.ext h2
    | 3 => exact Fin.ext h3
  unfold statG
  exact (congrArg (fun p : Dev nD => k0_pay1 (chunkOf (A.x p) _) _) e0).trans ((congrArg (fun q : Fin 4 => k0_pay1 (chunkOf (A.x s) q) _) e1).trans (congrArg _ e2))

/-! ## Local copies -/

/-- The copy of chunk `k` of x into the working buffer. -/
theorem in_start (k : Fin 4) {off : Fin 2 → Nat} {h : ∀ a, off a + S512x1024.size a ≤ S2048x1024.size a} (e : off = ![512 * k.val, 0])
    {sem : DmaSem sig} (hs : (SemLoc.dma sem : SemLoc sig) = own (inI k))
    {hsrc : (rowsOf M0 off h).view.WordExact} {hdst : (rowsOf M4 off h).view.WordExact} {hsem} :
    Tri A K c iprop(argP A c k.val ∗ (∃ f, xvP c k.val f) ∗ dutyTok ER (ownCell c (inI k)) 0 0)
      (Prog.lift (.enqueueDma (rowsOf M0 off h) (.here (rowsOf M4 off h)) (.dma sem) hsrc hdst hsem))
      (fun _ => crd c (inI k) (dmaAmt (inI k).val)) := by
  have hcell : ((c : Thread nD τ), SemLoc.dma sem) = ownCell c (inI k) := by rw [hs]
  have ha : (argP A c k.val : sProp 𝕄) = ((rowsOf M0 off h).view.loc (c : Thread nD τ) ↦[(rowsOf M0 off h).view.set]{fullShare} A.x c) := by
    rw [set_rows0 k.val h e]
  have hx : ∀ f, (xvP c k.val f : sProp 𝕄) = ((rowsOf M4 off h).view.loc (c : Thread nD τ) ↦[(rowsOf M4 off h).view.set]{fullShare} f) := by
    intro f; rw [set_rows4 k.val h e]
  unfold Tri
  iintro ⟨#HP, Ha, ⟨%f, Hx⟩, Ht⟩
  iapply (Rounds.wp_copy_pointsTo 𝒱₀ ER (Rd A) (c : Thread nD τ) none (src := rowsOf M0 off h) (dst := rowsOf M4 off h) (sem := .dma sem) (q := fullShare)
      (fs := A.x c) (fd := f) (r := 0) (d := 0) (κ := K (ownCell c (inI k)))
      (by rw [hcell, duties_own A c _ (used_in c k)]; exact Finset.mem_singleton_self _) () (dmaAmt (inI k).val) (by rw [amt_in]; exact credit_rows4 off h)
      (by rw [hcell, amount_own]) (by
        rw [hcell, payload_own, pay_in, inPay, in_copied c k.val e, ha])) $$ [Ha Hx Ht]
  · rw [hcell, ← ha, ← hx]
    isplitr; · iapply (inv_own A K c c _); iexact HP
    isplitl [Ha]; · iexact Ha
    isplitl [Hx]; · iexact Hx
    isplitl [Ht]; · iexact Ht
    iapply (reached_own A K c _); iexact HP
  rw [hcell]
  iintro Hc
  rw [wp_ret]
  imodintro
  iexact Hc

/-- The copy of the normalised chunk `k` into the result. -/
theorem out_start (k : Fin 4) {off : Fin 2 → Nat} {h : ∀ a, off a + S512x1024.size a ≤ S2048x1024.size a} (e : off = ![512 * k.val, 0])
    {sem : DmaSem sig} (hs : (SemLoc.dma sem : SemLoc sig) = own (outI k))
    {hsrc : (rowsOf M4 off h).view.WordExact} {hdst : (rowsOf M3 off h).view.WordExact} {hsem} :
    Tri A K c iprop(xvP c k.val (outG A c) ∗ (∃ f, resP c k.val f) ∗ dutyTok ER (ownCell c (outI k)) 0 0)
      (Prog.lift (.enqueueDma (rowsOf M4 off h) (.here (rowsOf M3 off h)) (.dma sem) hsrc hdst hsem))
      (fun _ => crd c (outI k) (dmaAmt (outI k).val)) := by
  have hcell : ((c : Thread nD τ), SemLoc.dma sem) = ownCell c (outI k) := by rw [hs]
  have ha : (xvP c k.val (outG A c) : sProp 𝕄) = ((rowsOf M4 off h).view.loc (c : Thread nD τ) ↦[(rowsOf M4 off h).view.set]{fullShare} outG A c) := by
    rw [set_rows4 k.val h e]
  have hx : ∀ f, (resP c k.val f : sProp 𝕄) = ((rowsOf M3 off h).view.loc (c : Thread nD τ) ↦[(rowsOf M3 off h).view.set]{fullShare} f) := by
    intro f; rw [set_rows3 k.val h e]
  unfold Tri
  iintro ⟨#HP, Ha, ⟨%f, Hx⟩, Ht⟩
  iapply (Rounds.wp_copy_pointsTo 𝒱₀ ER (Rd A) (c : Thread nD τ) none (src := rowsOf M4 off h) (dst := rowsOf M3 off h) (sem := .dma sem) (q := fullShare)
      (fs := outG A c) (fd := f) (r := 0) (d := 0) (κ := K (ownCell c (outI k)))
      (by rw [hcell, duties_own A c _ (used_out c k)]; exact Finset.mem_singleton_self _) () (dmaAmt (outI k).val) (by rw [amt_out]; exact credit_rows3 off h)
      (by rw [hcell, amount_own]) (by
        rw [hcell, payload_own, pay_out, outPay, out_copied c k.val e, ha])) $$ [Ha Hx Ht]
  · rw [hcell, ← ha, ← hx]
    isplitr; · iapply (inv_own A K c c _); iexact HP
    isplitl [Ha]; · iexact Ha
    isplitl [Hx]; · iexact Hx
    isplitl [Ht]; · iexact Ht
    iapply (reached_own A K c _); iexact HP
  rw [hcell]
  iintro Hc
  rw [wp_ret]
  imodintro
  iexact Hc

/-! ## Loads and stores -/

/-- A load of chunk `k` of the working buffer. -/
theorem load_rows (k : Fin 4) (f : S2048x1024.Idx → Elt F .f32) {off : Fin 2 → Nat} {h : ∀ a, off a + S512x1024.size a ≤ S2048x1024.size a} (e : off = ![512 * k.val, 0])
    {hl : M4.view.LoadsAt (Rect.unit (s := S2048x1024) off S512x1024.size h).toLoadRect} :
    Tri A K c (xvP c k.val f) (Prog.lift (.load M4 (Rect.unit (s := S2048x1024) off S512x1024.size h).toLoadRect hl))
      (fun v => iprop(⌜v = chunkOf f k⌝ ∗ xvP c k.val f)) := by
  have hset : (M4.access (Rect.unit (s := S2048x1024) off S512x1024.size h)).set = rowSet k.val := set_rows4 k.val h e
  unfold Tri
  iintro ⟨-, Hx⟩
  iapply (wp_load_rect 𝒱₀ (c : Thread nD τ) none Set.univ (m := M4) (r := Rect.unit (s := S2048x1024) off S512x1024.size h) (S := rowSet k.val) (q := fullShare) (f := f)
    (by rw [hset])) $$ [Hx]
  · iexact Hx
  iintro Hx
  rw [wp_ret]
  imodintro
  isplitr
  · ipureintro; subst e; rfl
  iexact Hx

/-- A load of a slot, whose value the program does not use. -/
theorem load_slot (k : Fin 4) {off : Fin 4 → Nat} {h : ∀ a, off a + S1x1x8x128.size a ≤ S16x4x8x128.size a} (e : off = ![c.val, k.val, 0, 0])
    {hl : M5.view.LoadsAt (Rect.unit (s := S16x4x8x128) off S1x1x8x128.size h).toLoadRect} :
    Tri A K c (slotE c c k.val) (Prog.lift (.load M5 (Rect.unit (s := S16x4x8x128) off S1x1x8x128.size h).toLoadRect hl))
      (fun _ => slotE c c k.val) := by
  have hset : (M5.access (Rect.unit (s := S16x4x8x128) off S1x1x8x128.size h)).set = slotSet c.val k.val := (View.set_slice_whole _ _).trans (rect_slot _ _ h e)
  unfold Tri
  iintro ⟨-, ⟨%f, Hx⟩⟩
  iapply (wp_load_rect 𝒱₀ (c : Thread nD τ) none Set.univ (m := M5) (r := Rect.unit (s := S16x4x8x128) off S1x1x8x128.size h) (S := slotSet c.val k.val) (q := fullShare) (f := f)
    (by rw [hset])) $$ [Hx]
  · iexact Hx
  iintro Hx
  rw [wp_ret]
  imodintro
  iexists f
  iexact Hx

/-- The device's own statistics of chunk `k` go into its slot. -/
theorem store_slot (k : Fin 4) {off : Fin 4 → Nat} {h : ∀ a, off a + S1x1x8x128.size a ≤ S16x4x8x128.size a} (e : off = ![c.val, k.val, 0, 0])
    {w : S1x1x8x128.Idx → Elt F .f32} (hw : w = k0_pay1 (chunkOf (A.x c) k))
    {hx : (M5.access (Rect.unit (s := S16x4x8x128) off S1x1x8x128.size h)).Stores Finset.univ} {hm} :
    Tri A K c (slotE c c k.val) (Prog.lift (.store M5 (Rect.unit (s := S16x4x8x128) off S1x1x8x128.size h) w Finset.univ hx hm))
      (fun _ => slotQ c fullShare c k.val (statG A)) := by
  have hset : (M5.access (Rect.unit (s := S16x4x8x128) off S1x1x8x128.size h)).set = slotSet c.val k.val := (View.set_slice_whole _ _).trans (rect_slot _ _ h e)
  have hread : w = (M5.access (Rect.unit (s := S16x4x8x128) off S1x1x8x128.size h)).read (Elt F) (statG A) := by
    refine Eq.trans ?_ (show (fun j => statG A ((Rect.unit (s := S16x4x8x128) off S1x1x8x128.size h).emb j)) = _ from rfl)
    subst hw e
    funext j
    refine (statG_at A c k _ j ?_ ?_ ?_ ?_).symm
    · rw [Rect.emb_apply]; show c.val + 1 * (j 0).val = c.val; have : (j 0).val < 1 := (j 0).isLt; omega
    · rw [Rect.emb_apply]; show k.val + 1 * (j 1).val = k.val; have : (j 1).val < 1 := (j 1).isLt; omega
    · rw [Rect.emb_apply]; show 0 + 1 * (j 2).val = _; omega
    · rw [Rect.emb_apply]; show 0 + 1 * (j 3).val = _; omega
  have hst : ∀ f, ((M5.access (Rect.unit (s := S16x4x8x128) off S1x1x8x128.size h)).loc (c : Thread nD τ) ↦[slotSet c.val k.val]{fullShare}
      (M5.access (Rect.unit (s := S16x4x8x128) off S1x1x8x128.size h)).write (Elt F) f w Finset.univ : sProp 𝕄) = slotQ c fullShare c k.val (statG A) := by
    intro f
    rw [← hset]
    exact (stored (c : Thread nD τ) (M5.access (Rect.unit (s := S16x4x8x128) off S1x1x8x128.size h)) fullShare f (statG A) w hread).trans (by rw [hset])
  unfold Tri
  iintro ⟨-, ⟨%f, Hx⟩⟩
  iapply (wp_store 𝒱₀ (c : Thread nD τ) none Set.univ (m := M5) (r := Rect.unit (s := S16x4x8x128) off S1x1x8x128.size h) (w := w) (Mk := Finset.univ) (S := slotSet c.val k.val) (f := f)
    (by rw [← hset]; exact subset_rfl)) $$ [Hx]
  · iexact Hx
  rw [hst]
  iintro Hx
  rw [wp_ret]
  imodintro
  iexact Hx

end Cert.KernelIdeal.Talk

end
-- ==== Proof.Ideal.Traffic.lean ====
module

public import proofs.«01_k».proof.Proof.Ideal.Moves

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type} [FloatOps F]

local notation "𝕄" => MT nD τ sig Unit (Elt F) ℕ UU ℕ

variable {A : Ins F} {K : GSem nD τ sig → ℕ} {c : Dev nD}

theorem bigSep_insert' {ι : Type} [DecidableEq ι] {i : ι} {s : Finset ι} (h : i ∉ s) {Φ : ι → sProp 𝕄} :
    bigSep (insert i s) Φ = iprop(Φ i ∗ bigSep s Φ) := BI.bigSep_insert h
theorem bigSep_erase' {ι : Type} [DecidableEq ι] {i : ι} {s : Finset ι} (h : i ∈ s) {Φ : ι → sProp 𝕄} :
    bigSep s Φ = iprop(Φ i ∗ bigSep (s.erase i) Φ) := BI.bigSep_erase h
theorem bigSep_next {j : ℕ} (h : j < 15) (Φ : ℕ → sProp 𝕄) :
    bigSep (Finset.Ico j 15) Φ = iprop(Φ j ∗ bigSep (Finset.Ico (j + 1) 15) Φ) := by
  rw [show Finset.Ico j 15 = insert j (Finset.Ico (j + 1) 15) by ext x; simp only [Finset.mem_Ico, Finset.mem_insert]; omega]
  exact bigSep_insert' (by simp only [Finset.mem_Ico]; omega)
theorem range_top (j : ℕ) (Φ : ℕ → sProp 𝕄) : bigSep (Finset.range (j + 1)) Φ = iprop(Φ j ∗ bigSep (Finset.range j) Φ) := by
  rw [Finset.range_add_one, bigSep_insert' Finset.notMem_range_self]
theorem range_none (Φ : ℕ → sProp 𝕄) : (bigSep (Finset.range 0) Φ : sProp 𝕄) = BI.emp := by rw [Finset.range_zero, BI.bigSep_empty]
theorem Ico_none (Φ : ℕ → sProp 𝕄) : (bigSep (Finset.Ico 15 15) Φ : sProp 𝕄) = BI.emp := by rw [Finset.Ico_self, BI.bigSep_empty]
theorem Ico_all (Φ : ℕ → sProp 𝕄) : (bigSep (Finset.Ico 0 15) Φ : sProp 𝕄) = bigSep (Finset.range 15) Φ := by rw [Finset.range_eq_Ico]

/-! ## Signals -/

/-- Before the `j`-th of the device's signals. -/
def SigS (c : Dev nD) (j : ℕ) : sProp 𝕄 := iprop(bigSep (Finset.Ico j 15) (SigRes c) ∗ Ow c j)

theorem sig_step (j : ℕ) (hj : j < 15) {d : ℕ} {hd : d < nD} (e : d = (c.val + (j + 1)) % 16) :
    Tri A K c (SigS c j) (semSignalWord (⟨d, hd⟩ : Dev nD) barS 1#32) (fun _ => SigS c (j + 1)) := by
  refine ((signal_step j hj e).frame (bigSep (Finset.Ico (j + 1) 15) (SigRes c))).pre ?_ |>.post fun _ => ?_
  · unfold SigS; rw [bigSep_next hj]
    iintro ⟨⟨H, Hr⟩, HO⟩
    isplitr [Hr]
    · isplitl [H] <;> iassumption
    iexact Hr
  · unfold SigS
    iintro ⟨HO, Hr⟩
    isplitl [Hr] <;> iassumption

/-! ## Remote copies -/

/-- What the copy of chunk `k` to the device `j + 1` places ahead needs, beside a share of the own slot. -/
def SndRes (c : Dev nD) (k : Fin 4) (j : ℕ) : sProp 𝕄 :=
  iprop(slotE (nxt c j) c k.val ∗ reached ER (ownCell (nxt c j) (recvI k c)) 0 ∗ dutyTok ER (ownCell (nxt c j) (recvI k c)) 0 0
    ∗ dutyTok ER (ownCell c (sendI k (dist j))) 0 0)

variable (A) in
/-- Before the `j`-th of the device's copies of chunk `k`. -/
def SndS (c : Dev nD) (k : Fin 4) (j : ℕ) : sProp 𝕄 :=
  iprop(bigSep (Finset.Ico j 15) (SndRes c k) ∗ bigSep (Finset.range j) (fun i => crd c (sendI k (dist i)) (dmaAmt (sendI k (dist i)).val))
    ∗ slotQ c (shareDrop fullShare j) c k.val (statG A) ∗ Ow c (15 + 15 * k.val + j))

theorem share_one (c s : Dev nD) (k j : ℕ) (f : S16x4x8x128.Idx → Elt F .f32) :
    (slotQ c (shareDrop fullShare j) s k f : sProp 𝕄) ⊣⊢ iprop(slotQ c (shareDrop fullShare (j + 1)) s k f ∗ slotQ c (shareTokN fullShare j) s k f) :=
  pointsTo_share (PosShare.mem_left_op_right _)

theorem send_to (k : Fin 4) (j : ℕ) (hj : j < 15) {p : Dev nD} (hp : p = nxt c j)
    {off : Fin 4 → Nat} {h : ∀ a, off a + S1x1x8x128.size a ≤ S16x4x8x128.size a} (e : off = ![c.val, k.val, 0, 0])
    {semS semR : DmaSem sig} (hsS : (SemLoc.dma semS : SemLoc sig) = own (sendI k (dist j))) (hsR : (SemLoc.dma semR : SemLoc sig) = own (recvI k c))
    {hsc hsrc hdst hsem} :
    Tri A K c (SndS A c k j)
      (Prog.lift (.enqueueDma (slotOf off h) (.remote (Dev.tc p) (slotOf off h) (.dma semS) hsc) (.dma semR) hsrc hdst hsem))
      (fun _ => SndS A c k (j + 1)) := by
  subst hp
  have hcS : ((c : Thread nD τ), SemLoc.dma semS) = ownCell c (sendI k (dist j)) := by rw [hsS]
  have hcR : ((nxt c j : Thread nD τ), SemLoc.dma semR) = ownCell (nxt c j) (recvI k c) := by rw [hsR]
  have hset : (slotOf off h).view.set = slotSet c.val k.val := set_slotOf c.val k.val h e
  have hown : ∀ q, (slotQ c q c k.val (statG A) : sProp 𝕄) = ((slotOf off h).view.loc (c : Thread nD τ) ↦[(slotOf off h).view.set]{q} statG A) := by
    intro q; rw [hset]
  have hdst' : ∀ f, (slotQ (nxt c j) fullShare c k.val f : sProp 𝕄) = ((slotOf off h).view.loc (nxt c j : Thread nD τ) ↦[(slotOf off h).view.set]{fullShare} f) := by
    intro f; rw [hset]
  unfold Tri SndS
  rw [bigSep_next hj, range_top, SndRes]
  iintro ⟨#HP, ⟨⟨⟨%f, Hd⟩, #Hr, HtR, HtS⟩, Hrest⟩, Hcr, Hs, HO⟩
  ihave HO := (Ow_elim c _) $$ HO
  icases HO with ⟨%W, HO⟩
  ihave Hs := (share_one c c k.val j (statG A)).1 $$ Hs
  icases Hs with ⟨Hkeep, Hs⟩
  iapply (Rounds.wp_send_pointsTo 𝒱₀ ER (Rd A) (c : Thread nD τ) none (c' := (nxt c j : Thread nD τ)) (src := slotOf off h) (dst := slotOf off h)
      (sS := .dma semS) (sem := .dma semR) (q := shareTokN fullShare j) (fs := statG A) (fd := f)
      (κ₁ := K (ownCell c (sendI k (dist j)))) (κ₂ := K (ownCell (nxt c j) (recvI k c))) (r₁ := 0) (r₂ := 0) (d₁ := 0) (d₂ := 0)
      (by rw [hcS, duties_own A c _ (used_send c k hj)]; exact Finset.mem_singleton_self _)
      (by rw [hcR, duties_own A (nxt c j) _ (used_recv (nxt c j) k (fun e => nxt_ne c hj e.symm))]; exact Finset.mem_singleton_self _)
      () () Nslot (credit_slot off h) (by rw [hcS, amount_own, amt_send]) (by rw [hcR, amount_own, amt_recv])
      (O₀ := owed c (15 + 15 * k.val + j)) (owed c (15 + 15 * k.val + (j + 1))) (by rw [hcR]; exact owed_send c k hj) (W := W)
      (by rw [hcS, payload_own, pay_send A c k hj, hown])
      (by rw [hcR, payload_own, pay_recv, slot_copied c (nxt c j) k.val e])) $$ [Hd HtR HtS Hs HO]
  · rw [hcS, hcR, ← hown, ← hdst']
    isplitr; · iapply (inv_own A K c c _); iexact HP
    isplitr; · iapply (inv_own A K c (nxt c j) _); iexact HP
    isplitl [Hs]; · iexact Hs
    isplitl [Hd]; · iexact Hd
    isplitl [HO]; · iexact HO
    isplitl [HtS]; · iexact HtS
    isplitr; · iapply (reached_own A K c _); iexact HP
    isplitl [HtR]; · iexact HtR
    iexact Hr
  rw [hcS]
  iintro ⟨Hc, HO⟩
  rw [wp_ret]
  imodintro
  isplitl [Hrest]; · iexact Hrest
  isplitl [Hcr Hc]
  · isplitl [Hc]
    · rw [amt_send]; iexact Hc
    iexact Hcr
  isplitl [Hkeep]; · iexact Hkeep
  iapply (Ow_intro c _ _); iexact HO

theorem send_step (k : Fin 4) (j : ℕ) (hj : j < 15) {d : ℕ} {hd : d < nD} (ed : d = (c.val + (j + 1)) % 16)
    {off : Fin 4 → Nat} {h : ∀ a, off a + S1x1x8x128.size a ≤ S16x4x8x128.size a} (e : off = ![c.val, k.val, 0, 0])
    {semS semR : DmaSem sig} (hsS : (SemLoc.dma semS : SemLoc sig) = own (sendI k (dist j))) (hsR : (SemLoc.dma semR : SemLoc sig) = own (recvI k c))
    {hsc hsrc hdst hsem} :
    Tri A K c (SndS A c k j)
      (Prog.lift (.enqueueDma (slotOf off h) (.remote (Dev.tc (⟨d, hd⟩ : Dev nD)) (slotOf off h) (.dma semS) hsc) (.dma semR) hsrc hdst hsem))
      (fun _ => SndS A c k (j + 1)) :=
  send_to k j hj (Fin.ext (by show d = (c.val + j + 1) % 16; rw [ed, Nat.add_assoc])) e hsS hsR

/-! ## Waits for copies -/

/-- A wait for a copy of chunk `k` of x: the chunk is in the working buffer. -/
theorem in_wait (k : Fin 4) (n : ℕ) {sem : DmaSem sig} (hs : (SemLoc.dma sem : SemLoc sig) = own (inI k))
    {off : Fin 2 → Nat} {h : ∀ a, off a + S512x1024.size a ≤ S2048x1024.size a} {hsrc hdst} :
    Tri A K c iprop(crd c (inI k) (dmaAmt (inI k).val) ∗ Ow c n ∗ at0 c (inI k)) (Prog.lift (.waitDma2 sem (rowsOf M0 off h) (rowsOf M4 off h) hsrc hdst))
      (fun _ => iprop(Ow c n ∗ at1 c (inI k) ∗ xvP c k.val (A.x c) ∗ argP A c k.val)) := by
  refine (wait_dma (inI k) n (used_in c k) (levs_low c _ (by have := k.isLt; show k.val < 72; omega) n) hs ((credit_rows4 off h).trans (amt_in k).symm)).post fun _ => ?_
  rw [pay_in, inPay]

/-- A wait for a copy of chunk `k` of the result. -/
theorem out_wait (k : Fin 4) (n : ℕ) {sem : DmaSem sig} (hs : (SemLoc.dma sem : SemLoc sig) = own (outI k))
    {off : Fin 2 → Nat} {h : ∀ a, off a + S512x1024.size a ≤ S2048x1024.size a} {hsrc hdst} :
    Tri A K c iprop(crd c (outI k) (dmaAmt (outI k).val) ∗ Ow c n ∗ at0 c (outI k)) (Prog.lift (.waitDma2 sem (rowsOf M4 off h) (rowsOf M3 off h) hsrc hdst))
      (fun _ => iprop(Ow c n ∗ at1 c (outI k) ∗ resP c k.val (outG A c) ∗ xvP c k.val (outG A c))) := by
  refine (wait_dma (outI k) n (used_out c k) (levs_low c _ (by have := k.isLt; show 4 + k.val < 72; omega) n) hs ((credit_rows3 off h).trans (amt_out k).symm)).post fun _ => ?_
  rw [pay_out, outPay]

variable (A) in
/-- Before the wait for chunk `k` of the device `j + 1` places ahead. -/
def RcvS (c : Dev nD) (k : Fin 4) (j : ℕ) : sProp 𝕄 :=
  iprop(bigSep (Finset.Ico j 15) (fun i => iprop(crd c (recvI k (nxt c i)) (dmaAmt (recvI k (nxt c i)).val) ∗ at0 c (recvI k (nxt c i))))
    ∗ bigSep (Finset.range j) (fun i => iprop(slotQ c fullShare (nxt c i) k.val (statG A) ∗ at1 c (recvI k (nxt c i)))) ∗ Ow c 75)

theorem recv_step (k : Fin 4) (j : ℕ) (hj : j < 15) {sem : DmaSem sig} (hs : (SemLoc.dma sem : SemLoc sig) = own (recvI k (nxt c j)))
    {off : Fin 4 → Nat} {h : ∀ a, off a + S1x1x8x128.size a ≤ S16x4x8x128.size a} {hsrc hdst} :
    Tri A K c (RcvS A c k j) (Prog.lift (.waitDma2 sem (slotOf off h) (slotOf off h) hsrc hdst)) (fun _ => RcvS A c k (j + 1)) := by
  have H := (wait_dma (A := A) (K := K) (recvI k (nxt c j)) 75 (used_recv c k (nxt_ne c hj)) (levs_zero c _) hs
    (src := slotOf off h) (hsrc := hsrc) (hdst := hdst) ((credit_slot off h).trans (amt_recv k _).symm))
  refine (H.frame iprop(bigSep (Finset.Ico (j + 1) 15) (fun i => iprop(crd c (recvI k (nxt c i)) (dmaAmt (recvI k (nxt c i)).val) ∗ at0 c (recvI k (nxt c i))))
    ∗ bigSep (Finset.range j) (fun i => iprop(slotQ c fullShare (nxt c i) k.val (statG A) ∗ at1 c (recvI k (nxt c i)))))).pre ?_ |>.post fun _ => ?_
  · unfold RcvS; rw [bigSep_next hj]
    iintro ⟨⟨⟨Hc, Ha⟩, Hr⟩, Hd, HO⟩
    isplitl [Hc HO Ha]
    · isplitl [Hc]; · iexact Hc
      isplitl [HO] <;> iassumption
    isplitl [Hr] <;> iassumption
  · unfold RcvS; rw [range_top, pay_recv]
    iintro ⟨⟨HO, Ha, Hp⟩, Hr, Hd⟩
    isplitl [Hr]; · iexact Hr
    isplitl [Ha Hp Hd]
    · isplitl [Ha Hp]
      · isplitl [Hp] <;> iassumption
      iexact Hd
    iexact HO

variable (A) in
/-- Before the wait for the own copy of chunk `k` to the device `j + 1` places ahead. -/
def WsS (c : Dev nD) (k : Fin 4) (j : ℕ) : sProp 𝕄 :=
  iprop(bigSep (Finset.Ico j 15) (fun i => iprop(crd c (sendI k (dist i)) (dmaAmt (sendI k (dist i)).val) ∗ at0 c (sendI k (dist i))))
    ∗ bigSep (Finset.range j) (fun i => iprop(slotQ c (shareTokN fullShare i) c k.val (statG A) ∗ at1 c (sendI k (dist i)))) ∗ Ow c 75)

theorem wsend_step (k : Fin 4) (j : ℕ) (hj : j < 15) {sem : DmaSem sig} (hs : (SemLoc.dma sem : SemLoc sig) = own (sendI k (dist j)))
    {off : Fin 4 → Nat} {h : ∀ a, off a + S1x1x8x128.size a ≤ S16x4x8x128.size a} {hsrc hdst} :
    Tri A K c (WsS A c k j) (Prog.lift (.waitDma2 sem (slotOf off h) (slotOf off h) hsrc hdst)) (fun _ => WsS A c k (j + 1)) := by
  have H := (wait_dma (A := A) (K := K) (sendI k (dist j)) 75 (used_send c k hj) (levs_zero c _) hs
    (src := slotOf off h) (hsrc := hsrc) (hdst := hdst) ((credit_slot off h).trans (amt_send k _).symm))
  refine (H.frame iprop(bigSep (Finset.Ico (j + 1) 15) (fun i => iprop(crd c (sendI k (dist i)) (dmaAmt (sendI k (dist i)).val) ∗ at0 c (sendI k (dist i))))
    ∗ bigSep (Finset.range j) (fun i => iprop(slotQ c (shareTokN fullShare i) c k.val (statG A) ∗ at1 c (sendI k (dist i)))))).pre ?_ |>.post fun _ => ?_
  · unfold WsS; rw [bigSep_next hj]
    iintro ⟨⟨⟨Hc, Ha⟩, Hr⟩, Hd, HO⟩
    isplitl [Hc HO Ha]
    · isplitl [Hc]; · iexact Hc
      isplitl [HO] <;> iassumption
    isplitl [Hr] <;> iassumption
  · unfold WsS; rw [range_top, pay_send A c k hj]
    iintro ⟨⟨HO, Ha, Hp⟩, Hr, Hd⟩
    isplitl [Hr]; · iexact Hr
    isplitl [Ha Hp Hd]
    · isplitl [Ha Hp]
      · isplitl [Hp] <;> iassumption
      iexact Hd
    iexact HO

/-! ## The strip of a chunk -/

/-- A strip's load: the device's own slot at the share it kept, the others' in full. -/
def StripS (A : Ins F) (c : Dev nD) (k : Fin 4) : sProp 𝕄 :=
  iprop(slotQ c (shareDrop fullShare 15) c k.val (statG A) ∗ bigSep (Finset.range 15) fun j => slotQ c fullShare (nxt c j) k.val (statG A))

theorem strip_gather (A : Ins F) (c : Dev nD) (k : Fin 4) (q : PosShare TreeShare) (f : S16x4x8x128.Idx → Elt F .f32) :
    iprop(slotQ c q c k.val f ∗ bigSep (Finset.range 15) fun j => slotQ c q (nxt c j) k.val f)
      = ((c : Thread nD τ).loc cc0_scratch1 ↦[stripSet k.val]{q} f : sProp 𝕄) := by
  rw [← bigSep_others c (fun s => (slotQ c q s k.val f : sProp 𝕄)), ← bigSep_erase' (Finset.mem_univ c) (Φ := fun s : Dev nD => (slotQ c q s k.val f : sProp 𝕄)),
    show stripSet k.val = (Finset.univ : Finset (Dev nD)).biUnion (fun s => slotSet s.val k.val) from (slotSet_strip k.val).symm,
    pointsTo_biUnion (ℓ := (c : Thread nD τ).loc cc0_scratch1) (q := q) (f := f) (Finset.univ : Finset (Dev nD)) (fun s => slotSet s.val k.val) fun s _ s' _ hne => slotSet_disjoint fun e => hne (Fin.ext e.1)]

theorem strip_split (A : Ins F) (c : Dev nD) (k : Fin 4) :
    (StripS A c k : sProp 𝕄) ⊣⊢ iprop(((c : Thread nD τ).loc cc0_scratch1 ↦[stripSet k.val]{shareDrop fullShare 15} statG A)
      ∗ bigSep (Finset.range 15) fun j => bigSep (Finset.range 15) fun i => slotQ c (shareTokN fullShare i) (nxt c j) k.val (statG A)) := by
  unfold StripS
  have H : (bigSep (Finset.range 15) fun j => (slotQ c fullShare (nxt c j) k.val (statG A) : sProp 𝕄))
      ⊣⊢ iprop((bigSep (Finset.range 15) fun j => slotQ c (shareDrop fullShare 15) (nxt c j) k.val (statG A))
        ∗ bigSep (Finset.range 15) fun j => bigSep (Finset.range 15) fun i => slotQ c (shareTokN fullShare i) (nxt c j) k.val (statG A)) := by
    have E := bigSep_sep' (Finset.range 15) (fun j => (slotQ c (shareDrop fullShare 15) (nxt c j) k.val (statG A) : sProp 𝕄))
      (fun j => (bigSep (Finset.range 15) fun i => slotQ c (shareTokN fullShare i) (nxt c j) k.val (statG A) : sProp 𝕄))
    rw [← E]
    exact ⟨BI.bigSep_mono fun j _ => (pointsTo_toks_range fullShare 15).1, BI.bigSep_mono fun j _ => (pointsTo_toks_range fullShare 15).2⟩
  rw [← strip_gather A c k (shareDrop fullShare 15) (statG A)]
  constructor
  · iintro ⟨Ho, Hr⟩
    ihave Hr := H.1 $$ Hr
    icases Hr with ⟨Hq, Ht⟩
    isplitl [Ho Hq]
    · isplitl [Ho] <;> iassumption
    iexact Ht
  · iintro ⟨⟨Ho, Hq⟩, Ht⟩
    isplitl [Ho]; · iexact Ho
    iapply H.2
    isplitl [Hq] <;> iassumption

theorem load_strip (k : Fin 4) {off : Fin 4 → Nat} {h : ∀ a, off a + S16x1x8x128.size a ≤ S16x4x8x128.size a} (e : off = ![0, k.val, 0, 0])
    {hl : M5.view.LoadsAt (Rect.unit (s := S16x4x8x128) off S16x1x8x128.size h).toLoadRect} :
    Tri A K c (StripS A c k) (Prog.lift (.load M5 (Rect.unit (s := S16x4x8x128) off S16x1x8x128.size h).toLoadRect hl))
      (fun v => iprop(⌜v = stripOf (statG A) k⌝ ∗ StripS A c k)) := by
  have hset : (M5.access (Rect.unit (s := S16x4x8x128) off S16x1x8x128.size h)).set = stripSet k.val := (View.set_slice_whole _ _).trans (rect_strip _ h e)
  unfold Tri
  iintro ⟨-, HS⟩
  ihave HS := (strip_split A c k).1 $$ HS
  icases HS with ⟨Hx, Ht⟩
  iapply (wp_load_rect 𝒱₀ (c : Thread nD τ) none Set.univ (m := M5) (r := Rect.unit (s := S16x4x8x128) off S16x1x8x128.size h) (S := stripSet k.val)
    (q := shareDrop fullShare 15) (f := statG A) (by rw [hset])) $$ [Hx]
  · iexact Hx
  iintro Hx
  rw [wp_ret]
  imodintro
  isplitr
  · ipureintro; subst e; rfl
  iapply (strip_split A c k).2
  isplitl [Hx] <;> iassumption

/-! ## Storing a normalised chunk -/

theorem outG_at (A : Ins F) (c : Dev nD) (k : Fin 4) (i : S2048x1024.Idx) (j : S512x1024.Idx) (h0 : (i 0).val = 512 * k.val + (j 0).val) (h1 : (i 1).val = (j 1).val) :
    outG A c i = outC A c k j := by
  have hj : (j 0).val < 512 := (j 0).isLt
  have e0 : ∀ p, (⟨(i 0).val / 512, p⟩ : Fin 4) = k := fun _ => Fin.ext (by show (i 0).val / 512 = k.val; omega)
  have e1 : ((fun | 0 => ⟨(i 0).val % 512, Nat.mod_lt _ (by decide)⟩ | 1 => ⟨(i 1).val, (i 1).isLt⟩) : S512x1024.Idx) = j := by
    funext a
    match a with
    | 0 => exact Fin.ext (by show (i 0).val % 512 = (j 0).val; omega)
    | 1 => exact Fin.ext h1
  unfold outG
  exact (congrArg (fun q : Fin 4 => outC A c q _) (e0 _)).trans (congrArg _ e1)

theorem store_rows (k : Fin 4) {f : S2048x1024.Idx → Elt F .f32} {off : Fin 2 → Nat} {h : ∀ a, off a + S512x1024.size a ≤ S2048x1024.size a} (e : off = ![512 * k.val, 0])
    {w : S512x1024.Idx → Elt F .f32} (hw : w = outC A c k)
    {hx : (M4.access (Rect.unit (s := S2048x1024) off S512x1024.size h)).Stores Finset.univ} {hm} :
    Tri A K c (xvP c k.val f) (Prog.lift (.store M4 (Rect.unit (s := S2048x1024) off S512x1024.size h) w Finset.univ hx hm))
      (fun _ => xvP c k.val (outG A c)) := by
  have hset : (M4.access (Rect.unit (s := S2048x1024) off S512x1024.size h)).set = rowSet k.val := set_rows4 k.val h e
  have hread : w = (M4.access (Rect.unit (s := S2048x1024) off S512x1024.size h)).read (Elt F) (outG A c) := by
    refine Eq.trans ?_ (show (fun j => outG A c ((Rect.unit (s := S2048x1024) off S512x1024.size h).emb j)) = _ from rfl)
    subst hw e
    funext j
    refine (outG_at A c k _ j ?_ ?_).symm
    · rw [Rect.emb_apply]; show 512 * k.val + 1 * (j 0).val = _; omega
    · rw [Rect.emb_apply]; show 0 + 1 * (j 1).val = _; omega
  have hst : ((M4.access (Rect.unit (s := S2048x1024) off S512x1024.size h)).loc (c : Thread nD τ) ↦[rowSet k.val]{fullShare}
      (M4.access (Rect.unit (s := S2048x1024) off S512x1024.size h)).write (Elt F) f w Finset.univ : sProp 𝕄) = xvP c k.val (outG A c) := by
    rw [← hset]
    exact (stored (c : Thread nD τ) (M4.access (Rect.unit (s := S2048x1024) off S512x1024.size h)) fullShare f (outG A c) w hread).trans (by rw [hset])
  unfold Tri
  iintro ⟨-, Hx⟩
  iapply (wp_store 𝒱₀ (c : Thread nD τ) none Set.univ (m := M4) (r := Rect.unit (s := S2048x1024) off S512x1024.size h) (w := w) (Mk := Finset.univ) (S := rowSet k.val) (f := f)
    (by rw [← hset]; exact subset_rfl)) $$ [Hx]
  · iexact Hx
  rw [hst]
  iintro Hx
  rw [wp_ret]
  imodintro
  iexact Hx

end Cert.KernelIdeal.Talk

end
-- ==== Proof.Ideal.Parts.lean ====
module

public import proofs.«01_k».proof.Proof.Ideal.Traffic

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type} [FloatOps F]

local notation "𝕄" => MT nD τ sig Unit (Elt F) ℕ UU ℕ

variable {A : Ins F} {K : GSem nD τ sig → ℕ} {c : Dev nD}

/-! ## The program's pieces on its buffers -/

/-- A piece of the kernel, given its buffers and its two windows. -/
abbrev onBufs {β : Type 1} (p : (arg0 : Memref sig .tc .hbm S2048x1024 .f32) → arg0.IsWhole → (arg1 : Memref sig .tc .vmem S1x1024 .f32) → arg1.IsWhole →
    (arg2 : Memref sig .tc .vmem S1x1024 .f32) → arg2.IsWhole → (arg3 : Memref sig .tc .hbm S2048x1024 .f32) → arg3.IsWhole →
    (arg4 : Memref sig .tc .vmem S2048x1024 .f32) → arg4.IsWhole → (arg5 : Memref sig .tc .vmem S16x4x8x128 .f32) → arg5.IsWhole →
    DmaSems sig S4 → DmaSems sig S4 → DmaSems sig S4x16 → DmaSems sig S4x16 → β) : β :=
  p M0 (Memref.isWhole_whole _) (Memref.whole cc0_stg0_0) (Memref.isWhole_whole _) (Memref.whole cc0_stg1_0) (Memref.isWhole_whole _)
    M3 (Memref.isWhole_whole _) M4 (Memref.isWhole_whole _) M5 (Memref.isWhole_whole _) cc0_scratch2 cc0_scratch3 cc0_scratch4 cc0_scratch5

/-- The barrier semaphore as the program carries it. -/
abbrev barA : Sems sig S_ := SemArray.scalar (sig.barrier 0 rfl)

/-- A run whose state gives a fact. -/
theorem Tri.fact {α : Type} {φ : Prop} {P : sProp 𝕄} {e : Prog (TpuEff nD τ sig (Elt F) Λ₀ .tc) α} {R : α → sProp 𝕄} (h : φ → Tri A K c P e R) :
    Tri A K c iprop(⌜φ⌝ ∗ P) e R := by
  unfold Tri at *
  iintro ⟨#HP, %hf, H⟩
  iapply (h hf)
  isplitr; · iexact HP
  iexact H

theorem device_id {α : Type} {P : sProp 𝕄} {f : Dev nD → Prog (TpuEff nD τ sig (Elt F) Λ₀ .tc) α} {R : α → sProp 𝕄} (h : Tri A K c P (f c) R) :
    Tri A K c P (Prog.lift .deviceId >>= f) R := by
  unfold Tri at *
  refine BIBase.Entails.trans h ?_
  show _ ⊢ wp Idealize.ShloMosaic.frame (wpE defs₀ 𝒱₀ (c : Thread nD τ) none) Set.univ (Prog.op TpuEff.deviceId fun d => f d) R
  rw [wp_deviceId]

/-! ## A chunk's statistics -/

/-- Before and after a chunk's wait and the store of its statistics. -/
def StatPre (c : Dev nD) (k : Fin 4) (n : ℕ) : sProp 𝕄 :=
  iprop(crd c (inI k) (dmaAmt (inI k).val) ∗ at0 c (inI k) ∗ slotE c c k.val ∗ Ow c n)
def StatPost (A : Ins F) (c : Dev nD) (k : Fin 4) (n : ℕ) : sProp 𝕄 :=
  iprop(at1 c (inI k) ∗ xvP c k.val (A.x c) ∗ argP A c k.val ∗ slotQ c fullShare c k.val (statG A) ∗ Ow c n)

theorem stats_then (k : Fin 4) (n : ℕ) {α : Type} {sem : DmaSem sig} (hs : (SemLoc.dma sem : SemLoc sig) = own (inI k))
    {off : Fin 2 → Nat} {h : ∀ a, off a + S512x1024.size a ≤ S2048x1024.size a} (e : off = ![512 * k.val, 0])
    {offS : Fin 4 → Nat} {h' : ∀ a, offS a + S1x1x8x128.size a ≤ S16x4x8x128.size a} (eS : offS = ![c.val, k.val, 0, 0])
    {pay : Vec F S512x1024 .f32 → S1x1x8x128.Idx → Elt F .f32} (hp : ∀ v, pay v = k0_pay1 v)
    {hsrc hdst hl hl' hx hm} {X : sProp 𝕄} {f : PUnit → Prog (TpuEff nD τ sig (Elt F) Λ₀ .tc) α} {Q : α → sProp 𝕄}
    (hf : ∀ a, Tri A K c iprop(StatPost A c k n ∗ X) (f a) Q) :
    Tri A K c iprop(StatPre c k n ∗ X)
      (Prog.lift (.waitDma2 sem (rowsOf M0 off h) (rowsOf M4 off h) hsrc hdst) >>= fun _ =>
        Prog.lift (.load M4 (Rect.unit (s := S2048x1024) off S512x1024.size h).toLoadRect hl) >>= fun v =>
        Prog.lift (.load M5 (Rect.unit (s := S16x4x8x128) offS S1x1x8x128.size h').toLoadRect hl') >>= fun _ =>
        Prog.lift (.store M5 (Rect.unit (s := S16x4x8x128) offS S1x1x8x128.size h') (pay v) Finset.univ hx hm) >>= f) Q := by
  refine Tri.seq (((in_wait k n hs).frame iprop(slotE c c k.val ∗ X)).pre ?_) fun _ => ?_
  · unfold StatPre
    iintro ⟨⟨Hc, Ha, Hs, HO⟩, HX⟩
    isplitl [Hc Ha HO]
    · isplitl [Hc]; · iexact Hc
      isplitl [HO] <;> iassumption
    isplitl [Hs] <;> iassumption
  refine Tri.seq (((load_rows k (A.x c) e).frame iprop(Ow c n ∗ at1 c (inI k) ∗ argP A c k.val ∗ slotE c c k.val ∗ X)).pre ?_) fun v => ?_
  · iintro ⟨⟨HO, Ha, Hx, Hg⟩, Hs, HX⟩
    isplitl [Hx]; · iexact Hx
    isplitl [HO]; · iexact HO
    isplitl [Ha]; · iexact Ha
    isplitl [Hg]; · iexact Hg
    isplitl [Hs] <;> iassumption
  refine Tri.pre (Tri.fact fun hv => ?_) sep_assoc.1
  refine Tri.seq (((load_slot k eS).frame iprop(xvP c k.val (A.x c) ∗ Ow c n ∗ at1 c (inI k) ∗ argP A c k.val ∗ X)).pre ?_) fun _ => ?_
  · iintro ⟨Hx, HO, Ha, Hg, Hs, HX⟩
    isplitl [Hs]; · iexact Hs
    isplitl [Hx]; · iexact Hx
    isplitl [HO]; · iexact HO
    isplitl [Ha]; · iexact Ha
    isplitl [Hg] <;> iassumption
  refine Tri.seq ((store_slot k eS (by rw [hp, hv])).frame _) fun a => (hf a).pre ?_
  unfold StatPost
  iintro ⟨Hs, Hx, HO, Ha, Hg, HX⟩
  isplitr [HX]
  · isplitl [Ha]; · iexact Ha
    isplitl [Hx]; · iexact Hx
    isplitl [Hg]; · iexact Hg
    isplitl [Hs] <;> iassumption
  iexact HX

/-! ## A chunk's result -/

/-- The loads of a chunk's strip and rows. -/
theorem strip_then (k : Fin 4) {α : Type}
    {off : Fin 2 → Nat} {h : ∀ a, off a + S512x1024.size a ≤ S2048x1024.size a} (e : off = ![512 * k.val, 0])
    {offS : Fin 4 → Nat} {h' : ∀ a, offS a + S16x1x8x128.size a ≤ S16x4x8x128.size a} (eS : offS = ![0, k.val, 0, 0])
    {hl hl'} {X : sProp 𝕄} {f : Vec F S16x1x8x128 .f32 → Vec F S512x1024 .f32 → Prog (TpuEff nD τ sig (Elt F) Λ₀ .tc) α} {Q : α → sProp 𝕄}
    (hf : Tri A K c iprop(StripS A c k ∗ xvP c k.val (A.x c) ∗ X) (f (stripOf (statG A) k) (chunkOf (A.x c) k)) Q) :
    Tri A K c iprop(StripS A c k ∗ xvP c k.val (A.x c) ∗ X)
      (Prog.lift (.load M5 (Rect.unit (s := S16x4x8x128) offS S16x1x8x128.size h').toLoadRect hl') >>= fun s =>
        Prog.lift (.load M4 (Rect.unit (s := S2048x1024) off S512x1024.size h).toLoadRect hl) >>= fun v => f s v) Q := by
  refine Tri.seq ((load_strip k eS).frame _) fun s => Tri.pre (Tri.fact fun hs => ?_) sep_assoc.1
  refine Tri.seq (((load_rows k (A.x c) e).frame iprop(StripS A c k ∗ X)).pre ?_) fun v => Tri.pre (Tri.fact fun hv => ?_) sep_assoc.1
  · iintro ⟨Hs, Hx, HX⟩
    isplitl [Hx]; · iexact Hx
    isplitl [Hs] <;> iassumption
  rw [hs, hv]
  refine hf.pre ?_
  iintro ⟨Hx, Hs, HX⟩
  isplitl [Hs]; · iexact Hs
  isplitl [Hx] <;> iassumption

/-- The store of a chunk's result, past a load whose value is not used. -/
theorem result_then (k : Fin 4) {α : Type}
    {off : Fin 2 → Nat} {h : ∀ a, off a + S512x1024.size a ≤ S2048x1024.size a} (e : off = ![512 * k.val, 0])
    {w : S512x1024.Idx → Elt F .f32} (hw : w = outC A c k) {hl hx hm} {X : sProp 𝕄} {f : PUnit → Prog (TpuEff nD τ sig (Elt F) Λ₀ .tc) α} {Q : α → sProp 𝕄}
    (hf : ∀ a, Tri A K c iprop(xvP c k.val (outG A c) ∗ X) (f a) Q) :
    Tri A K c iprop(xvP c k.val (A.x c) ∗ X)
      (Prog.lift (.load M4 (Rect.unit (s := S2048x1024) off S512x1024.size h).toLoadRect hl) >>= fun _ =>
        Prog.lift (.store M4 (Rect.unit (s := S2048x1024) off S512x1024.size h) w Finset.univ hx hm) >>= f) Q := by
  refine Tri.seq ((load_rows k (A.x c) e).frame _) fun v => Tri.pre (Tri.fact fun _ => ?_) sep_assoc.1
  exact Tri.seq ((store_rows k e hw).frame _) hf

/-- The first window at its contents. -/
abbrev gamP (A : Ins F) (c : Dev nD) : sProp 𝕄 := (c : Thread nD τ).loc cc0_stg0_0 ↦[Finset.univ]{fullShare} A.gam c

/-- The first window's load. -/
theorem load_gam {off : Fin 2 → Nat} {h : ∀ a, off a + S1x1024.size a ≤ S1x1024.size a} (e : off = ![0, 0])
    {hl : (Memref.whole cc0_stg0_0 : Memref sig .tc .vmem S1x1024 .f32).view.LoadsAt (Rect.unit (s := S1x1024) off S1x1024.size h).toLoadRect} :
    Tri A K c (gamP A c)
      (Prog.lift (.load (Memref.whole cc0_stg0_0 : Memref sig .tc .vmem S1x1024 .f32) (Rect.unit (s := S1x1024) off S1x1024.size h).toLoadRect hl))
      (fun v => iprop(⌜v = A.gam c⌝ ∗ gamP A c)) := by
  unfold Tri
  iintro ⟨-, Hx⟩
  iapply (wp_load_rect 𝒱₀ (c : Thread nD τ) none Set.univ (m := (Memref.whole cc0_stg0_0 : Memref sig .tc .vmem S1x1024 .f32)) (r := Rect.unit (s := S1x1024) off S1x1024.size h) (S := Finset.univ) (q := fullShare) (f := A.gam c)
    (Finset.subset_univ _)) $$ [Hx]
  · iexact Hx
  iintro Hx
  rw [wp_ret]
  imodintro
  isplitr
  · ipureintro; subst e
    funext i
    show A.gam c ((Rect.unit (s := S1x1024) ![0, 0] S1x1024.size h).emb i) = A.gam c i
    refine congrArg (A.gam c) (funext fun a => Fin.ext ?_)
    rw [Rect.emb_apply]
    match a with
    | 0 => show 0 + 1 * (i 0).val = (i 0).val; omega
    | 1 => show 0 + 1 * (i 1).val = (i 1).val; omega
  iexact Hx

/-- The second window at its contents. -/
abbrev betP (A : Ins F) (c : Dev nD) : sProp 𝕄 := (c : Thread nD τ).loc cc0_stg1_0 ↦[Finset.univ]{fullShare} A.bet c

/-- The second window's load. -/
theorem load_bet {off : Fin 2 → Nat} {h : ∀ a, off a + S1x1024.size a ≤ S1x1024.size a} (e : off = ![0, 0])
    {hl : (Memref.whole cc0_stg1_0 : Memref sig .tc .vmem S1x1024 .f32).view.LoadsAt (Rect.unit (s := S1x1024) off S1x1024.size h).toLoadRect} :
    Tri A K c (betP A c)
      (Prog.lift (.load (Memref.whole cc0_stg1_0 : Memref sig .tc .vmem S1x1024 .f32) (Rect.unit (s := S1x1024) off S1x1024.size h).toLoadRect hl))
      (fun v => iprop(⌜v = A.bet c⌝ ∗ betP A c)) := by
  unfold Tri
  iintro ⟨-, Hx⟩
  iapply (wp_load_rect 𝒱₀ (c : Thread nD τ) none Set.univ (m := (Memref.whole cc0_stg1_0 : Memref sig .tc .vmem S1x1024 .f32)) (r := Rect.unit (s := S1x1024) off S1x1024.size h) (S := Finset.univ) (q := fullShare) (f := A.bet c)
    (Finset.subset_univ _)) $$ [Hx]
  · iexact Hx
  iintro Hx
  rw [wp_ret]
  imodintro
  isplitr
  · ipureintro; subst e
    funext i
    show A.bet c ((Rect.unit (s := S1x1024) ![0, 0] S1x1024.size h).emb i) = A.bet c i
    refine congrArg (A.bet c) (funext fun a => Fin.ext ?_)
    rw [Rect.emb_apply]
    match a with
    | 0 => show 0 + 1 * (i 0).val = (i 0).val; omega
    | 1 => show 0 + 1 * (i 1).val = (i 1).val; omega
  iexact Hx

/-! ## Between the pieces -/

/-- What is left of a chunk's copies when all are under way. -/
def SndDone (A : Ins F) (c : Dev nD) (k : Fin 4) : sProp 𝕄 :=
  iprop(bigSep (Finset.range 15) (fun i => crd c (sendI k (dist i)) (dmaAmt (sendI k (dist i)).val)) ∗ slotQ c (shareDrop fullShare 15) c k.val (statG A))
theorem snd_begin (A : Ins F) (c : Dev nD) (k : Fin 4) {n : ℕ} (hn : n = 15 + 15 * k.val) :
    iprop(bigSep (Finset.Ico 0 15) (SndRes c k) ∗ slotQ c fullShare c k.val (statG A) ∗ Ow c n : sProp 𝕄) ⊢ SndS A c k 0 := by
  subst hn
  unfold SndS
  iintro ⟨H, Hs, HO⟩
  isplitl [H]; · iexact H
  isplitr
  · rw [range_none]; iempintro
  isplitl [Hs]; · iexact Hs
  iexact HO
theorem snd_end (A : Ins F) (c : Dev nD) (k : Fin 4) {n : ℕ} (hn : n = 30 + 15 * k.val) :
    (SndS A c k 15 : sProp 𝕄) ⊢ iprop(SndDone A c k ∗ Ow c n) := by
  have e : 15 + 15 * k.val + 15 = n := by omega
  unfold SndS SndDone
  rw [e]
  iintro ⟨-, H, Hs, HO⟩
  isplitr [HO]
  · isplitl [H] <;> iassumption
  iexact HO

/-- The credits and positions of a chunk's receipts before the first, and its positions after the last. -/
def RcvR (c : Dev nD) (k : Fin 4) : sProp 𝕄 :=
  bigSep (Finset.range 15) fun i => iprop(crd c (recvI k (nxt c i)) (dmaAmt (recvI k (nxt c i)).val) ∗ at0 c (recvI k (nxt c i)))
def RcvAt (c : Dev nD) (k : Fin 4) : sProp 𝕄 := bigSep (Finset.range 15) fun i => at1 c (recvI k (nxt c i))
theorem rcv_begin (A : Ins F) (c : Dev nD) (k : Fin 4) : iprop(RcvR c k ∗ Ow c 75 : sProp 𝕄) ⊢ RcvS A c k 0 := by
  unfold RcvS RcvR
  rw [Ico_all]
  iintro ⟨H, HO⟩
  isplitl [H]; · iexact H
  isplitr
  · rw [range_none]; iempintro
  iexact HO
theorem rcv_end (A : Ins F) (c : Dev nD) (k : Fin 4) :
    iprop(RcvS A c k 15 ∗ slotQ c (shareDrop fullShare 15) c k.val (statG A) : sProp 𝕄) ⊢ iprop(StripS A c k ∗ RcvAt c k ∗ Ow c 75) := by
  unfold RcvS RcvAt StripS
  rw [bigSep_sep' (Finset.range 15) (fun j => (slotQ c fullShare (nxt c j) k.val (statG A) : sProp 𝕄)) (fun j => at1 c (recvI k (nxt c j)))]
  iintro ⟨⟨-, ⟨Hq, Ha⟩, HO⟩, Hs⟩
  isplitl [Hs Hq]
  · isplitl [Hs] <;> iassumption
  isplitl [Ha] <;> iassumption

/-- The credits and positions of a chunk's send semaphores before the first wait, and the shares and positions after the last. -/
def WsR (c : Dev nD) (k : Fin 4) : sProp 𝕄 :=
  bigSep (Finset.range 15) fun i => iprop(crd c (sendI k (dist i)) (dmaAmt (sendI k (dist i)).val) ∗ at0 c (sendI k (dist i)))
def WsDone (A : Ins F) (c : Dev nD) (k : Fin 4) : sProp 𝕄 :=
  bigSep (Finset.range 15) fun i => iprop(slotQ c (shareTokN fullShare i) c k.val (statG A) ∗ at1 c (sendI k (dist i)))
theorem ws_begin (A : Ins F) (c : Dev nD) (k : Fin 4) : iprop(WsR c k ∗ Ow c 75 : sProp 𝕄) ⊢ WsS A c k 0 := by
  unfold WsS WsR
  rw [Ico_all]
  iintro ⟨H, HO⟩
  isplitl [H]; · iexact H
  isplitr
  · rw [range_none]; iempintro
  iexact HO
theorem ws_end (A : Ins F) (c : Dev nD) (k : Fin 4) : (WsS A c k 15 : sProp 𝕄) ⊢ iprop(WsDone A c k ∗ Ow c 75) := by
  unfold WsS WsDone
  iintro ⟨-, H, HO⟩
  isplitl [H] <;> iassumption
/-- From the last wait of a chunk to the first of the next. -/
theorem ws_next (A : Ins F) (c : Dev nD) (k k' : Fin 4) : iprop(WsS A c k 15 ∗ WsR c k' : sProp 𝕄) ⊢ iprop(WsS A c k' 0 ∗ WsDone A c k) := by
  iintro ⟨H, Hr⟩
  ihave H := (ws_end A c k) $$ H
  icases H with ⟨Hd, HO⟩
  isplitr [Hd]
  · iapply (ws_begin A c k')
    isplitl [Hr] <;> iassumption
  iexact Hd

/-- What the copy in of a chunk needs, and the copy out. -/
abbrev InTok (A : Ins F) (c : Dev nD) (k : Fin 4) : sProp 𝕄 := iprop(argP A c k.val ∗ (∃ f, xvP c k.val f) ∗ dutyTok ER (ownCell c (inI k)) 0 0)
abbrev OutTok (c : Dev nD) (k : Fin 4) : sProp 𝕄 := iprop((∃ f, resP c k.val f) ∗ dutyTok ER (ownCell c (outI k)) 0 0)

/-! ## The pieces -/

/-- The copies in, and the first signal. -/
theorem part1 :
    Tri A K c iprop(InTok A c 0 ∗ InTok A c 1 ∗ InTok A c 2 ∗ InTok A c 3 ∗ SigS c 0) (onBufs k0_part1) (fun a => iprop(⌜a.1 = c ∧ a.2.2.1 = barA⌝ ∗ crd c (inI 0) (dmaAmt (inI 0).val) ∗ crd c (inI 1) (dmaAmt (inI 1).val) ∗ crd c (inI 2) (dmaAmt (inI 2).val) ∗ crd c (inI 3) (dmaAmt (inI 3).val) ∗ SigS c 1)) := by
  unfold onBufs
  rw [k0_part1_eq_skeleton]
  refine device_id ?_
  refine Tri.seq ((in_start 0 rfl (in_sem 0 _ rfl)).frame _) fun _ => ?_
  refine Tri.seq (((in_start 1 rfl (in_sem 1 _ rfl)).frame _).pre sep_left_comm.1) fun _ => ?_
  refine Tri.seq (((in_start 2 rfl (in_sem 2 _ rfl)).frame iprop(crd c (inI 0) (dmaAmt (inI 0).val) ∗ crd c (inI 1) (dmaAmt (inI 1).val) ∗ InTok A c 3 ∗ SigS c 0)).pre ?_) fun _ => ?_
  · iintro ⟨H1, H0, H2, H3, HS⟩
    isplitl [H2]; · iexact H2
    isplitl [H0]; · iexact H0
    isplitl [H1]; · iexact H1
    isplitl [H3] <;> iassumption
  refine Tri.seq (((in_start 3 rfl (in_sem 3 _ rfl)).frame iprop(crd c (inI 0) (dmaAmt (inI 0).val) ∗ crd c (inI 1) (dmaAmt (inI 1).val) ∗ crd c (inI 2) (dmaAmt (inI 2).val) ∗ SigS c 0)).pre ?_) fun _ => ?_
  · iintro ⟨H2, H0, H1, H3, HS⟩
    isplitl [H3]; · iexact H3
    isplitl [H0]; · iexact H0
    isplitl [H1]; · iexact H1
    isplitl [H2] <;> iassumption
  refine Tri.seq (((sig_step 0 (by decide) (k0_dev1_eq c)).frame iprop(crd c (inI 0) (dmaAmt (inI 0).val) ∗ crd c (inI 1) (dmaAmt (inI 1).val) ∗ crd c (inI 2) (dmaAmt (inI 2).val) ∗ crd c (inI 3) (dmaAmt (inI 3).val))).pre ?_) fun _ => ?_
  · iintro ⟨H3, H0, H1, H2, HS⟩
    isplitl [HS]; · iexact HS
    isplitl [H0]; · iexact H0
    isplitl [H1]; · iexact H1
    isplitl [H2] <;> iassumption
  refine (Tri.ret _).pre ?_
  iintro ⟨HS, H0, H1, H2, H3⟩
  isplitr; · ipureintro; exact ⟨rfl, rfl⟩
  isplitl [H0]; · iexact H0
  isplitl [H1]; · iexact H1
  isplitl [H2]; · iexact H2
  isplitl [H3] <;> iassumption

/-- The signals to the devices 2 to 7 places ahead. -/
theorem part2 (v2 : BitVec 32) (v24 : BitVec 32) (c16_i32_20 : BitVec 32) :
    Tri A K c (SigS c 1) (onBufs k0_part2 c v2 barA v24 c16_i32_20) (fun _ => SigS c 7) := by
  unfold onBufs
  rw [k0_part2_eq_skeleton]
  exact Tri.seq (sig_step 1 (by decide) (k0_dev2_eq c)) fun _ =>
    Tri.seq (sig_step 2 (by decide) (k0_dev3_eq c)) fun _ =>
    Tri.seq (sig_step 3 (by decide) (k0_dev4_eq c)) fun _ =>
    Tri.seq (sig_step 4 (by decide) (k0_dev5_eq c)) fun _ =>
    Tri.seq (sig_step 5 (by decide) (k0_dev6_eq c)) fun _ =>
    Tri.seq (sig_step 6 (by decide) (k0_dev7_eq c)) fun _ =>
    Tri.ret _

/-- The signals to the devices 8 to 13 places ahead. -/
theorem part3 (v2 : BitVec 32) (v48 : BitVec 32) (c16_i32_45 : BitVec 32) :
    Tri A K c (SigS c 7) (onBufs k0_part3 c v2 barA v48 c16_i32_45) (fun _ => SigS c 13) := by
  unfold onBufs
  rw [k0_part3_eq_skeleton]
  exact Tri.seq (sig_step 7 (by decide) (k0_dev8_eq c)) fun _ =>
    Tri.seq (sig_step 8 (by decide) (k0_dev9_eq c)) fun _ =>
    Tri.seq (sig_step 9 (by decide) (k0_dev10_eq c)) fun _ =>
    Tri.seq (sig_step 10 (by decide) (k0_dev11_eq c)) fun _ =>
    Tri.seq (sig_step 11 (by decide) (k0_dev12_eq c)) fun _ =>
    Tri.seq (sig_step 12 (by decide) (k0_dev13_eq c)) fun _ =>
    Tri.ret _

/-- The last signals, the statistics of the first chunk, and the wait for every device. -/
theorem part4 (v2 : BitVec 32) (v72 : BitVec 32) (c16_i32_69 : BitVec 32) :
    Tri A K c iprop(SigS c 13 ∗ (crd c (inI 0) (dmaAmt (inI 0).val) ∗ at0 c (inI 0) ∗ slotE c c (0 : Fin 4).val) ∗ cred (tallyAt (barCell c) () 15) ∗ atPos ER (barCell c) 0 ∅ 0) (onBufs k0_part4 c v2 barA v72 c16_i32_69) (fun _ => iprop((Ow c 15 ∗ atPos ER (barCell c) (0 + 1) ∅ 0 ∗ bigSep (Finset.range 15) fun j => barPay c (nxt c j))
      ∗ at1 c (inI 0) ∗ xvP c (0 : Fin 4).val (A.x c) ∗ argP A c (0 : Fin 4).val ∗ slotQ c fullShare c (0 : Fin 4).val (statG A))) := by
  unfold onBufs
  rw [k0_part4_eq_skeleton]
  refine Tri.seq ((sig_step 13 (by decide) (k0_dev14_eq c)).frame _) fun _ => Tri.seq ((sig_step 14 (by decide) (k0_dev15_eq c)).frame _) fun _ => ?_
  refine Tri.pre (stats_then 0 15 (in_sem 0 _ rfl) rfl (k0_off1_eq c) (fun _ => rfl) (X := iprop(cred (tallyAt (barCell c) () 15) ∗ atPos ER (barCell c) 0 ∅ 0)) fun _ => ?_) ?_
  · refine Tri.seq (((wait_bar rfl).frame iprop(at1 c (inI 0) ∗ xvP c (0 : Fin 4).val (A.x c) ∗ argP A c (0 : Fin 4).val ∗ slotQ c fullShare c (0 : Fin 4).val (statG A))).pre ?_) fun _ => Tri.ret _
    unfold StatPost
    iintro ⟨⟨Ha, Hx, Hg, Hs, HO⟩, Hc, Hp⟩
    isplitl [Hc HO Hp]
    · isplitl [Hc]; · iexact Hc
      isplitl [HO] <;> iassumption
    isplitl [Ha]; · iexact Ha
    isplitl [Hx]; · iexact Hx
    isplitl [Hg] <;> iassumption
  · unfold SigS StatPre
    iintro ⟨⟨-, HO⟩, ⟨Hc, Ha, Hs⟩, HX⟩
    isplitr [HX]
    · isplitl [Hc]; · iexact Hc
      isplitl [Ha]; · iexact Ha
      isplitl [Hs] <;> iassumption
    iexact HX

/-- Copies 1 to 2 of chunk 0. -/
theorem part5 (v2 : BitVec 32) (v96 : BitVec 32) (c0_i32_96 : BitVec 32) :
    Tri A K c (SndS A c 0 0) (onBufs k0_part5 c v2 v96 c0_i32_96) (fun _ => SndS A c 0 2) := by
  unfold onBufs
  rw [k0_part5_eq_skeleton]
  exact Tri.seq (send_step 0 0 (by decide) (k0_dev16_eq c) (k0_off3_eq c) (send_sem 0 1 _ rfl) (recv_sem 0 c _ (k0_off2_eq c))) fun _ =>
    Tri.seq (send_step 0 1 (by decide) (k0_dev17_eq c) (k0_off3_eq c) (send_sem 0 2 _ rfl) (recv_sem 0 c _ (k0_off2_eq c))) fun _ =>
    Tri.ret _

/-- Copies 3 to 5 of chunk 0. -/
theorem part6 (v2 : BitVec 32) :
    Tri A K c (SndS A c 0 2) (onBufs k0_part6 c v2) (fun _ => SndS A c 0 5) := by
  unfold onBufs
  rw [k0_part6_eq_skeleton]
  exact Tri.seq (send_step 0 2 (by decide) (k0_dev18_eq c) (k0_off3_eq c) (send_sem 0 3 _ rfl) (recv_sem 0 c _ (k0_off2_eq c))) fun _ =>
    Tri.seq (send_step 0 3 (by decide) (k0_dev19_eq c) (k0_off3_eq c) (send_sem 0 4 _ rfl) (recv_sem 0 c _ (k0_off2_eq c))) fun _ =>
    Tri.seq (send_step 0 4 (by decide) (k0_dev20_eq c) (k0_off3_eq c) (send_sem 0 5 _ rfl) (recv_sem 0 c _ (k0_off2_eq c))) fun _ =>
    Tri.ret _

/-- Copies 6 to 7 of chunk 0. -/
theorem part7 (v2 : BitVec 32) (v154 : BitVec 32) :
    Tri A K c (SndS A c 0 5) (onBufs k0_part7 c v2 v154) (fun _ => SndS A c 0 7) := by
  unfold onBufs
  rw [k0_part7_eq_skeleton]
  exact Tri.seq (send_step 0 5 (by decide) (k0_dev21_eq c) (k0_off3_eq c) (send_sem 0 6 _ rfl) (recv_sem 0 c _ (k0_off2_eq c))) fun _ =>
    Tri.seq (send_step 0 6 (by decide) (k0_dev22_eq c) (k0_off3_eq c) (send_sem 0 7 _ rfl) (recv_sem 0 c _ (k0_off2_eq c))) fun _ =>
    Tri.ret _

/-- Copies 8 to 9 of chunk 0. -/
theorem part8 (v2 : BitVec 32) (v179 : BitVec 32) (c1_i32_186 : BitVec 32) :
    Tri A K c (SndS A c 0 7) (onBufs k0_part8 c v2 v179 c1_i32_186) (fun _ => SndS A c 0 9) := by
  unfold onBufs
  rw [k0_part8_eq_skeleton]
  exact Tri.seq (send_step 0 7 (by decide) (k0_dev23_eq c) (k0_off3_eq c) (send_sem 0 8 _ rfl) (recv_sem 0 c _ (k0_off2_eq c))) fun _ =>
    Tri.seq (send_step 0 8 (by decide) (k0_dev24_eq c) (k0_off3_eq c) (send_sem 0 9 _ rfl) (recv_sem 0 c _ (k0_off2_eq c))) fun _ =>
    Tri.ret _

/-- Copies 10 to 12 of chunk 0. -/
theorem part9 (v2 : BitVec 32) :
    Tri A K c (SndS A c 0 9) (onBufs k0_part9 c v2) (fun _ => SndS A c 0 12) := by
  unfold onBufs
  rw [k0_part9_eq_skeleton]
  exact Tri.seq (send_step 0 9 (by decide) (k0_dev25_eq c) (k0_off3_eq c) (send_sem 0 10 _ rfl) (recv_sem 0 c _ (k0_off2_eq c))) fun _ =>
    Tri.seq (send_step 0 10 (by decide) (k0_dev26_eq c) (k0_off3_eq c) (send_sem 0 11 _ rfl) (recv_sem 0 c _ (k0_off2_eq c))) fun _ =>
    Tri.seq (send_step 0 11 (by decide) (k0_dev27_eq c) (k0_off3_eq c) (send_sem 0 12 _ rfl) (recv_sem 0 c _ (k0_off2_eq c))) fun _ =>
    Tri.ret _

/-- Copies 13 to 14 of chunk 0. -/
theorem part10 (v2 : BitVec 32) :
    Tri A K c (SndS A c 0 12) (onBufs k0_part10 c v2) (fun _ => SndS A c 0 14) := by
  unfold onBufs
  rw [k0_part10_eq_skeleton]
  exact Tri.seq (send_step 0 12 (by decide) (k0_dev28_eq c) (k0_off3_eq c) (send_sem 0 13 _ rfl) (recv_sem 0 c _ (k0_off2_eq c))) fun _ =>
    Tri.seq (send_step 0 13 (by decide) (k0_dev29_eq c) (k0_off3_eq c) (send_sem 0 14 _ rfl) (recv_sem 0 c _ (k0_off2_eq c))) fun _ =>
    Tri.ret _

/-- The last copy of chunk 0, and the statistics of the next. -/
theorem part11 (v2 : BitVec 32) (v263 : BitVec 32) :
    Tri A K c iprop(SndS A c 0 14 ∗ crd c (inI 1) (dmaAmt (inI 1).val) ∗ at0 c (inI 1) ∗ slotE c c (1 : Fin 4).val) (onBufs k0_part11 c v2 v263) (fun _ => iprop(StatPost A c 1 30 ∗ SndDone A c 0)) := by
  unfold onBufs
  rw [k0_part11_eq_skeleton]
  refine Tri.seq ((send_step 0 14 (by decide) (k0_dev30_eq c) (k0_off3_eq c) (send_sem 0 15 _ rfl) (recv_sem 0 c _ (k0_off2_eq c))).frame _) fun _ => Tri.pre (stats_then 1 30 (in_sem 1 _ rfl) rfl (k0_off4_eq c) (fun _ => rfl) (X := SndDone A c 0) fun _ => Tri.ret _) ?_
  unfold StatPre
  iintro ⟨HS, Hc, Ha, Hs⟩
  ihave HS := (snd_end A c 0 (n := 30) rfl) $$ HS
  icases HS with ⟨HD, HO⟩
  isplitr [HD]
  · isplitl [Hc]; · iexact Hc
    isplitl [Ha]; · iexact Ha
    isplitl [Hs] <;> iassumption
  iexact HD

/-- Copies 1 to 2 of chunk 1. -/
theorem part12 (v2 : BitVec 32) :
    Tri A K c (SndS A c 1 0) (onBufs k0_part12 c v2) (fun _ => SndS A c 1 2) := by
  unfold onBufs
  rw [k0_part12_eq_skeleton]
  exact Tri.seq (send_step 1 0 (by decide) (k0_dev31_eq c) (k0_off6_eq c) (send_sem 1 1 _ rfl) (recv_sem 1 c _ (k0_off5_eq c))) fun _ =>
    Tri.seq (send_step 1 1 (by decide) (k0_dev32_eq c) (k0_off6_eq c) (send_sem 1 2 _ rfl) (recv_sem 1 c _ (k0_off5_eq c))) fun _ =>
    Tri.ret _

/-- Copies 3 to 5 of chunk 1. -/
theorem part13 (v2 : BitVec 32) :
    Tri A K c (SndS A c 1 2) (onBufs k0_part13 c v2) (fun _ => SndS A c 1 5) := by
  unfold onBufs
  rw [k0_part13_eq_skeleton]
  exact Tri.seq (send_step 1 2 (by decide) (k0_dev33_eq c) (k0_off6_eq c) (send_sem 1 3 _ rfl) (recv_sem 1 c _ (k0_off5_eq c))) fun _ =>
    Tri.seq (send_step 1 3 (by decide) (k0_dev34_eq c) (k0_off6_eq c) (send_sem 1 4 _ rfl) (recv_sem 1 c _ (k0_off5_eq c))) fun _ =>
    Tri.seq (send_step 1 4 (by decide) (k0_dev35_eq c) (k0_off6_eq c) (send_sem 1 5 _ rfl) (recv_sem 1 c _ (k0_off5_eq c))) fun _ =>
    Tri.ret _

/-- Copies 6 to 7 of chunk 1. -/
theorem part14 (v2 : BitVec 32) (v349 : BitVec 32) :
    Tri A K c (SndS A c 1 5) (onBufs k0_part14 c v2 v349) (fun _ => SndS A c 1 7) := by
  unfold onBufs
  rw [k0_part14_eq_skeleton]
  exact Tri.seq (send_step 1 5 (by decide) (k0_dev36_eq c) (k0_off6_eq c) (send_sem 1 6 _ rfl) (recv_sem 1 c _ (k0_off5_eq c))) fun _ =>
    Tri.seq (send_step 1 6 (by decide) (k0_dev37_eq c) (k0_off6_eq c) (send_sem 1 7 _ rfl) (recv_sem 1 c _ (k0_off5_eq c))) fun _ =>
    Tri.ret _

/-- Copies 8 to 9 of chunk 1. -/
theorem part15 (v2 : BitVec 32) (v374 : BitVec 32) (c0_i32_392 : BitVec 32) :
    Tri A K c (SndS A c 1 7) (onBufs k0_part15 c v2 v374 c0_i32_392) (fun _ => SndS A c 1 9) := by
  unfold onBufs
  rw [k0_part15_eq_skeleton]
  exact Tri.seq (send_step 1 7 (by decide) (k0_dev38_eq c) (k0_off6_eq c) (send_sem 1 8 _ rfl) (recv_sem 1 c _ (k0_off5_eq c))) fun _ =>
    Tri.seq (send_step 1 8 (by decide) (k0_dev39_eq c) (k0_off6_eq c) (send_sem 1 9 _ rfl) (recv_sem 1 c _ (k0_off5_eq c))) fun _ =>
    Tri.ret _

/-- Copies 10 to 12 of chunk 1. -/
theorem part16 (v2 : BitVec 32) :
    Tri A K c (SndS A c 1 9) (onBufs k0_part16 c v2) (fun _ => SndS A c 1 12) := by
  unfold onBufs
  rw [k0_part16_eq_skeleton]
  exact Tri.seq (send_step 1 9 (by decide) (k0_dev40_eq c) (k0_off6_eq c) (send_sem 1 10 _ rfl) (recv_sem 1 c _ (k0_off5_eq c))) fun _ =>
    Tri.seq (send_step 1 10 (by decide) (k0_dev41_eq c) (k0_off6_eq c) (send_sem 1 11 _ rfl) (recv_sem 1 c _ (k0_off5_eq c))) fun _ =>
    Tri.seq (send_step 1 11 (by decide) (k0_dev42_eq c) (k0_off6_eq c) (send_sem 1 12 _ rfl) (recv_sem 1 c _ (k0_off5_eq c))) fun _ =>
    Tri.ret _

/-- Copies 13 to 14 of chunk 1. -/
theorem part17 (v2 : BitVec 32) (v432 : BitVec 32) :
    Tri A K c (SndS A c 1 12) (onBufs k0_part17 c v2 v432) (fun _ => SndS A c 1 14) := by
  unfold onBufs
  rw [k0_part17_eq_skeleton]
  exact Tri.seq (send_step 1 12 (by decide) (k0_dev43_eq c) (k0_off6_eq c) (send_sem 1 13 _ rfl) (recv_sem 1 c _ (k0_off5_eq c))) fun _ =>
    Tri.seq (send_step 1 13 (by decide) (k0_dev44_eq c) (k0_off6_eq c) (send_sem 1 14 _ rfl) (recv_sem 1 c _ (k0_off5_eq c))) fun _ =>
    Tri.ret _

/-- The last copy of chunk 1, and the statistics of the next. -/
theorem part18 (v2 : BitVec 32) (v457 : BitVec 32) (c1_i32_482 : BitVec 32) :
    Tri A K c iprop(SndS A c 1 14 ∗ crd c (inI 2) (dmaAmt (inI 2).val) ∗ at0 c (inI 2) ∗ slotE c c (2 : Fin 4).val) (onBufs k0_part18 c v2 v457 c1_i32_482) (fun _ => iprop(StatPost A c 2 45 ∗ SndDone A c 1)) := by
  unfold onBufs
  rw [k0_part18_eq_skeleton]
  refine Tri.seq ((send_step 1 14 (by decide) (k0_dev45_eq c) (k0_off6_eq c) (send_sem 1 15 _ rfl) (recv_sem 1 c _ (k0_off5_eq c))).frame _) fun _ => Tri.pre (stats_then 2 45 (in_sem 2 _ rfl) rfl (k0_off7_eq c) (fun _ => rfl) (X := SndDone A c 1) fun _ => Tri.ret _) ?_
  unfold StatPre
  iintro ⟨HS, Hc, Ha, Hs⟩
  ihave HS := (snd_end A c 1 (n := 45) rfl) $$ HS
  icases HS with ⟨HD, HO⟩
  isplitr [HD]
  · isplitl [Hc]; · iexact Hc
    isplitl [Ha]; · iexact Ha
    isplitl [Hs] <;> iassumption
  iexact HD

/-- Copies 1 to 2 of chunk 2. -/
theorem part19 (v2 : BitVec 32) :
    Tri A K c (SndS A c 2 0) (onBufs k0_part19 c v2) (fun _ => SndS A c 2 2) := by
  unfold onBufs
  rw [k0_part19_eq_skeleton]
  exact Tri.seq (send_step 2 0 (by decide) (k0_dev46_eq c) (k0_off9_eq c) (send_sem 2 1 _ rfl) (recv_sem 2 c _ (k0_off8_eq c))) fun _ =>
    Tri.seq (send_step 2 1 (by decide) (k0_dev47_eq c) (k0_off9_eq c) (send_sem 2 2 _ rfl) (recv_sem 2 c _ (k0_off8_eq c))) fun _ =>
    Tri.ret _

/-- Copies 3 to 5 of chunk 2. -/
theorem part20 (v2 : BitVec 32) :
    Tri A K c (SndS A c 2 2) (onBufs k0_part20 c v2) (fun _ => SndS A c 2 5) := by
  unfold onBufs
  rw [k0_part20_eq_skeleton]
  exact Tri.seq (send_step 2 2 (by decide) (k0_dev48_eq c) (k0_off9_eq c) (send_sem 2 3 _ rfl) (recv_sem 2 c _ (k0_off8_eq c))) fun _ =>
    Tri.seq (send_step 2 3 (by decide) (k0_dev49_eq c) (k0_off9_eq c) (send_sem 2 4 _ rfl) (recv_sem 2 c _ (k0_off8_eq c))) fun _ =>
    Tri.seq (send_step 2 4 (by decide) (k0_dev50_eq c) (k0_off9_eq c) (send_sem 2 5 _ rfl) (recv_sem 2 c _ (k0_off8_eq c))) fun _ =>
    Tri.ret _

/-- Copies 6 to 7 of chunk 2. -/
theorem part21 (v2 : BitVec 32) (v543 : BitVec 32) :
    Tri A K c (SndS A c 2 5) (onBufs k0_part21 c v2 v543) (fun _ => SndS A c 2 7) := by
  unfold onBufs
  rw [k0_part21_eq_skeleton]
  exact Tri.seq (send_step 2 5 (by decide) (k0_dev51_eq c) (k0_off9_eq c) (send_sem 2 6 _ rfl) (recv_sem 2 c _ (k0_off8_eq c))) fun _ =>
    Tri.seq (send_step 2 6 (by decide) (k0_dev52_eq c) (k0_off9_eq c) (send_sem 2 7 _ rfl) (recv_sem 2 c _ (k0_off8_eq c))) fun _ =>
    Tri.ret _

/-- Copies 8 to 9 of chunk 2. -/
theorem part22 (v2 : BitVec 32) :
    Tri A K c (SndS A c 2 7) (onBufs k0_part22 c v2) (fun _ => SndS A c 2 9) := by
  unfold onBufs
  rw [k0_part22_eq_skeleton]
  exact Tri.seq (send_step 2 7 (by decide) (k0_dev53_eq c) (k0_off9_eq c) (send_sem 2 8 _ rfl) (recv_sem 2 c _ (k0_off8_eq c))) fun _ =>
    Tri.seq (send_step 2 8 (by decide) (k0_dev54_eq c) (k0_off9_eq c) (send_sem 2 9 _ rfl) (recv_sem 2 c _ (k0_off8_eq c))) fun _ =>
    Tri.ret _

/-- Copies 10 to 12 of chunk 2. -/
theorem part23 (v2 : BitVec 32) :
    Tri A K c (SndS A c 2 9) (onBufs k0_part23 c v2) (fun _ => SndS A c 2 12) := by
  unfold onBufs
  rw [k0_part23_eq_skeleton]
  exact Tri.seq (send_step 2 9 (by decide) (k0_dev55_eq c) (k0_off9_eq c) (send_sem 2 10 _ rfl) (recv_sem 2 c _ (k0_off8_eq c))) fun _ =>
    Tri.seq (send_step 2 10 (by decide) (k0_dev56_eq c) (k0_off9_eq c) (send_sem 2 11 _ rfl) (recv_sem 2 c _ (k0_off8_eq c))) fun _ =>
    Tri.seq (send_step 2 11 (by decide) (k0_dev57_eq c) (k0_off9_eq c) (send_sem 2 12 _ rfl) (recv_sem 2 c _ (k0_off8_eq c))) fun _ =>
    Tri.ret _

/-- Copies 13 to 14 of chunk 2. -/
theorem part24 (v2 : BitVec 32) (v627 : BitVec 32) :
    Tri A K c (SndS A c 2 12) (onBufs k0_part24 c v2 v627) (fun _ => SndS A c 2 14) := by
  unfold onBufs
  rw [k0_part24_eq_skeleton]
  exact Tri.seq (send_step 2 12 (by decide) (k0_dev58_eq c) (k0_off9_eq c) (send_sem 2 13 _ rfl) (recv_sem 2 c _ (k0_off8_eq c))) fun _ =>
    Tri.seq (send_step 2 13 (by decide) (k0_dev59_eq c) (k0_off9_eq c) (send_sem 2 14 _ rfl) (recv_sem 2 c _ (k0_off8_eq c))) fun _ =>
    Tri.ret _

/-- The last copy of chunk 2, and the statistics of the next. -/
theorem part25 (v2 : BitVec 32) (v652 : BitVec 32) (c0_i32_688 : BitVec 32) :
    Tri A K c iprop(SndS A c 2 14 ∗ crd c (inI 3) (dmaAmt (inI 3).val) ∗ at0 c (inI 3) ∗ slotE c c (3 : Fin 4).val) (onBufs k0_part25 c v2 v652 c0_i32_688) (fun _ => iprop(StatPost A c 3 60 ∗ SndDone A c 2)) := by
  unfold onBufs
  rw [k0_part25_eq_skeleton]
  refine Tri.seq ((send_step 2 14 (by decide) (k0_dev60_eq c) (k0_off9_eq c) (send_sem 2 15 _ rfl) (recv_sem 2 c _ (k0_off8_eq c))).frame _) fun _ => Tri.pre (stats_then 3 60 (in_sem 3 _ rfl) rfl (k0_off10_eq c) (fun _ => rfl) (X := SndDone A c 2) fun _ => Tri.ret _) ?_
  unfold StatPre
  iintro ⟨HS, Hc, Ha, Hs⟩
  ihave HS := (snd_end A c 2 (n := 60) rfl) $$ HS
  icases HS with ⟨HD, HO⟩
  isplitr [HD]
  · isplitl [Hc]; · iexact Hc
    isplitl [Ha]; · iexact Ha
    isplitl [Hs] <;> iassumption
  iexact HD

/-- Copies 1 to 3 of chunk 3. -/
theorem part26 (v2 : BitVec 32) :
    Tri A K c (SndS A c 3 0) (onBufs k0_part26 c v2) (fun _ => SndS A c 3 3) := by
  unfold onBufs
  rw [k0_part26_eq_skeleton]
  exact Tri.seq (send_step 3 0 (by decide) (k0_dev61_eq c) (k0_off12_eq c) (send_sem 3 1 _ rfl) (recv_sem 3 c _ (k0_off11_eq c))) fun _ =>
    Tri.seq (send_step 3 1 (by decide) (k0_dev62_eq c) (k0_off12_eq c) (send_sem 3 2 _ rfl) (recv_sem 3 c _ (k0_off11_eq c))) fun _ =>
    Tri.seq (send_step 3 2 (by decide) (k0_dev63_eq c) (k0_off12_eq c) (send_sem 3 3 _ rfl) (recv_sem 3 c _ (k0_off11_eq c))) fun _ =>
    Tri.ret _

/-- Copies 4 to 5 of chunk 3. -/
theorem part27 (v2 : BitVec 32) :
    Tri A K c (SndS A c 3 3) (onBufs k0_part27 c v2) (fun _ => SndS A c 3 5) := by
  unfold onBufs
  rw [k0_part27_eq_skeleton]
  exact Tri.seq (send_step 3 3 (by decide) (k0_dev64_eq c) (k0_off12_eq c) (send_sem 3 4 _ rfl) (recv_sem 3 c _ (k0_off11_eq c))) fun _ =>
    Tri.seq (send_step 3 4 (by decide) (k0_dev65_eq c) (k0_off12_eq c) (send_sem 3 5 _ rfl) (recv_sem 3 c _ (k0_off11_eq c))) fun _ =>
    Tri.ret _

/-- Copies 6 to 7 of chunk 3. -/
theorem part28 (v2 : BitVec 32) (v737 : BitVec 32) :
    Tri A K c (SndS A c 3 5) (onBufs k0_part28 c v2 v737) (fun _ => SndS A c 3 7) := by
  unfold onBufs
  rw [k0_part28_eq_skeleton]
  exact Tri.seq (send_step 3 5 (by decide) (k0_dev66_eq c) (k0_off12_eq c) (send_sem 3 6 _ rfl) (recv_sem 3 c _ (k0_off11_eq c))) fun _ =>
    Tri.seq (send_step 3 6 (by decide) (k0_dev67_eq c) (k0_off12_eq c) (send_sem 3 7 _ rfl) (recv_sem 3 c _ (k0_off11_eq c))) fun _ =>
    Tri.ret _

/-- Copies 8 to 9 of chunk 3. -/
theorem part29 (v2 : BitVec 32) :
    Tri A K c (SndS A c 3 7) (onBufs k0_part29 c v2) (fun _ => SndS A c 3 9) := by
  unfold onBufs
  rw [k0_part29_eq_skeleton]
  exact Tri.seq (send_step 3 7 (by decide) (k0_dev68_eq c) (k0_off12_eq c) (send_sem 3 8 _ rfl) (recv_sem 3 c _ (k0_off11_eq c))) fun _ =>
    Tri.seq (send_step 3 8 (by decide) (k0_dev69_eq c) (k0_off12_eq c) (send_sem 3 9 _ rfl) (recv_sem 3 c _ (k0_off11_eq c))) fun _ =>
    Tri.ret _

/-- Copies 10 to 12 of chunk 3. -/
theorem part30 (v2 : BitVec 32) :
    Tri A K c (SndS A c 3 9) (onBufs k0_part30 c v2) (fun _ => SndS A c 3 12) := by
  unfold onBufs
  rw [k0_part30_eq_skeleton]
  exact Tri.seq (send_step 3 9 (by decide) (k0_dev70_eq c) (k0_off12_eq c) (send_sem 3 10 _ rfl) (recv_sem 3 c _ (k0_off11_eq c))) fun _ =>
    Tri.seq (send_step 3 10 (by decide) (k0_dev71_eq c) (k0_off12_eq c) (send_sem 3 11 _ rfl) (recv_sem 3 c _ (k0_off11_eq c))) fun _ =>
    Tri.seq (send_step 3 11 (by decide) (k0_dev72_eq c) (k0_off12_eq c) (send_sem 3 12 _ rfl) (recv_sem 3 c _ (k0_off11_eq c))) fun _ =>
    Tri.ret _

/-- Copies 13 to 14 of chunk 3. -/
theorem part31 (v2 : BitVec 32) (v821 : BitVec 32) :
    Tri A K c (SndS A c 3 12) (onBufs k0_part31 c v2 v821) (fun _ => SndS A c 3 14) := by
  unfold onBufs
  rw [k0_part31_eq_skeleton]
  exact Tri.seq (send_step 3 12 (by decide) (k0_dev73_eq c) (k0_off12_eq c) (send_sem 3 13 _ rfl) (recv_sem 3 c _ (k0_off11_eq c))) fun _ =>
    Tri.seq (send_step 3 13 (by decide) (k0_dev74_eq c) (k0_off12_eq c) (send_sem 3 14 _ rfl) (recv_sem 3 c _ (k0_off11_eq c))) fun _ =>
    Tri.ret _

/-- The last copy of all, the windows, and the first receipt. -/
theorem part32 (v2 : BitVec 32) :
    Tri A K c iprop(SndS A c 3 14 ∗ gamP A c ∗ betP A c ∗ RcvR c 0) (onBufs k0_part32 c v2) (fun a => iprop(⌜a.1 = k0_pay5 (A.gam c) ∧ a.2 = k0_pay6 (A.bet c)⌝ ∗ RcvS A c 0 1 ∗ gamP A c ∗ betP A c ∗ SndDone A c 3)) := by
  unfold onBufs
  rw [k0_part32_eq_skeleton]
  refine Tri.seq ((send_step 3 14 (by decide) (k0_dev75_eq c) (k0_off12_eq c) (send_sem 3 15 _ rfl) (recv_sem 3 c _ (k0_off11_eq c))).frame _) fun _ => ?_
  refine Tri.seq ((((load_gam rfl).frame iprop(SndS A c 3 15 ∗ betP A c ∗ RcvR c 0))).pre sep_left_comm.1) fun v => Tri.pre (Tri.fact fun hv => ?_) sep_assoc.1
  refine Tri.seq (((load_bet rfl).frame iprop(gamP A c ∗ SndS A c 3 15 ∗ RcvR c 0)).pre ?_) fun w => Tri.pre (Tri.fact fun hw => ?_) sep_assoc.1
  · iintro ⟨Hg, HS, Hb, HR⟩
    isplitl [Hb]; · iexact Hb
    isplitl [Hg]; · iexact Hg
    isplitl [HS] <;> iassumption
  refine Tri.seq (((recv_step 0 0 (by decide) (recv_sem 0 (nxt c 0) _ (k0_off13_eq c ⟨0, by decide⟩))).frame iprop(gamP A c ∗ betP A c ∗ SndDone A c 3)).pre ?_) fun _ => (Tri.ret _).pre ?_
  · iintro ⟨Hb, Hg, HS, HR⟩
    ihave HS := (snd_end A c 3 (n := 75) rfl) $$ HS
    icases HS with ⟨HD, HO⟩
    isplitl [HR HO]
    · iapply (rcv_begin A c 0)
      isplitl [HR] <;> iassumption
    isplitl [Hg]; · iexact Hg
    isplitl [Hb] <;> iassumption
  · iintro H
    isplitr; · ipureintro; exact ⟨by rw [hv], by rw [hw]⟩
    iexact H

/-- Receipts 2 to 4 of chunk 0. -/
theorem part33 (v2 : BitVec 32) :
    Tri A K c (RcvS A c 0 1) (onBufs k0_part33 c v2) (fun _ => RcvS A c 0 4) := by
  unfold onBufs
  rw [k0_part33_eq_skeleton]
  exact Tri.seq (recv_step 0 1 (by decide) (recv_sem 0 (nxt c 1) _ (k0_off13_eq c ⟨1, by decide⟩))) fun _ =>
    Tri.seq (recv_step 0 2 (by decide) (recv_sem 0 (nxt c 2) _ (k0_off13_eq c ⟨2, by decide⟩))) fun _ =>
    Tri.seq (recv_step 0 3 (by decide) (recv_sem 0 (nxt c 3) _ (k0_off13_eq c ⟨3, by decide⟩))) fun _ =>
    Tri.ret _

/-- Receipts 5 to 6 of chunk 0. -/
theorem part34 (v2 : BitVec 32) (v902 : BitVec 32) :
    Tri A K c (RcvS A c 0 4) (onBufs k0_part34 c v2 v902) (fun _ => RcvS A c 0 6) := by
  unfold onBufs
  rw [k0_part34_eq_skeleton]
  exact Tri.seq (recv_step 0 4 (by decide) (recv_sem 0 (nxt c 4) _ (k0_off13_eq c ⟨4, by decide⟩))) fun _ =>
    Tri.seq (recv_step 0 5 (by decide) (recv_sem 0 (nxt c 5) _ (k0_off13_eq c ⟨5, by decide⟩))) fun _ =>
    Tri.ret _

/-- Receipts 7 to 9 of chunk 0. -/
theorem part35 (v2 : BitVec 32) :
    Tri A K c (RcvS A c 0 6) (onBufs k0_part35 c v2) (fun _ => RcvS A c 0 9) := by
  unfold onBufs
  rw [k0_part35_eq_skeleton]
  exact Tri.seq (recv_step 0 6 (by decide) (recv_sem 0 (nxt c 6) _ (k0_off13_eq c ⟨6, by decide⟩))) fun _ =>
    Tri.seq (recv_step 0 7 (by decide) (recv_sem 0 (nxt c 7) _ (k0_off13_eq c ⟨7, by decide⟩))) fun _ =>
    Tri.seq (recv_step 0 8 (by decide) (recv_sem 0 (nxt c 8) _ (k0_off13_eq c ⟨8, by decide⟩))) fun _ =>
    Tri.ret _

/-- Receipts 10 to 11 of chunk 0. -/
theorem part36 (v2 : BitVec 32) (v952 : BitVec 32) :
    Tri A K c (RcvS A c 0 9) (onBufs k0_part36 c v2 v952) (fun _ => RcvS A c 0 11) := by
  unfold onBufs
  rw [k0_part36_eq_skeleton]
  exact Tri.seq (recv_step 0 9 (by decide) (recv_sem 0 (nxt c 9) _ (k0_off13_eq c ⟨9, by decide⟩))) fun _ =>
    Tri.seq (recv_step 0 10 (by decide) (recv_sem 0 (nxt c 10) _ (k0_off13_eq c ⟨10, by decide⟩))) fun _ =>
    Tri.ret _

/-- Receipts 12 to 14 of chunk 0. -/
theorem part37 (v2 : BitVec 32) :
    Tri A K c (RcvS A c 0 11) (onBufs k0_part37 c v2) (fun _ => RcvS A c 0 14) := by
  unfold onBufs
  rw [k0_part37_eq_skeleton]
  exact Tri.seq (recv_step 0 11 (by decide) (recv_sem 0 (nxt c 11) _ (k0_off13_eq c ⟨11, by decide⟩))) fun _ =>
    Tri.seq (recv_step 0 12 (by decide) (recv_sem 0 (nxt c 12) _ (k0_off13_eq c ⟨12, by decide⟩))) fun _ =>
    Tri.seq (recv_step 0 13 (by decide) (recv_sem 0 (nxt c 13) _ (k0_off13_eq c ⟨13, by decide⟩))) fun _ =>
    Tri.ret _

/-- The last receipt of chunk 0, and its normalised rows. -/
theorem part38 (v2 : BitVec 32) (v858 : FVec F S1x1x1024 .f32) (v861 : FVec F S1x1x1024 .f32) (v1002 : BitVec 32) :
    Tri A K c iprop(RcvS A c 0 14 ∗ slotQ c (shareDrop fullShare 15) c (0 : Fin 4).val (statG A) ∗ xvP c (0 : Fin 4).val (A.x c)) (onBufs k0_part38 c v2 v858 v861 v1002) (fun a => iprop(⌜a = k0_pay7 v858 v861 (stripOf (statG A) 0) (chunkOf (A.x c) 0)⌝ ∗ StripS A c 0 ∗ xvP c (0 : Fin 4).val (A.x c) ∗ RcvAt c 0 ∗ Ow c 75)) := by
  unfold onBufs
  rw [k0_part38_eq_skeleton]
  refine Tri.seq ((recv_step 0 14 (by decide) (recv_sem 0 (nxt c 14) _ (k0_off13_eq c ⟨14, by decide⟩))).frame _) fun _ => Tri.pre (strip_then 0 (X := iprop(RcvAt c 0 ∗ Ow c 75)) rfl rfl ((Tri.ret _).pre ?_)) ?_
  · iintro H
    isplitr; · ipureintro; rfl
    iexact H
  · iintro ⟨HR, Hs, Hx⟩
    ihave H := (rcv_end A c 0) $$ [HR Hs]
    · isplitl [HR] <;> iassumption
    icases H with ⟨HS, HA⟩
    isplitl [HS]; · iexact HS
    isplitl [Hx] <;> iassumption

/-- The store of the result of chunk 0, its copy out, and the first receipt of the next. -/
theorem part39 (v2 : BitVec 32) (v1038 : FVec F S512x1024 .f32) (hv : k0_pay8 v1038 = outC A c 0) :
    Tri A K c iprop(xvP c (0 : Fin 4).val (A.x c) ∗ OutTok c 0 ∗ RcvR c 1 ∗ Ow c 75) (onBufs k0_part39 c v2 v1038) (fun _ => iprop(RcvS A c 1 1 ∗ crd c (outI 0) (dmaAmt (outI 0).val))) := by
  unfold onBufs
  rw [k0_part39_eq_skeleton]
  refine result_then 0 rfl hv fun _ => ?_
  refine Tri.seq (((out_start 0 rfl (out_sem 0 _ rfl)).frame iprop(RcvR c 1 ∗ Ow c 75)).pre ?_) fun _ => ?_
  · iintro ⟨Hx, ⟨Hr, Ht⟩, HR, HO⟩
    isplitl [Hx Hr Ht]
    · isplitl [Hx]; · iexact Hx
      isplitl [Hr] <;> iassumption
    isplitl [HR] <;> iassumption
  refine Tri.seq (((recv_step 1 0 (by decide) (recv_sem 1 (nxt c 0) _ (k0_off15_eq c ⟨0, by decide⟩))).frame (crd c (outI 0) (dmaAmt (outI 0).val))).pre ?_) fun _ => Tri.ret _
  iintro ⟨Hc, HR⟩
  isplitl [HR]
  · iapply (rcv_begin A c 1); iexact HR
  iexact Hc

/-- Receipts 2 to 4 of chunk 1. -/
theorem part40 (v2 : BitVec 32) :
    Tri A K c (RcvS A c 1 1) (onBufs k0_part40 c v2) (fun _ => RcvS A c 1 4) := by
  unfold onBufs
  rw [k0_part40_eq_skeleton]
  exact Tri.seq (recv_step 1 1 (by decide) (recv_sem 1 (nxt c 1) _ (k0_off15_eq c ⟨1, by decide⟩))) fun _ =>
    Tri.seq (recv_step 1 2 (by decide) (recv_sem 1 (nxt c 2) _ (k0_off15_eq c ⟨2, by decide⟩))) fun _ =>
    Tri.seq (recv_step 1 3 (by decide) (recv_sem 1 (nxt c 3) _ (k0_off15_eq c ⟨3, by decide⟩))) fun _ =>
    Tri.ret _

/-- Receipts 5 to 6 of chunk 1. -/
theorem part41 (v2 : BitVec 32) :
    Tri A K c (RcvS A c 1 4) (onBufs k0_part41 c v2) (fun _ => RcvS A c 1 6) := by
  unfold onBufs
  rw [k0_part41_eq_skeleton]
  exact Tri.seq (recv_step 1 4 (by decide) (recv_sem 1 (nxt c 4) _ (k0_off15_eq c ⟨4, by decide⟩))) fun _ =>
    Tri.seq (recv_step 1 5 (by decide) (recv_sem 1 (nxt c 5) _ (k0_off15_eq c ⟨5, by decide⟩))) fun _ =>
    Tri.ret _

/-- Receipts 7 to 9 of chunk 1. -/
theorem part42 (v2 : BitVec 32) :
    Tri A K c (RcvS A c 1 6) (onBufs k0_part42 c v2) (fun _ => RcvS A c 1 9) := by
  unfold onBufs
  rw [k0_part42_eq_skeleton]
  exact Tri.seq (recv_step 1 6 (by decide) (recv_sem 1 (nxt c 6) _ (k0_off15_eq c ⟨6, by decide⟩))) fun _ =>
    Tri.seq (recv_step 1 7 (by decide) (recv_sem 1 (nxt c 7) _ (k0_off15_eq c ⟨7, by decide⟩))) fun _ =>
    Tri.seq (recv_step 1 8 (by decide) (recv_sem 1 (nxt c 8) _ (k0_off15_eq c ⟨8, by decide⟩))) fun _ =>
    Tri.ret _

/-- Receipts 10 to 11 of chunk 1. -/
theorem part43 (v2 : BitVec 32) :
    Tri A K c (RcvS A c 1 9) (onBufs k0_part43 c v2) (fun _ => RcvS A c 1 11) := by
  unfold onBufs
  rw [k0_part43_eq_skeleton]
  exact Tri.seq (recv_step 1 9 (by decide) (recv_sem 1 (nxt c 9) _ (k0_off15_eq c ⟨9, by decide⟩))) fun _ =>
    Tri.seq (recv_step 1 10 (by decide) (recv_sem 1 (nxt c 10) _ (k0_off15_eq c ⟨10, by decide⟩))) fun _ =>
    Tri.ret _

/-- Receipts 12 to 14 of chunk 1. -/
theorem part44 (v2 : BitVec 32) :
    Tri A K c (RcvS A c 1 11) (onBufs k0_part44 c v2) (fun _ => RcvS A c 1 14) := by
  unfold onBufs
  rw [k0_part44_eq_skeleton]
  exact Tri.seq (recv_step 1 11 (by decide) (recv_sem 1 (nxt c 11) _ (k0_off15_eq c ⟨11, by decide⟩))) fun _ =>
    Tri.seq (recv_step 1 12 (by decide) (recv_sem 1 (nxt c 12) _ (k0_off15_eq c ⟨12, by decide⟩))) fun _ =>
    Tri.seq (recv_step 1 13 (by decide) (recv_sem 1 (nxt c 13) _ (k0_off15_eq c ⟨13, by decide⟩))) fun _ =>
    Tri.ret _

/-- The last receipt of chunk 1, its strip, and the store of its result. -/
theorem part45 (v2 : BitVec 32) (v858 : FVec F S1x1x1024 .f32) (v861 : FVec F S1x1x1024 .f32) (hg : v858 = k0_pay5 (A.gam c)) (hb : v861 = k0_pay6 (A.bet c)) :
    Tri A K c iprop(RcvS A c 1 14 ∗ slotQ c (shareDrop fullShare 15) c (1 : Fin 4).val (statG A) ∗ xvP c (1 : Fin 4).val (A.x c)) (onBufs k0_part45 c v2 v858 v861) (fun _ => iprop(StripS A c 1 ∗ RcvAt c 1 ∗ xvP c (1 : Fin 4).val (outG A c) ∗ Ow c 75)) := by
  unfold onBufs
  rw [k0_part45_eq_skeleton]
  refine Tri.seq ((recv_step 1 14 (by decide) (recv_sem 1 (nxt c 14) _ (k0_off15_eq c ⟨14, by decide⟩))).frame _) fun _ => Tri.pre (strip_then 1 (X := iprop(RcvAt c 1 ∗ Ow c 75)) rfl rfl ?_) ?_
  · refine Tri.pre (result_then 1 (X := iprop(StripS A c 1 ∗ RcvAt c 1 ∗ Ow c 75)) rfl (by rw [hg, hb]; rfl) fun _ => ?_) sep_left_comm.1
    refine (Tri.ret _).pre ?_
    iintro ⟨Hx, HS, HA, HO⟩
    isplitl [HS]; · iexact HS
    isplitl [HA]; · iexact HA
    isplitl [Hx] <;> iassumption
  · iintro ⟨HR, Hs, Hx⟩
    ihave H := (rcv_end A c 1) $$ [HR Hs]
    · isplitl [HR] <;> iassumption
    icases H with ⟨HS, HA⟩
    isplitl [HS]; · iexact HS
    isplitl [Hx] <;> iassumption

/-- The copy out of chunk 1, and the first receipts of the next. -/
theorem part46 (v2 : BitVec 32) :
    Tri A K c iprop(xvP c (1 : Fin 4).val (outG A c) ∗ OutTok c 1 ∗ RcvR c 2 ∗ Ow c 75) (onBufs k0_part46 c v2) (fun _ => iprop(RcvS A c 2 2 ∗ crd c (outI 1) (dmaAmt (outI 1).val))) := by
  unfold onBufs
  rw [k0_part46_eq_skeleton]
  refine Tri.seq (((out_start 1 rfl (out_sem 1 _ rfl)).frame iprop(RcvR c 2 ∗ Ow c 75)).pre ?_) fun _ => ?_
  · iintro ⟨Hx, ⟨Hr, Ht⟩, HR, HO⟩
    isplitl [Hx Hr Ht]
    · isplitl [Hx]; · iexact Hx
      isplitl [Hr] <;> iassumption
    isplitl [HR] <;> iassumption
  refine Tri.seq (((recv_step 2 0 (by decide) (recv_sem 2 (nxt c 0) _ (k0_off17_eq c ⟨0, by decide⟩))).frame (crd c (outI 1) (dmaAmt (outI 1).val))).pre ?_) fun _ => Tri.seq ((recv_step 2 1 (by decide) (recv_sem 2 (nxt c 1) _ (k0_off17_eq c ⟨1, by decide⟩))).frame _) fun _ => Tri.ret _
  iintro ⟨Hc, HR⟩
  isplitl [HR]
  · iapply (rcv_begin A c 2); iexact HR
  iexact Hc

/-- Receipts 3 to 4 of chunk 2. -/
theorem part47 (v2 : BitVec 32) :
    Tri A K c (RcvS A c 2 2) (onBufs k0_part47 c v2) (fun _ => RcvS A c 2 4) := by
  unfold onBufs
  rw [k0_part47_eq_skeleton]
  exact Tri.seq (recv_step 2 2 (by decide) (recv_sem 2 (nxt c 2) _ (k0_off17_eq c ⟨2, by decide⟩))) fun _ =>
    Tri.seq (recv_step 2 3 (by decide) (recv_sem 2 (nxt c 3) _ (k0_off17_eq c ⟨3, by decide⟩))) fun _ =>
    Tri.ret _

/-- Receipts 5 to 7 of chunk 2. -/
theorem part48 (v2 : BitVec 32) :
    Tri A K c (RcvS A c 2 4) (onBufs k0_part48 c v2) (fun _ => RcvS A c 2 7) := by
  unfold onBufs
  rw [k0_part48_eq_skeleton]
  exact Tri.seq (recv_step 2 4 (by decide) (recv_sem 2 (nxt c 4) _ (k0_off17_eq c ⟨4, by decide⟩))) fun _ =>
    Tri.seq (recv_step 2 5 (by decide) (recv_sem 2 (nxt c 5) _ (k0_off17_eq c ⟨5, by decide⟩))) fun _ =>
    Tri.seq (recv_step 2 6 (by decide) (recv_sem 2 (nxt c 6) _ (k0_off17_eq c ⟨6, by decide⟩))) fun _ =>
    Tri.ret _

/-- Receipts 8 to 9 of chunk 2. -/
theorem part49 (v2 : BitVec 32) :
    Tri A K c (RcvS A c 2 7) (onBufs k0_part49 c v2) (fun _ => RcvS A c 2 9) := by
  unfold onBufs
  rw [k0_part49_eq_skeleton]
  exact Tri.seq (recv_step 2 7 (by decide) (recv_sem 2 (nxt c 7) _ (k0_off17_eq c ⟨7, by decide⟩))) fun _ =>
    Tri.seq (recv_step 2 8 (by decide) (recv_sem 2 (nxt c 8) _ (k0_off17_eq c ⟨8, by decide⟩))) fun _ =>
    Tri.ret _

/-- Receipts 10 to 12 of chunk 2. -/
theorem part50 (v2 : BitVec 32) :
    Tri A K c (RcvS A c 2 9) (onBufs k0_part50 c v2) (fun _ => RcvS A c 2 12) := by
  unfold onBufs
  rw [k0_part50_eq_skeleton]
  exact Tri.seq (recv_step 2 9 (by decide) (recv_sem 2 (nxt c 9) _ (k0_off17_eq c ⟨9, by decide⟩))) fun _ =>
    Tri.seq (recv_step 2 10 (by decide) (recv_sem 2 (nxt c 10) _ (k0_off17_eq c ⟨10, by decide⟩))) fun _ =>
    Tri.seq (recv_step 2 11 (by decide) (recv_sem 2 (nxt c 11) _ (k0_off17_eq c ⟨11, by decide⟩))) fun _ =>
    Tri.ret _

/-- Receipts 13 to 14 of chunk 2. -/
theorem part51 (v2 : BitVec 32) :
    Tri A K c (RcvS A c 2 12) (onBufs k0_part51 c v2) (fun _ => RcvS A c 2 14) := by
  unfold onBufs
  rw [k0_part51_eq_skeleton]
  exact Tri.seq (recv_step 2 12 (by decide) (recv_sem 2 (nxt c 12) _ (k0_off17_eq c ⟨12, by decide⟩))) fun _ =>
    Tri.seq (recv_step 2 13 (by decide) (recv_sem 2 (nxt c 13) _ (k0_off17_eq c ⟨13, by decide⟩))) fun _ =>
    Tri.ret _

/-- The last receipt of chunk 2, its strip, and the store of its result. -/
theorem part52 (v858 : FVec F S1x1x1024 .f32) (v861 : FVec F S1x1x1024 .f32) (hg : v858 = k0_pay5 (A.gam c)) (hb : v861 = k0_pay6 (A.bet c)) :
    Tri A K c iprop(RcvS A c 2 14 ∗ slotQ c (shareDrop fullShare 15) c (2 : Fin 4).val (statG A) ∗ xvP c (2 : Fin 4).val (A.x c)) (onBufs k0_part52 c v858 v861) (fun _ => iprop(StripS A c 2 ∗ RcvAt c 2 ∗ xvP c (2 : Fin 4).val (outG A c) ∗ Ow c 75)) := by
  unfold onBufs
  rw [k0_part52_eq_skeleton]
  refine Tri.seq ((recv_step 2 14 (by decide) (recv_sem 2 (nxt c 14) _ (k0_off17_eq c ⟨14, by decide⟩))).frame _) fun _ => Tri.pre (strip_then 2 (X := iprop(RcvAt c 2 ∗ Ow c 75)) rfl rfl ?_) ?_
  · refine Tri.pre (result_then 2 (X := iprop(StripS A c 2 ∗ RcvAt c 2 ∗ Ow c 75)) rfl (by rw [hg, hb]; rfl) fun _ => ?_) sep_left_comm.1
    refine (Tri.ret _).pre ?_
    iintro ⟨Hx, HS, HA, HO⟩
    isplitl [HS]; · iexact HS
    isplitl [HA]; · iexact HA
    isplitl [Hx] <;> iassumption
  · iintro ⟨HR, Hs, Hx⟩
    ihave H := (rcv_end A c 2) $$ [HR Hs]
    · isplitl [HR] <;> iassumption
    icases H with ⟨HS, HA⟩
    isplitl [HS]; · iexact HS
    isplitl [Hx] <;> iassumption

/-- The copy out of chunk 2, and the first receipts of the next. -/
theorem part53 (v2 : BitVec 32) :
    Tri A K c iprop(xvP c (2 : Fin 4).val (outG A c) ∗ OutTok c 2 ∗ RcvR c 3 ∗ Ow c 75) (onBufs k0_part53 c v2) (fun _ => iprop(RcvS A c 3 2 ∗ crd c (outI 2) (dmaAmt (outI 2).val))) := by
  unfold onBufs
  rw [k0_part53_eq_skeleton]
  refine Tri.seq (((out_start 2 rfl (out_sem 2 _ rfl)).frame iprop(RcvR c 3 ∗ Ow c 75)).pre ?_) fun _ => ?_
  · iintro ⟨Hx, ⟨Hr, Ht⟩, HR, HO⟩
    isplitl [Hx Hr Ht]
    · isplitl [Hx]; · iexact Hx
      isplitl [Hr] <;> iassumption
    isplitl [HR] <;> iassumption
  refine Tri.seq (((recv_step 3 0 (by decide) (recv_sem 3 (nxt c 0) _ (k0_off19_eq c ⟨0, by decide⟩))).frame (crd c (outI 2) (dmaAmt (outI 2).val))).pre ?_) fun _ => Tri.seq ((recv_step 3 1 (by decide) (recv_sem 3 (nxt c 1) _ (k0_off19_eq c ⟨1, by decide⟩))).frame _) fun _ => Tri.ret _
  iintro ⟨Hc, HR⟩
  isplitl [HR]
  · iapply (rcv_begin A c 3); iexact HR
  iexact Hc

/-- Receipts 3 to 4 of chunk 3. -/
theorem part54 (v2 : BitVec 32) (v1436 : BitVec 32) :
    Tri A K c (RcvS A c 3 2) (onBufs k0_part54 c v2 v1436) (fun _ => RcvS A c 3 4) := by
  unfold onBufs
  rw [k0_part54_eq_skeleton]
  exact Tri.seq (recv_step 3 2 (by decide) (recv_sem 3 (nxt c 2) _ (k0_off19_eq c ⟨2, by decide⟩))) fun _ =>
    Tri.seq (recv_step 3 3 (by decide) (recv_sem 3 (nxt c 3) _ (k0_off19_eq c ⟨3, by decide⟩))) fun _ =>
    Tri.ret _

/-- Receipts 5 to 7 of chunk 3. -/
theorem part55 (v2 : BitVec 32) :
    Tri A K c (RcvS A c 3 4) (onBufs k0_part55 c v2) (fun _ => RcvS A c 3 7) := by
  unfold onBufs
  rw [k0_part55_eq_skeleton]
  exact Tri.seq (recv_step 3 4 (by decide) (recv_sem 3 (nxt c 4) _ (k0_off19_eq c ⟨4, by decide⟩))) fun _ =>
    Tri.seq (recv_step 3 5 (by decide) (recv_sem 3 (nxt c 5) _ (k0_off19_eq c ⟨5, by decide⟩))) fun _ =>
    Tri.seq (recv_step 3 6 (by decide) (recv_sem 3 (nxt c 6) _ (k0_off19_eq c ⟨6, by decide⟩))) fun _ =>
    Tri.ret _

/-- Receipts 8 to 9 of chunk 3. -/
theorem part56 (v2 : BitVec 32) (v1486 : BitVec 32) :
    Tri A K c (RcvS A c 3 7) (onBufs k0_part56 c v2 v1486) (fun _ => RcvS A c 3 9) := by
  unfold onBufs
  rw [k0_part56_eq_skeleton]
  exact Tri.seq (recv_step 3 7 (by decide) (recv_sem 3 (nxt c 7) _ (k0_off19_eq c ⟨7, by decide⟩))) fun _ =>
    Tri.seq (recv_step 3 8 (by decide) (recv_sem 3 (nxt c 8) _ (k0_off19_eq c ⟨8, by decide⟩))) fun _ =>
    Tri.ret _

/-- Receipts 10 to 12 of chunk 3. -/
theorem part57 (v2 : BitVec 32) :
    Tri A K c (RcvS A c 3 9) (onBufs k0_part57 c v2) (fun _ => RcvS A c 3 12) := by
  unfold onBufs
  rw [k0_part57_eq_skeleton]
  exact Tri.seq (recv_step 3 9 (by decide) (recv_sem 3 (nxt c 9) _ (k0_off19_eq c ⟨9, by decide⟩))) fun _ =>
    Tri.seq (recv_step 3 10 (by decide) (recv_sem 3 (nxt c 10) _ (k0_off19_eq c ⟨10, by decide⟩))) fun _ =>
    Tri.seq (recv_step 3 11 (by decide) (recv_sem 3 (nxt c 11) _ (k0_off19_eq c ⟨11, by decide⟩))) fun _ =>
    Tri.ret _

/-- Receipts 13 to 14 of chunk 3. -/
theorem part58 (v2 : BitVec 32) (v1536 : BitVec 32) :
    Tri A K c (RcvS A c 3 12) (onBufs k0_part58 c v2 v1536) (fun _ => RcvS A c 3 14) := by
  unfold onBufs
  rw [k0_part58_eq_skeleton]
  exact Tri.seq (recv_step 3 12 (by decide) (recv_sem 3 (nxt c 12) _ (k0_off19_eq c ⟨12, by decide⟩))) fun _ =>
    Tri.seq (recv_step 3 13 (by decide) (recv_sem 3 (nxt c 13) _ (k0_off19_eq c ⟨13, by decide⟩))) fun _ =>
    Tri.ret _

/-- The last receipt of chunk 3, its strip, and the store of its result, with the copy out. -/
theorem part59 (v858 : FVec F S1x1x1024 .f32) (v861 : FVec F S1x1x1024 .f32) (hg : v858 = k0_pay5 (A.gam c)) (hb : v861 = k0_pay6 (A.bet c)) :
    Tri A K c iprop(RcvS A c 3 14 ∗ slotQ c (shareDrop fullShare 15) c (3 : Fin 4).val (statG A) ∗ xvP c (3 : Fin 4).val (A.x c) ∗ OutTok c 3) (onBufs k0_part59 c v858 v861) (fun _ => iprop(StripS A c 3 ∗ RcvAt c 3 ∗ crd c (outI 3) (dmaAmt (outI 3).val) ∗ Ow c 75)) := by
  unfold onBufs
  rw [k0_part59_eq_skeleton]
  refine Tri.seq ((recv_step 3 14 (by decide) (recv_sem 3 (nxt c 14) _ (k0_off19_eq c ⟨14, by decide⟩))).frame _) fun _ => Tri.pre (strip_then 3 (X := iprop(RcvAt c 3 ∗ Ow c 75 ∗ OutTok c 3)) rfl rfl ?_) ?_
  · refine Tri.pre (result_then 3 (X := iprop(StripS A c 3 ∗ RcvAt c 3 ∗ Ow c 75 ∗ OutTok c 3)) rfl (by rw [hg, hb]; rfl) fun _ => ?_) sep_left_comm.1
    refine Tri.seq (((out_start 3 rfl (out_sem 3 _ rfl)).frame iprop(StripS A c 3 ∗ RcvAt c 3 ∗ Ow c 75)).pre ?_) fun _ => (Tri.ret _).pre ?_
    · iintro ⟨Hx, HS, HA, HO, Hr, Ht⟩
      isplitl [Hx Hr Ht]
      · isplitl [Hx]; · iexact Hx
        isplitl [Hr] <;> iassumption
      isplitl [HS]; · iexact HS
      isplitl [HA] <;> iassumption
    · iintro ⟨Hc, HS, HA, HO⟩
      isplitl [HS]; · iexact HS
      isplitl [HA]; · iexact HA
      isplitl [Hc] <;> iassumption
  · iintro ⟨HR, Hs, Hx, Ho⟩
    ihave H := (rcv_end A c 3) $$ [HR Hs]
    · isplitl [HR] <;> iassumption
    icases H with ⟨HS, HA, HO⟩
    isplitl [HS]; · iexact HS
    isplitl [Hx]; · iexact Hx
    isplitl [HA]; · iexact HA
    isplitl [HO] <;> iassumption

/-- Waits 1 to 3 for the own copies of chunk 0. -/
theorem part60 :
    Tri A K c (WsS A c 0 0) (onBufs k0_part60 c) (fun _ => WsS A c 0 3) := by
  unfold onBufs
  rw [k0_part60_eq_skeleton]
  exact Tri.seq (wsend_step 0 0 (by decide) (send_sem 0 1 _ rfl)) fun _ =>
    Tri.seq (wsend_step 0 1 (by decide) (send_sem 0 2 _ rfl)) fun _ =>
    Tri.seq (wsend_step 0 2 (by decide) (send_sem 0 3 _ rfl)) fun _ =>
    Tri.ret _

/-- Waits 4 to 7 for the own copies of chunk 0. -/
theorem part61 :
    Tri A K c (WsS A c 0 3) (onBufs k0_part61 c) (fun _ => WsS A c 0 7) := by
  unfold onBufs
  rw [k0_part61_eq_skeleton]
  exact Tri.seq (wsend_step 0 3 (by decide) (send_sem 0 4 _ rfl)) fun _ =>
    Tri.seq (wsend_step 0 4 (by decide) (send_sem 0 5 _ rfl)) fun _ =>
    Tri.seq (wsend_step 0 5 (by decide) (send_sem 0 6 _ rfl)) fun _ =>
    Tri.seq (wsend_step 0 6 (by decide) (send_sem 0 7 _ rfl)) fun _ =>
    Tri.ret _

/-- Waits 8 to 10 for the own copies of chunk 0. -/
theorem part62 :
    Tri A K c (WsS A c 0 7) (onBufs k0_part62 c) (fun _ => WsS A c 0 10) := by
  unfold onBufs
  rw [k0_part62_eq_skeleton]
  exact Tri.seq (wsend_step 0 7 (by decide) (send_sem 0 8 _ rfl)) fun _ =>
    Tri.seq (wsend_step 0 8 (by decide) (send_sem 0 9 _ rfl)) fun _ =>
    Tri.seq (wsend_step 0 9 (by decide) (send_sem 0 10 _ rfl)) fun _ =>
    Tri.ret _

/-- Waits 11 to 14 for the own copies of chunk 0. -/
theorem part63 :
    Tri A K c (WsS A c 0 10) (onBufs k0_part63 c) (fun _ => WsS A c 0 14) := by
  unfold onBufs
  rw [k0_part63_eq_skeleton]
  exact Tri.seq (wsend_step 0 10 (by decide) (send_sem 0 11 _ rfl)) fun _ =>
    Tri.seq (wsend_step 0 11 (by decide) (send_sem 0 12 _ rfl)) fun _ =>
    Tri.seq (wsend_step 0 12 (by decide) (send_sem 0 13 _ rfl)) fun _ =>
    Tri.seq (wsend_step 0 13 (by decide) (send_sem 0 14 _ rfl)) fun _ =>
    Tri.ret _

/-- The last waits for the own copies of chunk 0, and the first of chunk 1. -/
theorem part64 :
    Tri A K c iprop(WsS A c 0 14 ∗ WsR c 1) (onBufs k0_part64 c) (fun _ => iprop(WsS A c 1 3 ∗ WsDone A c 0)) := by
  unfold onBufs
  rw [k0_part64_eq_skeleton]
  exact Tri.seq ((wsend_step 0 14 (by decide) (send_sem 0 15 _ rfl)).frame _) fun _ =>
    Tri.seq (((wsend_step 1 0 (by decide) (send_sem 1 1 _ rfl)).frame _).pre (ws_next A c 0 1)) fun _ =>
    Tri.seq ((wsend_step 1 1 (by decide) (send_sem 1 2 _ rfl)).frame _) fun _ =>
    Tri.seq ((wsend_step 1 2 (by decide) (send_sem 1 3 _ rfl)).frame _) fun _ =>
    Tri.ret _

/-- Waits 4 to 6 for the own copies of chunk 1. -/
theorem part65 :
    Tri A K c (WsS A c 1 3) (onBufs k0_part65 c) (fun _ => WsS A c 1 6) := by
  unfold onBufs
  rw [k0_part65_eq_skeleton]
  exact Tri.seq (wsend_step 1 3 (by decide) (send_sem 1 4 _ rfl)) fun _ =>
    Tri.seq (wsend_step 1 4 (by decide) (send_sem 1 5 _ rfl)) fun _ =>
    Tri.seq (wsend_step 1 5 (by decide) (send_sem 1 6 _ rfl)) fun _ =>
    Tri.ret _

/-- Waits 7 to 10 for the own copies of chunk 1. -/
theorem part66 :
    Tri A K c (WsS A c 1 6) (onBufs k0_part66 c) (fun _ => WsS A c 1 10) := by
  unfold onBufs
  rw [k0_part66_eq_skeleton]
  exact Tri.seq (wsend_step 1 6 (by decide) (send_sem 1 7 _ rfl)) fun _ =>
    Tri.seq (wsend_step 1 7 (by decide) (send_sem 1 8 _ rfl)) fun _ =>
    Tri.seq (wsend_step 1 8 (by decide) (send_sem 1 9 _ rfl)) fun _ =>
    Tri.seq (wsend_step 1 9 (by decide) (send_sem 1 10 _ rfl)) fun _ =>
    Tri.ret _

/-- Waits 11 to 13 for the own copies of chunk 1. -/
theorem part67 :
    Tri A K c (WsS A c 1 10) (onBufs k0_part67 c) (fun _ => WsS A c 1 13) := by
  unfold onBufs
  rw [k0_part67_eq_skeleton]
  exact Tri.seq (wsend_step 1 10 (by decide) (send_sem 1 11 _ rfl)) fun _ =>
    Tri.seq (wsend_step 1 11 (by decide) (send_sem 1 12 _ rfl)) fun _ =>
    Tri.seq (wsend_step 1 12 (by decide) (send_sem 1 13 _ rfl)) fun _ =>
    Tri.ret _

/-- The last waits for the own copies of chunk 1, and the first of chunk 2. -/
theorem part68 :
    Tri A K c iprop(WsS A c 1 13 ∗ WsR c 2) (onBufs k0_part68 c) (fun _ => iprop(WsS A c 2 2 ∗ WsDone A c 1)) := by
  unfold onBufs
  rw [k0_part68_eq_skeleton]
  exact Tri.seq ((wsend_step 1 13 (by decide) (send_sem 1 14 _ rfl)).frame _) fun _ =>
    Tri.seq ((wsend_step 1 14 (by decide) (send_sem 1 15 _ rfl)).frame _) fun _ =>
    Tri.seq (((wsend_step 2 0 (by decide) (send_sem 2 1 _ rfl)).frame _).pre (ws_next A c 1 2)) fun _ =>
    Tri.seq ((wsend_step 2 1 (by decide) (send_sem 2 2 _ rfl)).frame _) fun _ =>
    Tri.ret _

/-- Waits 3 to 5 for the own copies of chunk 2. -/
theorem part69 :
    Tri A K c (WsS A c 2 2) (onBufs k0_part69 c) (fun _ => WsS A c 2 5) := by
  unfold onBufs
  rw [k0_part69_eq_skeleton]
  exact Tri.seq (wsend_step 2 2 (by decide) (send_sem 2 3 _ rfl)) fun _ =>
    Tri.seq (wsend_step 2 3 (by decide) (send_sem 2 4 _ rfl)) fun _ =>
    Tri.seq (wsend_step 2 4 (by decide) (send_sem 2 5 _ rfl)) fun _ =>
    Tri.ret _

/-- Waits 6 to 9 for the own copies of chunk 2. -/
theorem part70 :
    Tri A K c (WsS A c 2 5) (onBufs k0_part70 c) (fun _ => WsS A c 2 9) := by
  unfold onBufs
  rw [k0_part70_eq_skeleton]
  exact Tri.seq (wsend_step 2 5 (by decide) (send_sem 2 6 _ rfl)) fun _ =>
    Tri.seq (wsend_step 2 6 (by decide) (send_sem 2 7 _ rfl)) fun _ =>
    Tri.seq (wsend_step 2 7 (by decide) (send_sem 2 8 _ rfl)) fun _ =>
    Tri.seq (wsend_step 2 8 (by decide) (send_sem 2 9 _ rfl)) fun _ =>
    Tri.ret _

/-- Waits 10 to 12 for the own copies of chunk 2. -/
theorem part71 :
    Tri A K c (WsS A c 2 9) (onBufs k0_part71 c) (fun _ => WsS A c 2 12) := by
  unfold onBufs
  rw [k0_part71_eq_skeleton]
  exact Tri.seq (wsend_step 2 9 (by decide) (send_sem 2 10 _ rfl)) fun _ =>
    Tri.seq (wsend_step 2 10 (by decide) (send_sem 2 11 _ rfl)) fun _ =>
    Tri.seq (wsend_step 2 11 (by decide) (send_sem 2 12 _ rfl)) fun _ =>
    Tri.ret _

/-- The last waits for the own copies of chunk 2, and the first of chunk 3. -/
theorem part72 :
    Tri A K c iprop(WsS A c 2 12 ∗ WsR c 3) (onBufs k0_part72 c) (fun _ => iprop(WsS A c 3 1 ∗ WsDone A c 2)) := by
  unfold onBufs
  rw [k0_part72_eq_skeleton]
  exact Tri.seq ((wsend_step 2 12 (by decide) (send_sem 2 13 _ rfl)).frame _) fun _ =>
    Tri.seq ((wsend_step 2 13 (by decide) (send_sem 2 14 _ rfl)).frame _) fun _ =>
    Tri.seq ((wsend_step 2 14 (by decide) (send_sem 2 15 _ rfl)).frame _) fun _ =>
    Tri.seq (((wsend_step 3 0 (by decide) (send_sem 3 1 _ rfl)).frame _).pre (ws_next A c 2 3)) fun _ =>
    Tri.ret _

/-- Waits 2 to 4 for the own copies of chunk 3. -/
theorem part73 :
    Tri A K c (WsS A c 3 1) (onBufs k0_part73 c) (fun _ => WsS A c 3 4) := by
  unfold onBufs
  rw [k0_part73_eq_skeleton]
  exact Tri.seq (wsend_step 3 1 (by decide) (send_sem 3 2 _ rfl)) fun _ =>
    Tri.seq (wsend_step 3 2 (by decide) (send_sem 3 3 _ rfl)) fun _ =>
    Tri.seq (wsend_step 3 3 (by decide) (send_sem 3 4 _ rfl)) fun _ =>
    Tri.ret _

/-- Waits 5 to 8 for the own copies of chunk 3. -/
theorem part74 :
    Tri A K c (WsS A c 3 4) (onBufs k0_part74 c) (fun _ => WsS A c 3 8) := by
  unfold onBufs
  rw [k0_part74_eq_skeleton]
  exact Tri.seq (wsend_step 3 4 (by decide) (send_sem 3 5 _ rfl)) fun _ =>
    Tri.seq (wsend_step 3 5 (by decide) (send_sem 3 6 _ rfl)) fun _ =>
    Tri.seq (wsend_step 3 6 (by decide) (send_sem 3 7 _ rfl)) fun _ =>
    Tri.seq (wsend_step 3 7 (by decide) (send_sem 3 8 _ rfl)) fun _ =>
    Tri.ret _

/-- Waits 9 to 11 for the own copies of chunk 3. -/
theorem part75 :
    Tri A K c (WsS A c 3 8) (onBufs k0_part75 c) (fun _ => WsS A c 3 11) := by
  unfold onBufs
  rw [k0_part75_eq_skeleton]
  exact Tri.seq (wsend_step 3 8 (by decide) (send_sem 3 9 _ rfl)) fun _ =>
    Tri.seq (wsend_step 3 9 (by decide) (send_sem 3 10 _ rfl)) fun _ =>
    Tri.seq (wsend_step 3 10 (by decide) (send_sem 3 11 _ rfl)) fun _ =>
    Tri.ret _

/-- Waits 12 to 15 for the own copies of chunk 3. -/
theorem part76 :
    Tri A K c (WsS A c 3 11) (onBufs k0_part76 c) (fun _ => WsS A c 3 15) := by
  unfold onBufs
  rw [k0_part76_eq_skeleton]
  exact Tri.seq (wsend_step 3 11 (by decide) (send_sem 3 12 _ rfl)) fun _ =>
    Tri.seq (wsend_step 3 12 (by decide) (send_sem 3 13 _ rfl)) fun _ =>
    Tri.seq (wsend_step 3 13 (by decide) (send_sem 3 14 _ rfl)) fun _ =>
    Tri.seq (wsend_step 3 14 (by decide) (send_sem 3 15 _ rfl)) fun _ =>
    Tri.ret _

end Cert.KernelIdeal.Talk
-- ==== Proof.Ideal.Body.lean ====
module

public import proofs.«01_k».proof.Proof.Ideal.Parts

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type} [FloatOps F]

local notation "𝕄" => MT nD τ sig Unit (Elt F) ℕ UU ℕ

variable {A : Ins F} {K : GSem nD τ sig → ℕ} {c : Dev nD}

/-! ## What a device's kernel starts and ends with -/

/-- The tokens of a chunk's remote copies. -/
def SndTok (c : Dev nD) (k : Fin 4) : sProp 𝕄 :=
  bigSep (Finset.range 15) fun j => iprop(dutyTok ER (ownCell (nxt c j) (recvI k c)) 0 0 ∗ dutyTok ER (ownCell c (sendI k (dist j))) 0 0)
/-- The positions of a chunk's send semaphores, before and after. -/
def SndAt0 (c : Dev nD) (k : Fin 4) : sProp 𝕄 := bigSep (Finset.range 15) fun j => at0 c (sendI k (dist j))
def SndAt1 (c : Dev nD) (k : Fin 4) : sProp 𝕄 := bigSep (Finset.range 15) fun j => at1 c (sendI k (dist j))
/-- What the device holds for chunk `k` when the kernel starts. -/
def ChunkPre (A : Ins F) (c : Dev nD) (k : Fin 4) : sProp 𝕄 :=
  iprop(InTok A c k ∗ at0 c (inI k) ∗ slotE c c k.val ∗ SndTok c k ∗ RcvR c k ∗ OutTok c k ∗ at0 c (outI k) ∗ SndAt0 c k)
/-- What it holds for chunk `k` when the kernel ends. -/
def ChunkPost (A : Ins F) (c : Dev nD) (k : Fin 4) : sProp 𝕄 :=
  iprop(argP A c k.val ∗ xvP c k.val (outG A c) ∗ resP c k.val (outG A c)
    ∗ (slotQ c fullShare c k.val (statG A) ∗ bigSep (Finset.range 15) fun j => slotQ c fullShare (nxt c j) k.val (statG A))
    ∗ at1 c (inI k) ∗ at1 c (outI k) ∗ RcvAt c k ∗ SndAt1 c k)

theorem bigSep_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide, bigSep_insert' (by decide), bigSep_insert' (by decide),
    bigSep_insert' (by decide), BI.bigSep_singleton]

/-- A program that only returns. -/
theorem ret_step {α : Type} {R : α → sProp 𝕄} (a : α) :
    R a ⊢ wp Idealize.ShloMosaic.frame (wpE (defs₀ (F := F)) 𝒱₀ (c : Thread nD τ) none) Set.univ (pure a : Prog (TpuEff nD τ sig (Elt F) Λ₀ .tc) α) R := by
  show _ ⊢ wp Idealize.ShloMosaic.frame _ Set.univ (.ret a) R
  rw [wp_ret]
  iintro H; imodintro; iexact H

/-- What the other devices' signals hand over, with the tokens, is what the remote copies need. -/
theorem bar_spread (c : Dev nD) :
    iprop((bigSep (Finset.range 15) fun j => barPay c (nxt c j)) ∗ SndTok c 0 ∗ SndTok c 1 ∗ SndTok c 2 ∗ SndTok c 3 : sProp 𝕄)
      ⊢ iprop(bigSep (Finset.Ico 0 15) (SndRes c 0) ∗ bigSep (Finset.Ico 0 15) (SndRes c 1) ∗ bigSep (Finset.Ico 0 15) (SndRes c 2) ∗ bigSep (Finset.Ico 0 15) (SndRes c 3)) := by
  unfold SndTok
  rw [Ico_all, Ico_all, Ico_all, Ico_all, ← bigSep_sep', ← bigSep_sep', ← bigSep_sep', ← bigSep_sep', ← bigSep_sep', ← bigSep_sep', ← bigSep_sep']
  refine BI.bigSep_mono fun j _ => ?_
  unfold barPay SndRes
  rw [bigSep_four]
  show (_ : sProp 𝕄) ⊢ (_ : sProp 𝕄)
  iintro ⟨⟨⟨H0, R0⟩, ⟨H1, R1⟩, ⟨H2, R2⟩, ⟨H3, R3⟩⟩, ⟨T0, U0⟩, ⟨T1, U1⟩, ⟨T2, U2⟩, ⟨T3, U3⟩⟩
  isplitl [H0 R0 T0 U0]
  · isplitl [H0]; · iexact H0
    isplitl [R0]; · iexact R0
    isplitl [T0]; · iexact T0
    iexact U0
  isplitl [H1 R1 T1 U1]
  · isplitl [H1]; · iexact H1
    isplitl [R1]; · iexact R1
    isplitl [T1]; · iexact T1
    iexact U1
  isplitl [H2 R2 T2 U2]
  · isplitl [H2]; · iexact H2
    isplitl [R2]; · iexact R2
    isplitl [T2]; · iexact T2
    iexact U2
  isplitl [H3]; · iexact H3
  isplitl [R3]; · iexact R3
  isplitl [T3]; · iexact T3
  iexact U3

/-- The credits of a chunk's copies with its send semaphores' positions. -/
theorem ws_of (A : Ins F) (c : Dev nD) (k : Fin 4) :
    iprop((bigSep (Finset.range 15) fun i => crd c (sendI k (dist i)) (dmaAmt (sendI k (dist i)).val)) ∗ SndAt0 c k : sProp 𝕄) ⊢ WsR c k := by
  unfold WsR SndAt0
  rw [bigSep_sep' (Finset.range 15) (fun i => crd c (sendI k (dist i)) (dmaAmt (sendI k (dist i)).val)) (fun i => (at0 c (sendI k (dist i)) : sProp 𝕄))]

/-- The lent shares of the own slot come back together. -/
theorem slot_back (A : Ins F) (c : Dev nD) (k : Fin 4) :
    iprop(StripS A c k ∗ WsDone A c k : sProp 𝕄) ⊢ iprop((slotQ c fullShare c k.val (statG A) ∗ bigSep (Finset.range 15) fun j => slotQ c fullShare (nxt c j) k.val (statG A)) ∗ SndAt1 c k) := by
  unfold StripS WsDone SndAt1
  rw [bigSep_sep' (Finset.range 15) (fun i => (slotQ c (shareTokN fullShare i) c k.val (statG A) : sProp 𝕄)) (fun i => at1 c (sendI k (dist i)))]
  iintro ⟨⟨Hd, Hr⟩, Ht, Ha⟩
  isplitr [Ha]
  · isplitr [Hr]
    · iapply (pointsTo_toks_range (ℓ := (c : Thread nD τ).loc cc0_scratch1) (S := slotSet c.val k.val) (f := statG A) fullShare 15).2
      isplitl [Hd] <;> iassumption
    iexact Hr
  iexact Ha

/-- What is held before the waits for the own copies. -/
def MidS (A : Ins F) (c : Dev nD) (k : Fin 4) : sProp 𝕄 :=
  iprop(at1 c (inI k) ∗ argP A c k.val ∗ StripS A c k ∗ crd c (outI k) (dmaAmt (outI k).val) ∗ RcvAt c k ∗ at0 c (outI k))

set_option maxHeartbeats 4000000 in
/-- The kernel up to the first waits for the own copies. -/
theorem part77 :
    Tri A K c iprop(gamP A c ∗ betP A c ∗ SigS c 0 ∗ cred (tallyAt (barCell c) () 15) ∗ atPos ER (barCell c) 0 ∅ 0
        ∗ ChunkPre A c 0 ∗ ChunkPre A c 1 ∗ ChunkPre A c 2 ∗ ChunkPre A c 3)
      (onBufs k0_part77) fun a => iprop(⌜a = c⌝ ∗ gamP A c ∗ betP A c ∗ atPos ER (barCell c) (0 + 1) ∅ 0 ∗ WsS A c 0 3 ∗ WsR c 1 ∗ WsR c 2 ∗ WsR c 3
        ∗ MidS A c 0 ∗ MidS A c 1 ∗ MidS A c 2 ∗ MidS A c 3) := by
  unfold onBufs
  rw [k0_part77_eq_skeleton]
  unfold Tri k0_part77_skel ChunkPre
  iintro ⟨#HP, Hg, Hb, HS, HC, HB, ⟨HI0, HP0, HE0, HT0, HR0, HQ0, HM0, HN0⟩, ⟨HI1, HP1, HE1, HT1, HR1, HQ1, HM1, HN1⟩, ⟨HI2, HP2, HE2, HT2, HR2, HQ2, HM2, HN2⟩, ⟨HI3, HP3, HE3, HT3, HR3, HQ3, HM3, HN3⟩⟩
  iapply (Tri.step (part1)) $$ [HI0 HI1 HI2 HI3 HS]
  · isplitr; · iexact HP
    isplitl [HI0]; · iexact HI0
    isplitl [HI1]; · iexact HI1
    isplitl [HI2]; · iexact HI2
    isplitl [HI3]; · iexact HI3
    iexact HS
  iintro %a ⟨%hf, HI0, HI1, HI2, HI3, HS⟩
  obtain ⟨d0, v2, v19, v24, c16_i32_20⟩ := a
  dsimp only at hf ⊢
  have hd : c = d0 := hf.1.symm
  have hv : barA = v19 := hf.2.symm
  subst hd hv
  iapply (Tri.step (part2 v2 v24 c16_i32_20)) $$ [HS]
  · isplitr; · iexact HP
    iexact HS
  iintro %a HS
  obtain ⟨v48, c16_i32_45⟩ := a
  dsimp only
  iapply (Tri.step (part3 v2 v48 c16_i32_45)) $$ [HS]
  · isplitr; · iexact HP
    iexact HS
  iintro %a HS
  obtain ⟨v72, c16_i32_69⟩ := a
  dsimp only
  iapply (Tri.step (part4 v2 v72 c16_i32_69)) $$ [HS HI0 HP0 HE0 HC HB]
  · isplitr; · iexact HP
    isplitl [HS]; · iexact HS
    isplitl [HI0 HP0 HE0]
    · isplitl [HI0]; · iexact HI0
      isplitl [HP0]; · iexact HP0
      iexact HE0
    isplitl [HC]; · iexact HC
    iexact HB
  iintro %a ⟨⟨HO, HB, HR⟩, HP0, HX0, HA0, HE0⟩
  obtain ⟨v96, c0_i32_96⟩ := a
  dsimp only
  ihave HR := (bar_spread c) $$ [HR HT0 HT1 HT2 HT3]
  · isplitl [HR]; · iexact HR
    isplitl [HT0]; · iexact HT0
    isplitl [HT1]; · iexact HT1
    isplitl [HT2]; · iexact HT2
    iexact HT3
  icases HR with ⟨HT0, HT1, HT2, HT3⟩
  ihave HS := (snd_begin A c 0 (n := 15) rfl) $$ [HT0 HE0 HO]
  · isplitl [HT0]; · iexact HT0
    isplitl [HE0]; · iexact HE0
    iexact HO
  iapply (Tri.step (part5 v2 v96 c0_i32_96)) $$ [HS]
  · isplitr; · iexact HP
    iexact HS
  iintro %a HS
  dsimp only
  iapply (Tri.step (part6 v2)) $$ [HS]
  · isplitr; · iexact HP
    iexact HS
  iintro %v154 HS
  dsimp only
  iapply (Tri.step (part7 v2 v154)) $$ [HS]
  · isplitr; · iexact HP
    iexact HS
  iintro %a HS
  obtain ⟨v179, c1_i32_186⟩ := a
  dsimp only
  iapply (Tri.step (part8 v2 v179 c1_i32_186)) $$ [HS]
  · isplitr; · iexact HP
    iexact HS
  iintro %a HS
  dsimp only
  iapply (Tri.step (part9 v2)) $$ [HS]
  · isplitr; · iexact HP
    iexact HS
  iintro %a HS
  dsimp only
  iapply (Tri.step (part10 v2)) $$ [HS]
  · isplitr; · iexact HP
    iexact HS
  iintro %v263 HS
  dsimp only
  iapply (Tri.step (part11 v2 v263)) $$ [HS HI1 HP1 HE1]
  · isplitr; · iexact HP
    isplitl [HS]; · iexact HS
    isplitl [HI1]; · iexact HI1
    isplitl [HP1]; · iexact HP1
    iexact HE1
  iintro %a ⟨HY, HD0⟩
  dsimp only
  unfold StatPost
  icases HY with ⟨HP1, HX1, HA1, HE1, HO⟩
  ihave HS := (snd_begin A c 1 (n := 30) rfl) $$ [HT1 HE1 HO]
  · isplitl [HT1]; · iexact HT1
    isplitl [HE1]; · iexact HE1
    iexact HO
  unfold SndDone
  icases HD0 with ⟨HW0, HE0⟩
  iapply (Tri.step (part12 v2)) $$ [HS]
  · isplitr; · iexact HP
    iexact HS
  iintro %a HS
  dsimp only
  iapply (Tri.step (part13 v2)) $$ [HS]
  · isplitr; · iexact HP
    iexact HS
  iintro %v349 HS
  dsimp only
  iapply (Tri.step (part14 v2 v349)) $$ [HS]
  · isplitr; · iexact HP
    iexact HS
  iintro %a HS
  obtain ⟨v374, c0_i32_392⟩ := a
  dsimp only
  iapply (Tri.step (part15 v2 v374 c0_i32_392)) $$ [HS]
  · isplitr; · iexact HP
    iexact HS
  iintro %a HS
  dsimp only
  iapply (Tri.step (part16 v2)) $$ [HS]
  · isplitr; · iexact HP
    iexact HS
  iintro %v432 HS
  dsimp only
  iapply (Tri.step (part17 v2 v432)) $$ [HS]
  · isplitr; · iexact HP
    iexact HS
  iintro %a HS
  obtain ⟨v457, c1_i32_482⟩ := a
  dsimp only
  iapply (Tri.step (part18 v2 v457 c1_i32_482)) $$ [HS HI2 HP2 HE2]
  · isplitr; · iexact HP
    isplitl [HS]; · iexact HS
    isplitl [HI2]; · iexact HI2
    isplitl [HP2]; · iexact HP2
    iexact HE2
  iintro %a ⟨HY, HD1⟩
  dsimp only
  unfold StatPost
  icases HY with ⟨HP2, HX2, HA2, HE2, HO⟩
  ihave HS := (snd_begin A c 2 (n := 45) rfl) $$ [HT2 HE2 HO]
  · isplitl [HT2]; · iexact HT2
    isplitl [HE2]; · iexact HE2
    iexact HO
  unfold SndDone
  icases HD1 with ⟨HW1, HE1⟩
  iapply (Tri.step (part19 v2)) $$ [HS]
  · isplitr; · iexact HP
    iexact HS
  iintro %a HS
  dsimp only
  iapply (Tri.step (part20 v2)) $$ [HS]
  · isplitr; · iexact HP
    iexact HS
  iintro %v543 HS
  dsimp only
  iapply (Tri.step (part21 v2 v543)) $$ [HS]
  · isplitr; · iexact HP
    iexact HS
  iintro %a HS
  dsimp only
  iapply (Tri.step (part22 v2)) $$ [HS]
  · isplitr; · iexact HP
    iexact HS
  iintro %a HS
  dsimp only
  iapply (Tri.step (part23 v2)) $$ [HS]
  · isplitr; · iexact HP
    iexact HS
  iintro %v627 HS
  dsimp only
  iapply (Tri.step (part24 v2 v627)) $$ [HS]
  · isplitr; · iexact HP
    iexact HS
  iintro %a HS
  obtain ⟨v652, c0_i32_688⟩ := a
  dsimp only
  iapply (Tri.step (part25 v2 v652 c0_i32_688)) $$ [HS HI3 HP3 HE3]
  · isplitr; · iexact HP
    isplitl [HS]; · iexact HS
    isplitl [HI3]; · iexact HI3
    isplitl [HP3]; · iexact HP3
    iexact HE3
  iintro %a ⟨HY, HD2⟩
  dsimp only
  unfold StatPost
  icases HY with ⟨HP3, HX3, HA3, HE3, HO⟩
  ihave HS := (snd_begin A c 3 (n := 60) rfl) $$ [HT3 HE3 HO]
  · isplitl [HT3]; · iexact HT3
    isplitl [HE3]; · iexact HE3
    iexact HO
  unfold SndDone
  icases HD2 with ⟨HW2, HE2⟩
  iapply (Tri.step (part26 v2)) $$ [HS]
  · isplitr; · iexact HP
    iexact HS
  iintro %a HS
  dsimp only
  iapply (Tri.step (part27 v2)) $$ [HS]
  · isplitr; · iexact HP
    iexact HS
  iintro %v737 HS
  dsimp only
  iapply (Tri.step (part28 v2 v737)) $$ [HS]
  · isplitr; · iexact HP
    iexact HS
  iintro %a HS
  dsimp only
  iapply (Tri.step (part29 v2)) $$ [HS]
  · isplitr; · iexact HP
    iexact HS
  iintro %a HS
  dsimp only
  iapply (Tri.step (part30 v2)) $$ [HS]
  · isplitr; · iexact HP
    iexact HS
  iintro %v821 HS
  dsimp only
  iapply (Tri.step (part31 v2 v821)) $$ [HS]
  · isplitr; · iexact HP
    iexact HS
  iintro %a HS
  dsimp only
  iapply (Tri.step (part32 v2)) $$ [HS Hg Hb HR0]
  · isplitr; · iexact HP
    isplitl [HS]; · iexact HS
    isplitl [Hg]; · iexact Hg
    isplitl [Hb]; · iexact Hb
    iexact HR0
  iintro %a ⟨%hf, HS, Hg, Hb, HD3⟩
  obtain ⟨v858, v861⟩ := a
  dsimp only at hf ⊢
  obtain ⟨hg, hb⟩ := hf
  unfold SndDone
  icases HD3 with ⟨HW3, HE3⟩
  iapply (Tri.step (part33 v2)) $$ [HS]
  · isplitr; · iexact HP
    iexact HS
  iintro %v902 HS
  dsimp only
  iapply (Tri.step (part34 v2 v902)) $$ [HS]
  · isplitr; · iexact HP
    iexact HS
  iintro %a HS
  dsimp only
  iapply (Tri.step (part35 v2)) $$ [HS]
  · isplitr; · iexact HP
    iexact HS
  iintro %v952 HS
  dsimp only
  iapply (Tri.step (part36 v2 v952)) $$ [HS]
  · isplitr; · iexact HP
    iexact HS
  iintro %a HS
  dsimp only
  iapply (Tri.step (part37 v2)) $$ [HS]
  · isplitr; · iexact HP
    iexact HS
  iintro %v1002 HS
  dsimp only
  iapply (Tri.step (part38 v2 v858 v861 v1002)) $$ [HS HE0 HX0]
  · isplitr; · iexact HP
    isplitl [HS]; · iexact HS
    isplitl [HE0]; · iexact HE0
    iexact HX0
  iintro %v1038 ⟨%hv, HE0, HX0, HR0, HO⟩
  dsimp only
  iapply (Tri.step (part39 v2 v1038 (by rw [hv, hg, hb]; rfl))) $$ [HX0 HQ0 HR1 HO]
  · isplitr; · iexact HP
    isplitl [HX0]; · iexact HX0
    isplitl [HQ0]; · iexact HQ0
    isplitl [HR1]; · iexact HR1
    iexact HO
  iintro %a ⟨HS, HQ0⟩
  dsimp only
  iapply (Tri.step (part40 v2)) $$ [HS]
  · isplitr; · iexact HP
    iexact HS
  iintro %a HS
  dsimp only
  iapply (Tri.step (part41 v2)) $$ [HS]
  · isplitr; · iexact HP
    iexact HS
  iintro %a HS
  dsimp only
  iapply (Tri.step (part42 v2)) $$ [HS]
  · isplitr; · iexact HP
    iexact HS
  iintro %a HS
  dsimp only
  iapply (Tri.step (part43 v2)) $$ [HS]
  · isplitr; · iexact HP
    iexact HS
  iintro %a HS
  dsimp only
  iapply (Tri.step (part44 v2)) $$ [HS]
  · isplitr; · iexact HP
    iexact HS
  iintro %a HS
  dsimp only
  iapply (Tri.step (part45 v2 v858 v861 hg hb)) $$ [HS HE1 HX1]
  · isplitr; · iexact HP
    isplitl [HS]; · iexact HS
    isplitl [HE1]; · iexact HE1
    iexact HX1
  iintro %a ⟨HE1, HR1, HX1, HO⟩
  dsimp only
  iapply (Tri.step (part46 v2)) $$ [HX1 HQ1 HR2 HO]
  · isplitr; · iexact HP
    isplitl [HX1]; · iexact HX1
    isplitl [HQ1]; · iexact HQ1
    isplitl [HR2]; · iexact HR2
    iexact HO
  iintro %a ⟨HS, HQ1⟩
  dsimp only
  iapply (Tri.step (part47 v2)) $$ [HS]
  · isplitr; · iexact HP
    iexact HS
  iintro %a HS
  dsimp only
  iapply (Tri.step (part48 v2)) $$ [HS]
  · isplitr; · iexact HP
    iexact HS
  iintro %a HS
  dsimp only
  iapply (Tri.step (part49 v2)) $$ [HS]
  · isplitr; · iexact HP
    iexact HS
  iintro %a HS
  dsimp only
  iapply (Tri.step (part50 v2)) $$ [HS]
  · isplitr; · iexact HP
    iexact HS
  iintro %a HS
  dsimp only
  iapply (Tri.step (part51 v2)) $$ [HS]
  · isplitr; · iexact HP
    iexact HS
  iintro %a HS
  dsimp only
  iapply (Tri.step (part52 v858 v861 hg hb)) $$ [HS HE2 HX2]
  · isplitr; · iexact HP
    isplitl [HS]; · iexact HS
    isplitl [HE2]; · iexact HE2
    iexact HX2
  iintro %a ⟨HE2, HR2, HX2, HO⟩
  dsimp only
  iapply (Tri.step (part53 v2)) $$ [HX2 HQ2 HR3 HO]
  · isplitr; · iexact HP
    isplitl [HX2]; · iexact HX2
    isplitl [HQ2]; · iexact HQ2
    isplitl [HR3]; · iexact HR3
    iexact HO
  iintro %v1436 ⟨HS, HQ2⟩
  dsimp only
  iapply (Tri.step (part54 v2 v1436)) $$ [HS]
  · isplitr; · iexact HP
    iexact HS
  iintro %a HS
  dsimp only
  iapply (Tri.step (part55 v2)) $$ [HS]
  · isplitr; · iexact HP
    iexact HS
  iintro %v1486 HS
  dsimp only
  iapply (Tri.step (part56 v2 v1486)) $$ [HS]
  · isplitr; · iexact HP
    iexact HS
  iintro %a HS
  dsimp only
  iapply (Tri.step (part57 v2)) $$ [HS]
  · isplitr; · iexact HP
    iexact HS
  iintro %v1536 HS
  dsimp only
  iapply (Tri.step (part58 v2 v1536)) $$ [HS]
  · isplitr; · iexact HP
    iexact HS
  iintro %a HS
  dsimp only
  iapply (Tri.step (part59 v858 v861 hg hb)) $$ [HS HE3 HX3 HQ3]
  · isplitr; · iexact HP
    isplitl [HS]; · iexact HS
    isplitl [HE3]; · iexact HE3
    isplitl [HX3]; · iexact HX3
    iexact HQ3
  iintro %a ⟨HE3, HR3, HQ3, HO⟩
  dsimp only
  ihave HW0 := (ws_of A c 0) $$ [HW0 HN0]
  · isplitl [HW0]; · iexact HW0
    iexact HN0
  ihave HW1 := (ws_of A c 1) $$ [HW1 HN1]
  · isplitl [HW1]; · iexact HW1
    iexact HN1
  ihave HW2 := (ws_of A c 2) $$ [HW2 HN2]
  · isplitl [HW2]; · iexact HW2
    iexact HN2
  ihave HW3 := (ws_of A c 3) $$ [HW3 HN3]
  · isplitl [HW3]; · iexact HW3
    iexact HN3
  ihave HS := (ws_begin A c 0) $$ [HW0 HO]
  · isplitl [HW0]; · iexact HW0
    iexact HO
  iapply (Tri.step (part60)) $$ [HS]
  · isplitr; · iexact HP
    iexact HS
  iintro %a HS
  dsimp only
  iapply (ret_step c)
  isplitr; · ipureintro; rfl
  isplitl [Hg]; · iexact Hg
  isplitl [Hb]; · iexact Hb
  isplitl [HB]; · iexact HB
  isplitl [HS]; · iexact HS
  isplitl [HW1]; · iexact HW1
  isplitl [HW2]; · iexact HW2
  isplitl [HW3]; · iexact HW3
  unfold MidS
  isplitl [HP0 HA0 HE0 HQ0 HR0 HM0]
  · isplitl [HP0]; · iexact HP0
    isplitl [HA0]; · iexact HA0
    isplitl [HE0]; · iexact HE0
    isplitl [HQ0]; · iexact HQ0
    isplitl [HR0]; · iexact HR0
    iexact HM0
  isplitl [HP1 HA1 HE1 HQ1 HR1 HM1]
  · isplitl [HP1]; · iexact HP1
    isplitl [HA1]; · iexact HA1
    isplitl [HE1]; · iexact HE1
    isplitl [HQ1]; · iexact HQ1
    isplitl [HR1]; · iexact HR1
    iexact HM1
  isplitl [HP2 HA2 HE2 HQ2 HR2 HM2]
  · isplitl [HP2]; · iexact HP2
    isplitl [HA2]; · iexact HA2
    isplitl [HE2]; · iexact HE2
    isplitl [HQ2]; · iexact HQ2
    isplitl [HR2]; · iexact HR2
    iexact HM2
  isplitl [HP3]; · iexact HP3
  isplitl [HA3]; · iexact HA3
  isplitl [HE3]; · iexact HE3
  isplitl [HQ3]; · iexact HQ3
  isplitl [HR3]; · iexact HR3
  iexact HM3

set_option maxHeartbeats 4000000 in
/-- The kernel on one device. -/
theorem body :
    Tri A K c iprop(gamP A c ∗ betP A c ∗ SigS c 0 ∗ cred (tallyAt (barCell c) () 15) ∗ atPos ER (barCell c) 0 ∅ 0
        ∗ ChunkPre A c 0 ∗ ChunkPre A c 1 ∗ ChunkPre A c 2 ∗ ChunkPre A c 3)
      (onBufs cc0_body) fun _ => iprop(gamP A c ∗ betP A c ∗ Ow c 75 ∗ atPos ER (barCell c) (0 + 1) ∅ 0
        ∗ ChunkPost A c 0 ∗ ChunkPost A c 1 ∗ ChunkPost A c 2 ∗ ChunkPost A c 3) := by
  unfold onBufs
  rw [cc0_body_eq_skeleton]
  unfold Tri cc0_body_skel
  iintro ⟨#HP, H⟩
  iapply (Tri.step part77) $$ [H]
  · isplitr; · iexact HP
    iexact H
  iintro %d0 ⟨%hd, Hg, Hb, HB, HS, HW1, HW2, HW3, H0, H1, H2, H3⟩
  subst hd
  unfold MidS
  icases H0 with ⟨HP0, HA0, HE0, HQ0, HR0, HM0⟩
  icases H1 with ⟨HP1, HA1, HE1, HQ1, HR1, HM1⟩
  icases H2 with ⟨HP2, HA2, HE2, HQ2, HR2, HM2⟩
  icases H3 with ⟨HP3, HA3, HE3, HQ3, HR3, HM3⟩
  iapply (Tri.step (part61)) $$ [HS]
  · isplitr; · iexact HP
    iexact HS
  iintro %a HS
  dsimp only
  iapply (Tri.step (part62)) $$ [HS]
  · isplitr; · iexact HP
    iexact HS
  iintro %a HS
  dsimp only
  iapply (Tri.step (part63)) $$ [HS]
  · isplitr; · iexact HP
    iexact HS
  iintro %a HS
  dsimp only
  iapply (Tri.step (part64)) $$ [HS HW1]
  · isplitr; · iexact HP
    isplitl [HS]; · iexact HS
    iexact HW1
  iintro %a ⟨HS, HW0⟩
  dsimp only
  iapply (Tri.step (part65)) $$ [HS]
  · isplitr; · iexact HP
    iexact HS
  iintro %a HS
  dsimp only
  iapply (Tri.step (part66)) $$ [HS]
  · isplitr; · iexact HP
    iexact HS
  iintro %a HS
  dsimp only
  iapply (Tri.step (part67)) $$ [HS]
  · isplitr; · iexact HP
    iexact HS
  iintro %a HS
  dsimp only
  iapply (Tri.step (part68)) $$ [HS HW2]
  · isplitr; · iexact HP
    isplitl [HS]; · iexact HS
    iexact HW2
  iintro %a ⟨HS, HW1⟩
  dsimp only
  iapply (Tri.step (part69)) $$ [HS]
  · isplitr; · iexact HP
    iexact HS
  iintro %a HS
  dsimp only
  iapply (Tri.step (part70)) $$ [HS]
  · isplitr; · iexact HP
    iexact HS
  iintro %a HS
  dsimp only
  iapply (Tri.step (part71)) $$ [HS]
  · isplitr; · iexact HP
    iexact HS
  iintro %a HS
  dsimp only
  iapply (Tri.step (part72)) $$ [HS HW3]
  · isplitr; · iexact HP
    isplitl [HS]; · iexact HS
    iexact HW3
  iintro %a ⟨HS, HW2⟩
  dsimp only
  iapply (Tri.step (part73)) $$ [HS]
  · isplitr; · iexact HP
    iexact HS
  iintro %a HS
  dsimp only
  iapply (Tri.step (part74)) $$ [HS]
  · isplitr; · iexact HP
    iexact HS
  iintro %a HS
  dsimp only
  iapply (Tri.step (part75)) $$ [HS]
  · isplitr; · iexact HP
    iexact HS
  iintro %a HS
  dsimp only
  iapply (Tri.step (part76)) $$ [HS]
  · isplitr; · iexact HP
    iexact HS
  iintro %a HS
  dsimp only
  ihave HS := (ws_end A d0 3) $$ HS
  icases HS with ⟨HW3, HO⟩
  iapply (Tri.step (out_wait (A := A) (K := K) (c := d0) 0 75 (out_sem 0 _ rfl))) $$ [HQ0 HO HM0]
  · isplitr; · iexact HP
    isplitl [HQ0]; · iexact HQ0
    isplitl [HO]; · iexact HO
    iexact HM0
  iintro %a ⟨HO, HM0, HQ0, HX0⟩
  iapply (Tri.step (out_wait (A := A) (K := K) (c := d0) 1 75 (out_sem 1 _ rfl))) $$ [HQ1 HO HM1]
  · isplitr; · iexact HP
    isplitl [HQ1]; · iexact HQ1
    isplitl [HO]; · iexact HO
    iexact HM1
  iintro %a ⟨HO, HM1, HQ1, HX1⟩
  iapply (Tri.step (out_wait (A := A) (K := K) (c := d0) 2 75 (out_sem 2 _ rfl))) $$ [HQ2 HO HM2]
  · isplitr; · iexact HP
    isplitl [HQ2]; · iexact HQ2
    isplitl [HO]; · iexact HO
    iexact HM2
  iintro %a ⟨HO, HM2, HQ2, HX2⟩
  iapply (Tri.step (out_wait (A := A) (K := K) (c := d0) 3 75 (out_sem 3 _ rfl))) $$ [HQ3 HO HM3]
  · isplitr; · iexact HP
    isplitl [HQ3]; · iexact HQ3
    isplitl [HO]; · iexact HO
    iexact HM3
  iintro %a ⟨HO, HM3, HQ3, HX3⟩
  ihave HE0 := (slot_back A d0 0) $$ [HE0 HW0]
  · isplitl [HE0]; · iexact HE0
    iexact HW0
  icases HE0 with ⟨HE0, HN0⟩
  ihave HE1 := (slot_back A d0 1) $$ [HE1 HW1]
  · isplitl [HE1]; · iexact HE1
    iexact HW1
  icases HE1 with ⟨HE1, HN1⟩
  ihave HE2 := (slot_back A d0 2) $$ [HE2 HW2]
  · isplitl [HE2]; · iexact HE2
    iexact HW2
  icases HE2 with ⟨HE2, HN2⟩
  ihave HE3 := (slot_back A d0 3) $$ [HE3 HW3]
  · isplitl [HE3]; · iexact HE3
    iexact HW3
  icases HE3 with ⟨HE3, HN3⟩
  iapply (ret_step (c := d0) PUnit.unit)
  isplitl [Hg]; · iexact Hg
  isplitl [Hb]; · iexact Hb
  isplitl [HO]; · iexact HO
  isplitl [HB]; · iexact HB
  unfold ChunkPost
  isplitl [HA0 HX0 HQ0 HE0 HP0 HM0 HR0 HN0]
  · isplitl [HA0]; · iexact HA0
    isplitl [HX0]; · iexact HX0
    isplitl [HQ0]; · iexact HQ0
    isplitl [HE0]; · iexact HE0
    isplitl [HP0]; · iexact HP0
    isplitl [HM0]; · iexact HM0
    isplitl [HR0]; · iexact HR0
    iexact HN0
  isplitl [HA1 HX1 HQ1 HE1 HP1 HM1 HR1 HN1]
  · isplitl [HA1]; · iexact HA1
    isplitl [HX1]; · iexact HX1
    isplitl [HQ1]; · iexact HQ1
    isplitl [HE1]; · iexact HE1
    isplitl [HP1]; · iexact HP1
    isplitl [HM1]; · iexact HM1
    isplitl [HR1]; · iexact HR1
    iexact HN1
  isplitl [HA2 HX2 HQ2 HE2 HP2 HM2 HR2 HN2]
  · isplitl [HA2]; · iexact HA2
    isplitl [HX2]; · iexact HX2
    isplitl [HQ2]; · iexact HQ2
    isplitl [HE2]; · iexact HE2
    isplitl [HP2]; · iexact HP2
    isplitl [HM2]; · iexact HM2
    isplitl [HR2]; · iexact HR2
    iexact HN2
  isplitl [HA3]; · iexact HA3
  isplitl [HX3]; · iexact HX3
  isplitl [HQ3]; · iexact HQ3
  isplitl [HE3]; · iexact HE3
  isplitl [HP3]; · iexact HP3
  isplitl [HM3]; · iexact HM3
  isplitl [HR3]; · iexact HR3
  iexact HN3

end Cert.KernelIdeal.Talk
-- ==== Proof.Ideal.Deal.lean ====
module

public import proofs.«01_k».proof.Proof.Ideal.Body

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type} [FloatOps F]

local notation "𝕄" => MT nD τ sig Unit (Elt F) ℕ UU ℕ

variable {A : Ins F} {K : GSem nD τ sig → ℕ} {c : Dev nD}

/-! ## Families -/

theorem bigSep_comm {α β : Type} [Fintype α] [Fintype β] (Φ : α → β → sProp 𝕄) :
    (bigSep Finset.univ fun a => bigSep Finset.univ fun b => Φ a b) = bigSep Finset.univ fun b => bigSep Finset.univ fun a => Φ a b := by
  rw [← BI.bigSep_univ_prod (fun p : α × β => Φ p.1 p.2), ← BI.bigSep_univ_prod (fun p : β × α => Φ p.2 p.1),
    BI.bigSep_univ_equiv (Equiv.prodComm β α) (fun p : α × β => Φ p.1 p.2)]
  rfl

/-- All of the others and the device itself. -/
theorem bigSep_ring (c : Dev nD) (Φ : Dev nD → sProp 𝕄) :
    bigSep Finset.univ Φ = iprop(Φ c ∗ bigSep (Finset.range 15) fun j => Φ (nxt c j)) := by
  rw [bigSep_univ_at Φ c, bigSep_others]

/-- All distances: none, and one to fifteen. -/
theorem bigSep_dists (Φ : Fin 16 → sProp 𝕄) :
    bigSep Finset.univ Φ = iprop(Φ 0 ∗ bigSep (Finset.range 15) fun j => Φ (dist j)) := by
  have h := bigSep_ring (F := F) (0 : Dev nD) Φ
  refine h.trans ?_
  have e : ∀ j ∈ Finset.range 15, Φ (nxt (0 : Dev nD) j) = Φ (dist j) := fun j _ =>
    congrArg Φ (Fin.ext (by show (0 + j + 1) % 16 = (j + 1) % 16; rw [Nat.zero_add]))
  rw [BI.bigSep_congr e]

def inE : Fin 4 ↪ Fin 136 := ⟨inI, by decide⟩
def outE : Fin 4 ↪ Fin 136 := ⟨outI, by decide⟩
def sendE : Fin 4 × Fin 16 ↪ Fin 136 := ⟨fun p => sendI p.1 p.2, fun p q h => by
  have e : 8 + 16 * p.1.val + p.2.val = 8 + 16 * q.1.val + q.2.val := congrArg Fin.val h
  have := p.2.isLt; have := q.2.isLt
  exact Prod.ext (Fin.ext (by omega)) (Fin.ext (by omega))⟩
def recvE : Fin 4 × Fin 16 ↪ Fin 136 := ⟨fun p => recvI p.1 p.2, fun p q h => by
  have e : 72 + 16 * p.1.val + p.2.val = 72 + 16 * q.1.val + q.2.val := congrArg Fin.val h
  have := p.2.isLt; have := q.2.isLt
  exact Prod.ext (Fin.ext (by omega)) (Fin.ext (by omega))⟩

theorem own_parts : (Finset.univ : Finset (Fin 136))
    = Finset.univ.map inE ∪ (Finset.univ.map outE ∪ (Finset.univ.map sendE ∪ Finset.univ.map recvE)) := by
  ext i
  simp only [Finset.mem_univ, Finset.mem_union, Finset.mem_map, true_and, true_iff]
  have hi := i.isLt
  by_cases h0 : i.val < 4
  · exact .inl ⟨⟨i.val, h0⟩, Fin.ext rfl⟩
  by_cases h1 : i.val < 8
  · exact .inr (.inl ⟨⟨i.val - 4, by omega⟩, Fin.ext (by show 4 + (i.val - 4) = i.val; omega)⟩)
  by_cases h2 : i.val < 72
  · exact .inr (.inr (.inl ⟨(⟨(i.val - 8) / 16, by omega⟩, ⟨(i.val - 8) % 16, by omega⟩), Fin.ext (by
      show 8 + 16 * ((i.val - 8) / 16) + (i.val - 8) % 16 = i.val; omega)⟩))
  · exact .inr (.inr (.inr ⟨(⟨(i.val - 72) / 16, by omega⟩, ⟨(i.val - 72) % 16, by omega⟩), Fin.ext (by
      show 72 + 16 * ((i.val - 72) / 16) + (i.val - 72) % 16 = i.val; omega)⟩))

theorem in_lt {i : Fin 136} (h : i ∈ Finset.univ.map inE) : i.val < 4 := by
  obtain ⟨k, -, rfl⟩ := Finset.mem_map.mp h; exact k.isLt
theorem out_lt {i : Fin 136} (h : i ∈ Finset.univ.map outE) : 4 ≤ i.val ∧ i.val < 8 := by
  obtain ⟨k, -, rfl⟩ := Finset.mem_map.mp h
  have := k.isLt
  show 4 ≤ 4 + k.val ∧ 4 + k.val < 8; omega
theorem send_lt {i : Fin 136} (h : i ∈ Finset.univ.map sendE) : 8 ≤ i.val ∧ i.val < 72 := by
  obtain ⟨p, -, rfl⟩ := Finset.mem_map.mp h
  have := p.1.isLt; have := p.2.isLt
  show 8 ≤ 8 + 16 * p.1.val + p.2.val ∧ 8 + 16 * p.1.val + p.2.val < 72; omega
theorem recv_lt {i : Fin 136} (h : i ∈ Finset.univ.map recvE) : 72 ≤ i.val := by
  obtain ⟨p, -, rfl⟩ := Finset.mem_map.mp h
  show 72 ≤ 72 + 16 * p.1.val + p.2.val; omega

/-- A resource of each of the DMA semaphores, by what the kernel does with them. -/
theorem bigSep_own (Φ : Fin 136 → sProp 𝕄) :
    bigSep Finset.univ Φ = iprop((bigSep Finset.univ fun k => Φ (inI k)) ∗ (bigSep Finset.univ fun k => Φ (outI k))
      ∗ (bigSep Finset.univ fun k => bigSep Finset.univ fun d => Φ (sendI k d)) ∗ (bigSep Finset.univ fun k => bigSep Finset.univ fun s => Φ (recvI k s))) := by
  rw [own_parts, BI.bigSep_union (Finset.disjoint_left.mpr fun i h h' => by
      have := in_lt h
      rcases Finset.mem_union.mp h' with h' | h'
      · have := out_lt h'; omega
      rcases Finset.mem_union.mp h' with h' | h'
      · have := send_lt h'; omega
      · have := recv_lt h'; omega),
    BI.bigSep_union (Finset.disjoint_left.mpr fun i h h' => by
      have := out_lt h
      rcases Finset.mem_union.mp h' with h' | h'
      · have := send_lt h'; omega
      · have := recv_lt h'; omega),
    BI.bigSep_union (Finset.disjoint_left.mpr fun i h h' => by have := send_lt h; have := recv_lt h'; omega),
    BI.bigSep_map, BI.bigSep_map, BI.bigSep_map, BI.bigSep_map, BI.bigSep_univ_prod, BI.bigSep_univ_prod]
  rfl

/-! ## Whole buffers and their parts -/

theorem arg_rows (c : Dev nD) (f : S2048x1024.Idx → Elt F .f32) :
    ((c : Thread nD τ).loc main_arg0 ↦{fullShare} f : sProp 𝕄)
      = bigSep Finset.univ fun k : Fin 4 => ((c : Thread nD τ).loc main_arg0 ↦[rowSet k.val]{fullShare} f : sProp 𝕄) := by
  rw [← pointsTo_biUnion (ℓ := (c : Thread nD τ).loc main_arg0) (q := fullShare) (f := f) (Finset.univ : Finset (Fin 4)) (fun k => rowSet k.val)
    fun k _ k' _ hne => rowSet_disjoint fun e => hne (Fin.ext e), rowSet_cover]
theorem xv_rows (c : Dev nD) (f : S2048x1024.Idx → Elt F .f32) :
    ((c : Thread nD τ).loc cc0_scratch0 ↦{fullShare} f : sProp 𝕄) = bigSep Finset.univ fun k : Fin 4 => (xvP c k.val f : sProp 𝕄) := by
  rw [← pointsTo_biUnion (ℓ := (c : Thread nD τ).loc cc0_scratch0) (q := fullShare) (f := f) (Finset.univ : Finset (Fin 4)) (fun k => rowSet k.val)
    fun k _ k' _ hne => rowSet_disjoint fun e => hne (Fin.ext e), rowSet_cover]
theorem res_rows (c : Dev nD) (f : S2048x1024.Idx → Elt F .f32) :
    ((c : Thread nD τ).loc main_v3 ↦{fullShare} f : sProp 𝕄) = bigSep Finset.univ fun k : Fin 4 => (resP c k.val f : sProp 𝕄) := by
  rw [← pointsTo_biUnion (ℓ := (c : Thread nD τ).loc main_v3) (q := fullShare) (f := f) (Finset.univ : Finset (Fin 4)) (fun k => rowSet k.val)
    fun k _ k' _ hne => rowSet_disjoint fun e => hne (Fin.ext e), rowSet_cover]

/-- The buffer of slots, chunk by chunk: the device's own, and the others' in the order of the ring. -/
theorem slots_all (c : Dev nD) (f : S16x4x8x128.Idx → Elt F .f32) :
    ((c : Thread nD τ).loc cc0_scratch1 ↦{fullShare} f : sProp 𝕄)
      = bigSep Finset.univ fun k : Fin 4 => iprop(slotQ c fullShare c k.val f ∗ bigSep (Finset.range 15) fun j => slotQ c fullShare (nxt c j) k.val f) := by
  rw [← BI.bigSep_congr fun k _ => bigSep_ring c (fun s => (slotQ c fullShare s k.val f : sProp 𝕄)), bigSep_comm,
    ← BI.bigSep_univ_prod (fun p : Dev nD × Fin 4 => (slotQ c fullShare p.1 p.2.val f : sProp 𝕄)),
    ← pointsTo_biUnion (ℓ := (c : Thread nD τ).loc cc0_scratch1) (q := fullShare) (f := f) (Finset.univ : Finset (Fin 16 × Fin 4)) (fun p => slotSet p.1.val p.2.val)
      fun p _ p' _ hne => slotSet_disjoint fun e => hne (Prod.ext (Fin.ext e.1) (Fin.ext e.2)), slotSet_cover]

theorem xv_open (c : Dev nD) : iprop(∃ f, (c : Thread nD τ).loc cc0_scratch0 ↦{fullShare} f)
    ⊢ (bigSep Finset.univ fun k : Fin 4 => iprop(∃ f, xvP c k.val f) : sProp 𝕄) := by
  iintro ⟨%f, H⟩
  ihave H := (Entails.of_eq (xv_rows c f)) $$ H
  have h : (bigSep Finset.univ fun k : Fin 4 => (xvP c k.val f : sProp 𝕄)) ⊢ (bigSep Finset.univ fun k : Fin 4 => iprop(∃ f, xvP c k.val f) : sProp 𝕄) :=
    BI.bigSep_mono fun k _ => show (_ : sProp 𝕄) ⊢ (iprop(∃ f, xvP c k.val f) : sProp 𝕄) by
      iintro H; iexists f; iexact H
  iapply h; iexact H
theorem res_open (c : Dev nD) (f : S2048x1024.Idx → Elt F .f32) : ((c : Thread nD τ).loc main_v3 ↦{fullShare} f : sProp 𝕄)
    ⊢ (bigSep Finset.univ fun k : Fin 4 => iprop(∃ f, resP c k.val f) : sProp 𝕄) := by
  rw [res_rows]
  exact BI.bigSep_mono fun k _ => show (_ : sProp 𝕄) ⊢ (iprop(∃ f, resP c k.val f) : sProp 𝕄) by
    iintro H; iexists f; iexact H

/-- The buffer of slots at contents not named: the device's own slots, and for each other device its four. -/
theorem slots_open (c : Dev nD) : iprop(∃ f, (c : Thread nD τ).loc cc0_scratch1 ↦{fullShare} f)
    ⊢ (iprop((bigSep Finset.univ fun k : Fin 4 => slotE c c k.val)
        ∗ bigSep (Finset.range 15) fun j => bigSep Finset.univ fun k : Fin 4 => slotE c (nxt c j) k.val) : sProp 𝕄) := by
  rw [← bigSep_ring c (fun s => (bigSep Finset.univ fun k : Fin 4 => slotE c s k.val : sProp 𝕄)), bigSep_comm,
    BI.bigSep_congr fun k _ => bigSep_ring c (fun s => (slotE c s k.val : sProp 𝕄))]
  iintro ⟨%f, H⟩
  ihave H := (Entails.of_eq (slots_all c f)) $$ H
  have h : (bigSep Finset.univ fun k : Fin 4 => (iprop(slotQ c fullShare c k.val f ∗ bigSep (Finset.range 15) fun j => slotQ c fullShare (nxt c j) k.val f) : sProp 𝕄))
      ⊢ (bigSep Finset.univ fun k : Fin 4 => iprop(slotE c c k.val ∗ bigSep (Finset.range 15) fun j => slotE c (nxt c j) k.val) : sProp 𝕄) :=
    BI.bigSep_mono fun k _ => BI.sep_mono (show (_ : sProp 𝕄) ⊢ (slotE c c k.val : sProp 𝕄) by iintro H; iexists f; iexact H)
      (BI.bigSep_mono fun j _ => show (_ : sProp 𝕄) ⊢ (slotE c (nxt c j) k.val : sProp 𝕄) by iintro H; iexists f; iexact H)
  iapply h; iexact H

/-- The slots put together. -/
theorem slots_back (c : Dev nD) (f : S16x4x8x128.Idx → Elt F .f32) :
    iprop((bigSep Finset.univ fun k : Fin 4 => slotQ c fullShare c k.val f)
        ∗ bigSep Finset.univ fun k : Fin 4 => bigSep (Finset.range 15) fun j => slotQ c fullShare (nxt c j) k.val f)
      ⊢ ((c : Thread nD τ).loc cc0_scratch1 ↦{fullShare} f : sProp 𝕄) := by
  rw [slots_all, bigSep_sep']

/-! ## What a device starts with, chunk by chunk -/

/-- The tokens of the gifts a device makes: its copies in and out, and its copies to the others. -/
def Toks (c : Dev nD) : sProp 𝕄 :=
  iprop((bigSep Finset.univ fun k => dutyTok ER (ownCell c (inI k)) 0 0) ∗ (bigSep Finset.univ fun k => dutyTok ER (ownCell c (outI k)) 0 0)
    ∗ bigSep Finset.univ fun k => SndTok c k)
/-- The tokens of its signals. -/
def SigToks (c : Dev nD) : sProp 𝕄 := bigSep (Finset.range 15) fun j => dutyTok ER (barCell (nxt c j)) 0 c
/-- The credits for what the others will bring. -/
def Creds (c : Dev nD) : sProp 𝕄 :=
  iprop(cred (tallyAt (barCell c) () 15)
    ∗ bigSep Finset.univ fun k => bigSep (Finset.range 15) fun j => crd c (recvI k (nxt c j)) (dmaAmt (recvI k (nxt c j)).val))

/-- The places of the DMA semaphores that are not used. -/
def Idle (c : Dev nD) : sProp 𝕄 :=
  iprop((bigSep Finset.univ fun k : Fin 4 => at0 c (sendI k 0)) ∗ bigSep Finset.univ fun k : Fin 4 => at0 c (recvI k c))

theorem chunks_intro (c : Dev nD) :
    iprop((bigSep Finset.univ fun i : Fin 136 => at0 c i) ∗ Toks c
        ∗ (bigSep Finset.univ fun k : Fin 4 => bigSep (Finset.range 15) fun j => crd c (recvI k (nxt c j)) (dmaAmt (recvI k (nxt c j)).val))
        ∗ (bigSep Finset.univ fun k : Fin 4 => argP A c k.val) ∗ (bigSep Finset.univ fun k : Fin 4 => iprop(∃ f, xvP c k.val f))
        ∗ (bigSep Finset.univ fun k : Fin 4 => iprop(∃ f, resP c k.val f)) ∗ (bigSep Finset.univ fun k : Fin 4 => slotE c c k.val))
      ⊢ iprop((ChunkPre A c 0 ∗ ChunkPre A c 1 ∗ ChunkPre A c 2 ∗ ChunkPre A c 3) ∗ Idle c) := by
  rw [← bigSep_four (fun k => ChunkPre A c k), bigSep_own (fun i => at0 c i),
    BI.bigSep_congr fun k _ => bigSep_dists (fun d => (at0 c (sendI k d) : sProp 𝕄)),
    BI.bigSep_congr fun k _ => bigSep_ring c (fun s => (at0 c (recvI k s) : sProp 𝕄))]
  unfold ChunkPre Toks Idle RcvR SndAt0
  simp only [bigSep_sep']
  iintro ⟨⟨Hi, Ho, ⟨Hs0, Hs⟩, ⟨Hr0, Hr⟩⟩, ⟨Ti, To, Ts⟩, Hc, Ha, Hx, Hv, He⟩
  isplitr [Hs0 Hr0]
  · isplitl [Ha Hx Ti]
    · isplitl [Ha]; · iexact Ha
      isplitl [Hx]; · iexact Hx
      iexact Ti
    isplitl [Hi]; · iexact Hi
    isplitl [He]; · iexact He
    isplitl [Ts]; · iexact Ts
    isplitl [Hc Hr]
    · isplitl [Hc]; · iexact Hc
      iexact Hr
    isplitl [Hv To]
    · isplitl [Hv]; · iexact Hv
      iexact To
    isplitl [Ho]; · iexact Ho
    iexact Hs
  isplitl [Hs0]; · iexact Hs0
  iexact Hr0

/-- The signals' tokens, and the slots that go with them. -/
theorem signals_intro (c : Dev nD) :
    iprop(SigToks c ∗ (bigSep (Finset.range 15) fun j => bigSep Finset.univ fun k : Fin 4 => slotE c (nxt c j) k.val) ∗ Ow c 0)
      ⊢ (SigS c 0 : sProp 𝕄) := by
  unfold SigS SigToks SigRes
  rw [Ico_all, bigSep_sep']
  iintro ⟨H1, H2, H3⟩
  isplitr [H3]
  · isplitl [H1]; · iexact H1
    iexact H2
  iexact H3

/-- The place of a DMA semaphore at the end. -/
def fin1 (c : Dev nD) (i : Fin 136) : sProp 𝕄 := if dmaUsed c i.val then at1 c i else at0 c i

theorem unused_send (c : Dev nD) (k : Fin 4) : ¬ dmaUsed c (sendI k 0).val := by
  have := k.isLt
  have e : (sendI k 0).val = 8 + 16 * k.val := rfl
  unfold dmaUsed; rw [e]; omega
theorem unused_recv (c : Dev nD) (k : Fin 4) : ¬ dmaUsed c (recvI k c).val := by
  have := k.isLt
  have hc : c.val < 16 := c.isLt
  have e : (recvI k c).val = 72 + 16 * k.val + c.val := rfl
  unfold dmaUsed; rw [e]; omega

theorem fin_all (c : Dev nD) :
    iprop((bigSep Finset.univ fun k : Fin 4 => at1 c (inI k)) ∗ (bigSep Finset.univ fun k : Fin 4 => at1 c (outI k))
      ∗ (bigSep Finset.univ fun k : Fin 4 => SndAt1 c k) ∗ (bigSep Finset.univ fun k : Fin 4 => RcvAt c k) ∗ Idle c)
      ⊢ (bigSep Finset.univ fun i : Fin 136 => fin1 c i : sProp 𝕄) := by
  have e1 : ∀ k : Fin 4, (fin1 c (inI k) : sProp 𝕄) = at1 c (inI k) := fun k => if_pos (used_in c k)
  have e2 : ∀ k : Fin 4, (fin1 c (outI k) : sProp 𝕄) = at1 c (outI k) := fun k => if_pos (used_out c k)
  have e3 : ∀ k : Fin 4, (bigSep Finset.univ fun d => (fin1 c (sendI k d) : sProp 𝕄)) = iprop(at0 c (sendI k 0) ∗ SndAt1 c k) := fun k => by
    rw [bigSep_dists, BI.bigSep_congr fun j hj => show (fin1 c (sendI k (dist j)) : sProp 𝕄) = at1 c (sendI k (dist j)) from if_pos (used_send c k (Finset.mem_range.mp hj)),
      show (fin1 c (sendI k 0) : sProp 𝕄) = at0 c (sendI k 0) from if_neg (unused_send c k)]
    rfl
  have e4 : ∀ k : Fin 4, (bigSep Finset.univ fun s => (fin1 c (recvI k s) : sProp 𝕄)) = iprop(at0 c (recvI k c) ∗ RcvAt c k) := fun k => by
    rw [bigSep_ring c (fun s => (fin1 c (recvI k s) : sProp 𝕄)),
      BI.bigSep_congr fun j hj => show (fin1 c (recvI k (nxt c j)) : sProp 𝕄) = at1 c (recvI k (nxt c j)) from if_pos (used_recv c k (nxt_ne c (Finset.mem_range.mp hj))),
      show (fin1 c (recvI k c) : sProp 𝕄) = at0 c (recvI k c) from if_neg (unused_recv c k)]
    rfl
  rw [bigSep_own, BI.bigSep_congr fun k _ => e1 k, BI.bigSep_congr fun k _ => e2 k, BI.bigSep_congr fun k _ => e3 k, BI.bigSep_congr fun k _ => e4 k,
    bigSep_sep', bigSep_sep']
  unfold Idle
  iintro ⟨H1, H2, H3, H4, H5, H6⟩
  isplitl [H1]; · iexact H1
  isplitl [H2]; · iexact H2
  isplitl [H3 H5]
  · isplitl [H5]; · iexact H5
    iexact H3
  isplitl [H6]; · iexact H6
  iexact H4

/-- All semaphores closed again. -/
theorem close_own (c : Dev nD) (i : Fin 136) :
    iprop(Pers A K c ∗ fin1 c i) ⊢ (|={Set.univ}=> semVal (ownCell c i) 0 : sProp 𝕄) := by
  unfold fin1
  by_cases h : dmaUsed c i.val
  · rw [if_pos h]
    refine BIBase.Entails.trans (sep_mono_left (inv_own A K c c i)) ?_
    exact Rounds.cell_close ER (Rd A) (Set.mem_univ _) id (duties_later A _)
  · rw [if_neg h]
    refine BIBase.Entails.trans (sep_mono_left (inv_own A K c c i)) ?_
    exact Rounds.cell_close ER (Rd A) (Set.mem_univ _) id fun r _ => by
      rcases Nat.eq_zero_or_pos r with rfl | hr
      · exact duties_unused A c i h
      · exact duties_later A _ r hr

theorem close_bar (c : Dev nD) :
    iprop(Pers A K c ∗ atPos ER (barCell c) (0 + 1) ∅ 0) ⊢ (|={Set.univ}=> semVal (barCell c) 0 : sProp 𝕄) := by
  refine BIBase.Entails.trans (sep_mono_left (inv_bar A K c c)) ?_
  exact Rounds.cell_close ER (Rd A) (Set.mem_univ _) id (duties_later A _)

/-- What a device holds at the end. -/
theorem chunks_elim (c : Dev nD) :
    iprop((ChunkPost A c 0 ∗ ChunkPost A c 1 ∗ ChunkPost A c 2 ∗ ChunkPost A c 3) ∗ Idle c)
      ⊢ iprop(((c : Thread nD τ).loc main_arg0 ↦{fullShare} A.x c) ∗ ((c : Thread nD τ).loc main_v3 ↦{fullShare} outG A c)
        ∗ (∃ f, (c : Thread nD τ).loc cc0_scratch0 ↦{fullShare} f) ∗ (∃ f, (c : Thread nD τ).loc cc0_scratch1 ↦{fullShare} f)
        ∗ bigSep Finset.univ fun i : Fin 136 => fin1 c i) := by
  rw [← bigSep_four (fun k => ChunkPost A c k), arg_rows, res_rows]
  unfold ChunkPost
  rw [bigSep_sep', bigSep_sep', bigSep_sep', bigSep_sep', bigSep_sep', bigSep_sep', bigSep_sep', bigSep_sep', ← xv_rows]
  iintro ⟨⟨Ha, Hx, Hr, ⟨Hs, Hs'⟩, H1, H2, H3, H4⟩, H5⟩
  isplitl [Ha]; · iexact Ha
  isplitl [Hr]; · iexact Hr
  isplitl [Hx]; · iexists outG A c; iexact Hx
  isplitl [Hs Hs']
  · iexists statG A
    iapply (slots_back c (statG A))
    isplitl [Hs]; · iexact Hs
    iexact Hs'
  iapply (fin_all c)
  isplitl [H1]; · iexact H1
  isplitl [H2]; · iexact H2
  isplitl [H4]; · iexact H4
  isplitl [H3]; · iexact H3
  iexact H5

end Cert.KernelIdeal.Talk
-- ==== Proof.Ideal.Region.lean ====
/-
  The kernel as a region of @main: what it is entered with, what its body leaves, and what it is left with.
-/
module

public import proofs.«01_k».proof.Proof.Ideal.Deal
public import proofs.«01_k».proof.Proof.Gen.KernelIdeal.Frame
public import Idealize.ShloMosaic.Lib.Pipeline.RegionTalk
public import Idealize.ShloMosaic.Harness.Basic

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-- The inputs the kernel reads, out of the memory at the start. -/
def ins : Ins F where
  x c := m ((c : Thread nD τ).loc main_arg0)
  gam c := V m c main_v1
  bet c := V m c main_v2

/-- The buffers before the kernel, and after it: only the result has changed. -/
abbrev W0 (c : Dev nD) : Valuation τ sig (Elt F) := StableHlo.after hostOps0 (fun b => m (c, b))
def W1 (c : Dev nD) : Valuation τ sig (Elt F) := Function.update (W0 m c) (Proc.devRef .tc main_v3) (outG (ins m) c)

/-- The buffers that are no window's: all of them, and those the kernel itself addresses. -/
def Sr : Finset (DevRef τ sig) := {Proc.devRef .tc main_arg0, Proc.devRef .tc main_arg1, Proc.devRef .tc main_arg2, Proc.devRef .tc main_v3}
def Hs : Finset (DevRef τ sig) := {Proc.devRef .tc main_arg0, Proc.devRef .tc main_v3}

theorem Hs_sub : Hs ⊆ Sr := by decide

theorem held_Hs (c : Dev nD) (W : Valuation τ sig (Elt F)) : (StableHlo.held (c : Thread nD τ) Hs W : sProp 𝕄)
    = iprop(((c : Thread nD τ).loc main_arg0 ↦{fullShare} W (Proc.devRef .tc main_arg0)) ∗ ((c : Thread nD τ).loc main_v3 ↦{fullShare} W (Proc.devRef .tc main_v3))) := by
  unfold StableHlo.held
  rw [bigSep_eq_bigSepL_of_eq [Proc.devRef .tc main_arg0, Proc.devRef .tc main_v3] (by decide) (by decide)]
  rfl

theorem W1_ne (c : Dev nD) {b : DevRef τ sig} (h : b ≠ Proc.devRef .tc main_v3) : W1 m c b = W0 m c b := Function.update_of_ne h _ _
theorem W1_arg0 (c : Dev nD) : W1 m c (Proc.devRef .tc main_arg0) = m ((c : Thread nD τ).loc main_arg0) := (W1_ne m c (by decide)).trans (V_main_arg0 m c)
theorem W1_arg1 (c : Dev nD) : W1 m c (Proc.devRef .tc main_arg1) = m ((c : Thread nD τ).loc main_arg1) := (W1_ne m c (by decide)).trans (V_main_arg1 m c)
theorem W1_arg2 (c : Dev nD) : W1 m c (Proc.devRef .tc main_arg2) = m ((c : Thread nD τ).loc main_arg2) := (W1_ne m c (by decide)).trans (V_main_arg2 m c)
theorem W1_v3 (c : Dev nD) : W1 m c (Proc.devRef .tc main_v3) = outG (ins m) c := Function.update_self _ _ _

/-! ## The ghost state a device brings -/

/-- The records of all cells, under the names `K`. -/
def Recs (K : GSem nD τ sig → ℕ) : sProp 𝕄 :=
  iprop((bigSep Finset.univ fun p : Dev nD => cellInv ER (Rd (ins m)) (K (barCell p)) (barCell p))
    ∗ (bigSep Finset.univ fun p : Dev nD × Fin 136 => cellInv ER (Rd (ins m)) (K (ownCell p.1 p.2)) (ownCell p.1 p.2))
    ∗ bigSep Finset.univ fun p : Dev nD => reached ER (barCell p) 0)

instance Recs_persistent (K : GSem nD τ sig → ℕ) : BI.Persistent (Recs m K) := by unfold Recs; infer_instance

/-- From the launch to the kernel: the place on the barrier, the right to open each own cell, tokens and credits. -/
def Tk (c : Dev nD) : sProp 𝕄 :=
  iprop((∃ K, Recs m K) ∗ atPos ER (barCell c) 0 ∅ 0 ∗ (bigSep Finset.univ fun i : Fin 136 => openTok ER (ownCell c i)) ∗ Toks c ∗ SigToks c ∗ Creds c)
/-- The same with the cells opened. -/
def Xk (c : Dev nD) : sProp 𝕄 :=
  iprop((∃ K, Pers (ins m) K c) ∗ atPos ER (barCell c) 0 ∅ 0 ∗ (bigSep Finset.univ fun i : Fin 136 => at0 c i) ∗ Toks c ∗ SigToks c ∗ Creds c)
def Yk (c : Dev nD) : sProp 𝕄 := semVal (barCell c) 0

theorem open_own (K : GSem nD τ sig → ℕ) (c : Dev nD) (i : Fin 136) :
    iprop(Recs m K ∗ (openTok ER (ownCell c i) ∗ semVal (ownCell c i) 0)) ⊢ (|={Set.univ}=> (at0 c i ∗ reached ER (ownCell c i) 0) : sProp 𝕄) := by
  have h : (Recs m K : sProp 𝕄) ⊢ cellInv ER (Rd (ins m)) (K (ownCell c i)) (ownCell c i) := by
    unfold Recs; iintro ⟨-, #H, -⟩
    iapply (bigSep_at (fun p : Dev nD × Fin 136 => (cellInv ER (Rd (ins m)) (K (ownCell p.1 p.2)) (ownCell p.1 p.2) : sProp 𝕄)) (c, i)); iexact H
  refine BIBase.Entails.trans (sep_mono_left h) ?_
  exact Rounds.cell_open ER (Rd (ins m)) (g := ownCell c i) (Set.mem_univ _)

theorem hopen_of (c : Dev nD) : iprop(Tk m c ∗ Pipeline.ownSems0 own c ∗ Levs) ⊢ (|={Set.univ}=> Xk m c : sProp 𝕄) := by
  have hall (K : GSem nD τ sig → ℕ) : iprop(Recs m K ∗ (bigSep Finset.univ fun i : Fin 136 => iprop(openTok ER (ownCell c i) ∗ semVal (ownCell c i) 0)))
      ⊢ (|={Set.univ}=> (bigSep Finset.univ fun i : Fin 136 => iprop(at0 c i ∗ reached ER (ownCell c i) 0)) : sProp 𝕄) :=
    BIBase.Entails.trans (bigSep_with_persistent (Ψ := fun i : Fin 136 => (iprop(|={Set.univ}=> (at0 c i ∗ reached ER (ownCell c i) 0)) : sProp 𝕄)) fun i _ => open_own m K c i)
      (bigSep_fupd _ _)
  simp only [bigSep_sep'] at hall
  unfold Tk Xk Pipeline.ownSems0
  iintro ⟨⟨⟨%K, #HR⟩, Hb, Ho, Ht, Hs, Hc⟩, Hv, #Hl⟩
  imod (hall K) $$ [Ho Hv] with ⟨Ha, #Hr⟩
  · isplitr; · iexact HR
    isplitl [Ho]; · iexact Ho
    iexact Hv
  imodintro
  isplitr [Hb Ha Ht Hs Hc]
  · iexists K
    unfold Pers Recs
    icases HR with ⟨#H1, #H2, #H3⟩
    isplitr; · iexact H1
    isplitr; · iexact H2
    isplitr; · iexact H3
    isplitr; · iexact Hr
    iexact Hl
  isplitl [Hb]; · iexact Hb
  isplitl [Ha]; · iexact Ha
  isplitl [Ht]; · iexact Ht
  isplitl [Hs]; · iexact Hs
  iexact Hc

theorem hopen (c : Dev nD) : iprop(Tk m c ∗ Pipeline.ownSems0 own c ∗ levAts L lv) ⊢ (|={Set.univ}=> Xk m c : sProp 𝕄) := by
  have h := hopen_of m c
  unfold Levs at h
  exact h

/-! ## The body -/

/-- The scoped buffers that no window stages. -/
def Scr (c : Dev nD) : sProp 𝕄 :=
  iprop((∃ f, (c : Thread nD τ).loc cc0_scratch0 ↦{fullShare} f) ∗ ∃ f, (c : Thread nD τ).loc cc0_scratch1 ↦{fullShare} f)

/-- What the body runs on, and what it leaves, but for the windows and the dues. -/
def Phi0 (c : Dev nD) : sProp 𝕄 :=
  iprop(Xk m c ∗ Scr c ∗ ((c : Thread nD τ).loc main_arg0 ↦{fullShare} (ins m).x c) ∗ ((c : Thread nD τ).loc main_v3 ↦{fullShare} W0 m c (Proc.devRef .tc main_v3))
    ∗ ∃ r, prngReg c r)
def Phi1 (c : Dev nD) : sProp 𝕄 :=
  iprop((semVal (barCell c) 0 ∗ bigSep Finset.univ fun i : Fin 136 => semVal (ownCell c i) 0) ∗ Scr c
    ∗ ((c : Thread nD τ).loc main_arg0 ↦{fullShare} (ins m).x c) ∗ ((c : Thread nD τ).loc main_v3 ↦{fullShare} outG (ins m) c)
    ∗ ∃ r, prngReg c r)

theorem close_all (K : GSem nD τ sig → ℕ) (c : Dev nD) :
    iprop(Pers (ins m) K c ∗ bigSep Finset.univ fun i : Fin 136 => fin1 c i) ⊢ (|={Set.univ}=> (bigSep Finset.univ fun i : Fin 136 => semVal (ownCell c i) 0) : sProp 𝕄) :=
  BIBase.Entails.trans (bigSep_with_persistent (Ψ := fun i : Fin 136 => (iprop(|={Set.univ}=> semVal (ownCell c i) 0) : sProp 𝕄)) fun i _ => close_own c i)
    (bigSep_fupd _ _)

theorem run_body (c : Dev nD) :
    iprop(gamP (ins m) c ∗ betP (ins m) c ∗ Phi0 m c ∗ Ow c 0)
      ⊢ wp Idealize.ShloMosaic.frame (wpE (defs₀ (F := F)) 𝒱₀ (c : Thread nD τ) none) Set.univ (onBufs cc0_body)
          (fun _ => iprop(gamP (ins m) c ∗ betP (ins m) c ∗ Phi1 m c ∗ Ow c 75)) := by
  refine BIBase.Entails.trans ?_ (wp_fupd _ _ _ _ _)
  unfold Phi0 Xk Scr
  iintro ⟨Hg, Hb, ⟨⟨⟨%K, #HP⟩, HB, Ha, Ht, Hs, Hc⟩, ⟨Hxv, Hsl⟩, Harg, Hres, Hp⟩, HO⟩
  have hb := body (A := ins m) (K := K) (c := c)
  unfold Tri at hb
  ihave Hxv := (xv_open c) $$ Hxv
  ihave Hsl := (slots_open c) $$ Hsl
  icases Hsl with ⟨Hse, Hso⟩
  ihave Harg := (Entails.of_eq (arg_rows c ((ins m).x c))) $$ Harg
  ihave Hres := (res_open c (W0 m c (Proc.devRef .tc main_v3))) $$ Hres
  ihave HS := (signals_intro c) $$ [Hs Hso HO]
  · isplitl [Hs]; · iexact Hs
    isplitl [Hso]; · iexact Hso
    iexact HO
  unfold Creds
  icases Hc with ⟨Hcb, Hcr⟩
  ihave HC := (chunks_intro (A := ins m) c) $$ [Ha Ht Hcr Harg Hxv Hres Hse]
  · isplitl [Ha]; · iexact Ha
    isplitl [Ht]; · iexact Ht
    isplitl [Hcr]; · iexact Hcr
    isplitl [Harg]; · iexact Harg
    isplitl [Hxv]; · iexact Hxv
    isplitl [Hres]; · iexact Hres
    iexact Hse
  icases HC with ⟨HC, HI⟩
  ihave Hw := hb $$ [Hg Hb HS Hcb HB HC]
  · isplitr; · iexact HP
    isplitl [Hg]; · iexact Hg
    isplitl [Hb]; · iexact Hb
    isplitl [HS]; · iexact HS
    isplitl [Hcb]; · iexact Hcb
    isplitl [HB]; · iexact HB
    iexact HC
  iapply (wp_wand _ _ _) $$ Hw
  iintro %_ ⟨Hg, Hb, HO, HB, HC⟩
  ihave HF := (chunks_elim (A := ins m) c) $$ [HC HI]
  · isplitl [HC]; · iexact HC
    iexact HI
  icases HF with ⟨Harg, Hres, Hxv, Hsl, HF⟩
  imod (close_bar (A := ins m) (K := K) c) $$ [HB] with Hb0
  · isplitr; · iexact HP
    iexact HB
  imod (close_all m K c) $$ [HF] with Ho0
  · isplitr; · iexact HP
    iexact HF
  imodintro
  isplitl [Hg]; · iexact Hg
  isplitl [Hb]; · iexact Hb
  isplitr [HO]
  · unfold Phi1 Scr
    isplitl [Hb0 Ho0]
    · isplitl [Hb0]; · iexact Hb0
      iexact Ho0
    isplitl [Hxv Hsl]
    · isplitl [Hxv]; · iexact Hxv
      iexact Hsl
    isplitl [Harg]; · iexact Harg
    isplitl [Hres]; · iexact Hres
    iexact Hp
  iexact HO

end Cert.KernelIdeal.Talk
-- ==== Proof.Ideal.Segs.lean ====
module

public import proofs.«01_k».proof.Proof.Ideal.Region

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## The pipeline's data -/

/-- The windows stay as fetched; the kernel owes its gifts before its one point and nothing after. -/
def dat0 (c : Dev nD) : Dat τ (Elt F) Unit ℕ UU ℕ cfg0 c where
  A w := V m c (Pipeline.arrRef spec0 w)
  after
    | 0 => fun t => iblk m c 0 t
    | 1 => fun t => iblk m c 1 t
  Φ t := if t.val = 0 then Phi0 m c else Phi1 m c
  q _ := fullShare
  owed t := if t.val = 0 then owed c 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

theorem owed_first (c : Dev nD) : (dat0 m c).owed t0_0.castSucc = owed c 0 := by
  show (if (t0_0.castSucc : Fin (cfg0.N + 1)).val = 0 then owed c 0 else 0) = owed c 0; exact if_pos rfl
theorem owed_last (c : Dev nD) : (dat0 m c).owed (Fin.last _) = 0 := by
  show (if (Fin.last cfg0.N).val = 0 then owed c 0 else 0) = 0
  rw [Fin.val_last, if_neg (by rw [show cfg0.N = 1 from N_0]; decide)]

theorem owesAt_intro (c : Dev nD) (t : Fin (cfg0.N + 1)) (O : CellTallies nD τ sig Unit) (h0 : (dat0 m c).owed t = O) (W : Waits sig Unit) :
    (owes (c : Thread nD τ) O W : sProp 𝕄) ⊢ ((dat0 m c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

theorem before_0 (c : Dev nD) (t : Fin cfg0.N) (d) : (dat0 m c).before 0 t d = iblk m c 0 t :=
  ((dat0 m c).before_in_eq_fetched 0 rfl (fun _ => rfl) (fun _ _ _ => rfl) (fun _ => rfl) t d).trans rfl
theorem before_1 (c : Dev nD) (t : Fin cfg0.N) (d) : (dat0 m c).before 1 t d = iblk m c 1 t :=
  ((dat0 m c).before_in_eq_fetched 1 rfl (fun _ => rfl) (fun _ _ _ => rfl) (fun _ => rfl) t d).trans rfl

theorem blk_0 (c : Dev nD) : iblk m c 0 t0_0 = (ins m).gam c := by
  funext j
  show V m c main_v1 _ = V m c main_v1 j
  refine congrArg _ (funext fun a => Fin.ext ?_)
  fin_cases a
  · show 0 * 1 + 1 * (j 0).val = (j 0).val; omega
  · show 0 * 1024 + 1 * (j 1).val = (j 1).val; omega
theorem blk_1 (c : Dev nD) : iblk m c 1 t0_0 = (ins m).bet c := by
  funext j
  show V m c main_v2 _ = V m c main_v2 j
  refine congrArg _ (funext fun a => Fin.ext ?_)
  fin_cases a
  · show 0 * 1 + 1 * (j 0).val = (j 0).val; omega
  · show 0 * 1024 + 1 * (j 1).val = (j 1).val; omega

theorem scr_eq (c : Dev nD) : (Pipeline.scopedRest (Ix := Unit) (Name := ℕ) (U := UU) (Lvl := ℕ) (Val := Elt F) spec0 c : sProp 𝕄) = Scr c :=
  scopedRest0_eq c

/-- The body on the windows' buffers. -/
theorem body_obligation (c : Dev nD) : BodyObligation (dat0 m c) defs₀ 𝒱₀ () Set.univ := fun t => by
  obtain rfl := fin_N0 t
  rw [bigSep_W0, bigSep_W0]
  have e0 : (dat0 m c).Φ t0_0.castSucc = Phi0 m c := by
    show (if (t0_0.castSucc : Fin (cfg0.N + 1)).val = 0 then Phi0 m c else Phi1 m c) = _; exact if_pos rfl
  have e1 : (dat0 m c).Φ t0_0.succ = Phi1 m c := by
    show (if (t0_0.succ : Fin (cfg0.N + 1)).val = 0 then Phi0 m c else Phi1 m c) = _; exact if_neg (by simp)
  have s0 : (dat0 m c).owed t0_0.succ = 0 := by
    show (if (t0_0.succ : Fin (cfg0.N + 1)).val = 0 then owed c 0 else 0) = _; exact if_neg (by simp)
  rw [e0, e1]
  have hb := run_body m c
  have hin0 : iprop(∃ d, owns (Ix := Unit) (Name := ℕ) (U := UU) (Lvl := ℕ) (c : Thread nD τ) (Memref.whole cc0_stg0_0) fullShare ((dat0 m c).before 0 t0_0 d)) ⊢ (gamP (ins m) c : sProp 𝕄) := by
    simp only [before_0, owns_whole_eq, blk_0]
    iintro ⟨%d, %f, %hf, H⟩
    subst hf; iexact H
  have hin1 : iprop(∃ d, owns (Ix := Unit) (Name := ℕ) (U := UU) (Lvl := ℕ) (c : Thread nD τ) (Memref.whole cc0_stg1_0) fullShare ((dat0 m c).before 1 t0_0 d)) ⊢ (betP (ins m) c : sProp 𝕄) := by
    simp only [before_1, owns_whole_eq, blk_1]
    iintro ⟨%d, %f, %hf, H⟩
    subst hf; iexact H
  have hout0 : (gamP (ins m) c : sProp 𝕄) ⊢ owns (Ix := Unit) (Name := ℕ) (U := UU) (Lvl := ℕ) (c : Thread nD τ) (Memref.whole cc0_stg0_0) fullShare ((dat0 m c).after 0 t0_0) := by
    rw [show (dat0 m c).after 0 t0_0 = (ins m).gam c from blk_0 m c, owns_whole_eq]
    iintro H; iexists (ins m).gam c; isplitr; · ipureintro; rfl
    iexact H
  have hout1 : (betP (ins m) c : sProp 𝕄) ⊢ owns (Ix := Unit) (Name := ℕ) (U := UU) (Lvl := ℕ) (c : Thread nD τ) (Memref.whole cc0_stg1_0) fullShare ((dat0 m c).after 1 t0_0) := by
    rw [show (dat0 m c).after 1 t0_0 = (ins m).bet c from blk_1 m c, owns_whole_eq]
    iintro H; iexists (ins m).bet c; isplitr; · ipureintro; rfl
    iexact H
  iintro ⟨HΦ, HO, H0, H1⟩
  ihave H0 := hin0 $$ H0
  ihave H1 := hin1 $$ H1
  ihave HO := (owesAt_elim m c _ _ (owed_first m c)) $$ HO
  ihave Hw := hb $$ [HΦ HO H0 H1]
  · isplitl [H0]; · iexact H0
    isplitl [H1]; · iexact H1
    isplitl [HΦ]; · iexact HΦ
    unfold Ow; iexact HO
  iapply (wp_wand _ _ _) $$ Hw
  iintro %_ ⟨H0, H1, HΦ, HO⟩
  ihave HO := (Ow_elim c 75) $$ HO
  icases HO with ⟨%W, HO⟩
  isplitl [HΦ]; · iexact HΦ
  isplitl [HO]
  · iapply (owesAt_intro m c _ 0 s0 W)
    rw [← owed_end c]; iexact HO
  isplitl [H0]; · iapply hout0; iexact H0
  iapply hout1; iexact H1

end Cert.KernelIdeal.Talk
-- ==== Proof.Ideal.Run.lean ====
/-
  The run of @main on sixteen devices: the host operations and the kernel as segments, the ghost state dealt out at the
  launch, and what every final state holds.
-/
module

public import proofs.«01_k».proof.Proof.Ideal.Segs

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## The segments -/

theorem kit : Pipeline.PLaunchFacts (nD := nD) (τ := τ) (pcfgs (F := F)) 0 := launch0.toP

theorem owed0_eq (c : Dev nD) : (pdats m 0 c).owed 0 = 0 + owed c 0 := by
  have h : (if (0 : Fin (cfg0.N + 1)).val = 0 then owed c 0 else 0) = owed c 0 := if_pos rfl
  exact h.trans (zero_add _).symm

theorem cut_owed (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then owed c 0 else 0 := rfl
  rw [e] at h
  split at h
  · refine ⟨owed_mem h, ?_⟩
    rcases owed_pos h with ⟨-, p, rfl⟩ | ⟨p, k, rfl⟩
    · exact Nat.one_pos
    · rw [lv_recv]; decide
  · exact absurd h (Nat.lt_irrefl 0)

theorem hin (c : Dev nD) : iprop(Pipeline.scopedRest (Pipeline.pin (pcfgs (F := F)) adm 0).spec c ∗ (∃ r, prngReg c r)
      ∗ StableHlo.held (c.tc : Thread nD τ) Hs (W0 m c) ∗ Xk m c) ⊢ (pdats m 0 c).Φ 0 := by
  have e : (pdats m 0 c).Φ 0 = Phi0 m c := by
    show (if (0 : Fin (cfg0.N + 1)).val = 0 then Phi0 m c else Phi1 m c) = _
    exact if_pos rfl
  rw [e, show (Pipeline.scopedRest (Pipeline.pin (pcfgs (F := F)) adm 0).spec c : sProp 𝕄) = Scr c from scr_eq c,
    held_Hs, show W0 m c (Proc.devRef .tc main_arg0) = (ins m).x c from V_main_arg0 m c]
  unfold Phi0
  iintro ⟨Hs, Hp, ⟨Ha, Hv⟩, HX⟩
  isplitl [HX]; · iexact HX
  isplitl [Hs]; · iexact Hs
  isplitl [Ha]; · iexact Ha
  isplitl [Hv]; · iexact Hv
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (W1 m c) ∗ Pipeline.ownSems0 own c ∗ Yk c) := by
  have e : (pdats m 0 c).Φ (Fin.last (Pipeline.pin (pcfgs (F := F)) adm 0).N) = Phi1 m c := by
    show (if (Fin.last cfg0.N).val = 0 then Phi0 m c else Phi1 m c) = _
    exact if_neg (by rw [Fin.val_last, show cfg0.N = 1 from N_0]; decide)
  rw [e, show (Pipeline.scopedRest (Pipeline.pin (pcfgs (F := F)) adm 0).spec c : sProp 𝕄) = Scr c from scr_eq c,
    held_Hs, W1_arg0, W1_v3]
  unfold Phi1 Pipeline.ownSems0 Yk
  iintro ⟨⟨Hb, Ho⟩, Hs, Ha, Hv, Hp⟩
  isplitl [Hs]; · iexact Hs
  isplitl [Hp]; · iexact Hp
  isplitl [Ha Hv]
  · isplitl [Ha]; · iexact Ha
    iexact Hv
  isplitl [Ho]; · iexact Ho
  iexact Hb

theorem own_facts : Pipeline.OwnSemFacts spec0 own := by decide

theorem rest_same (c : Dev nD) : ∀ b ∈ Sr \ Hs, W1 m c b = W0 m c b := fun b hb =>
  W1_ne m c fun e => (Finset.mem_sdiff.mp hb).2 (by rw [e]; decide)

theorem arr_first (c : Dev nD) (w : Fin 2) : (pdats m 0 c).arrAt w 0 = W0 m c (Proc.devRef .tc (Pipeline.arrRef spec0 w)) := by
  fin_cases w <;> exact (Pipeline.Dat.arrAt_in (dat := dat0 m c) _ rfl 0)
theorem arr_last (c : Dev nD) (w : Fin 2) : (pdats m 0 c).arrAt w (Pipeline.pin (pcfgs (F := F)) adm 0).N = W1 m c (Proc.devRef .tc (Pipeline.arrRef spec0 w)) := by
  fin_cases w
  · exact (Pipeline.Dat.arrAt_in (dat := dat0 m c) 0 rfl _).trans (W1_ne m c (by decide)).symm
  · exact (Pipeline.Dat.arrAt_in (dat := dat0 m c) 1 rfl _).trans (W1_ne m c (by decide)).symm

theorem share_full (c : Dev nD) (w : Fin 2) : (pdats m 0 c).share w = fullShare := by fin_cases w <;> rfl

local notation "ℝ𝕊" => Pipeline.RegionSeg (pcfgs (F := F)) adm (pdats m) () defs₀ 𝒱₀ L lv
local notation "ℍ" => Pipeline.HostSeg (Name := ℕ) (U := UU) (pcfgs (F := F)) defs₀ 𝒱₀ L lv

set_option backward.isDefEq.respectTransparency.types false in
/-- The kernel. -/
def region : ℝ𝕊 0 :=
  Pipeline.RegionSeg.ofTalk (pcfgs (F := F)) adm (pdats m) () defs₀ 𝒱₀ L lv 0 own own_facts Hs Sr Hs_sub kit rfl
    (fun c => (body_obligation m c).loose) (fun _ => 0) (fun c => owed c 0) (owed0_eq m) (owed_last m) (fun _ => rfl) (share_full m)
    (W0 m) (W1 m) (rest_same m) (Tk m) Yk (Xk m) Yk (hopen m) (hin m) (hout m)
    (fun c => by iintro H; imodintro; iexact H)
    (fun _ => 0)
    ⟨fun c w s => by rw [L_tc]; exact Finset.mem_singleton_self _, fun c w s => by fin_cases w <;> fin_cases s <;> exact Nat.le_of_eq rfl,
      fun c t g i h => cut_owed m c t g i h⟩
    (fun _ => iprop(emp)) (arr_first m) (arr_last m)

/-- What rides beside the buffers up to the kernel. -/
def Ride (c : Dev nD) : sProp 𝕄 := iprop(Tk m c ∗ (∃ r, prngReg c r) ∗ ∃ W, owes (c : Thread nD τ) (owed c 0) W)

theorem ops_sub : ∀ op ∈ (hostOps0 : List (HloOp τ sig (Elt F))), op.bufs ⊆ Pipeline.ucRefs τ sig := fun op h =>
  Pipeline.sub_ucRefs op (List.forall_iff_forall_mem.mp hostOps0_sub op h)

/-- The two reshapes. -/
def host : ℍ := Pipeline.HostSeg.ofOps _ _ _ _ _ (Pipeline.ucRefs τ sig) hostOps0 ops_sub
  (fun op h => List.forall_iff_forall_mem.mp hostOps0_fresh op h) (fun c b => m (c, b)) (Ride m)

def segs : List (Pipeline.Seg (pcfgs (F := F)) adm (pdats m) () defs₀ 𝒱₀ L lv) := [.host (host m), .region (region m)]

theorem uc_split (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) Sr W) := by
  rw [StableHlo.held_sub_split (c : Thread nD τ) (show Pipeline.arrRefs (τ := τ) spec0 ⊆ Pipeline.ucRefs τ sig by decide) W,
    show Pipeline.ucRefs τ sig \ Pipeline.arrRefs (τ := τ) spec0 = Sr by decide]

end Cert.KernelIdeal.Talk
-- ==== Proof.Ideal.Main.lean ====
/-
  The launch: every cell funded, the tokens dealt to the devices that will pay, the credits to those that will wait; then
  the run of @main from any memory, and what it ends with.
-/
module

public import proofs.«01_k».proof.Proof.Ideal.Run

@[expose] public section

set_option maxRecDepth 4000

noncomputable section

namespace Cert.KernelIdeal.Talk

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## Cells and tokens -/

def barE : Dev nD ↪ GSem nD τ sig := ⟨fun c => barCell c, fun _ _ h => congrArg (fun g : GSem nD τ sig => g.1.1) h⟩
def ownE : Dev nD × Fin 136 ↪ GSem nD τ sig :=
  ⟨fun p => ownCell p.1 p.2, fun _ _ h => Prod.ext (congrArg (fun g : GSem nD τ sig => g.1.1) h) (own_injective (congrArg Prod.snd h))⟩
def barT : Dev nD × Dev nD ↪ GSem nD τ sig × ℕ × Dev nD :=
  ⟨fun p => (barCell p.1, 0, p.2), fun _ _ h => Prod.ext (congrArg (fun t : GSem nD τ sig × ℕ × Dev nD => t.1.1.1) h)
    (congrArg (fun t : GSem nD τ sig × ℕ × Dev nD => t.2.2) h)⟩
def ownT : Dev nD × Fin 136 ↪ GSem nD τ sig × ℕ × Dev nD :=
  ⟨fun p => (ownCell p.1 p.2, 0, 0), fun _ _ h => ownE.injective (congrArg (fun t : GSem nD τ sig × ℕ × Dev nD => t.1) h)⟩

abbrev barCells : Finset (GSem nD τ sig) := Finset.univ.map barE
abbrev ownCells : Finset (GSem nD τ sig) := Finset.univ.map ownE
abbrev allToks : Finset (GSem nD τ sig × ℕ × Dev nD) := Finset.univ.map barT ∪ Finset.univ.map ownT

theorem bar_ne_own (c d : Dev nD) (i : Fin 136) : barCell c ≠ ownCell d i := fun h => by
  have h2 : (SemLoc.reg barS : SemLoc sig) = own i := congrArg Prod.snd h
  unfold own at h2; cases h2

theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact bar_ne_own c p.1 p.2 h.symm

theorem toks_disjoint : Disjoint (Finset.univ.map barT) (Finset.univ.map ownT) := by
  rw [Finset.disjoint_left]
  rintro g h₁ h₂
  obtain ⟨c, -, rfl⟩ := Finset.mem_map.mp h₁
  obtain ⟨p, -, h⟩ := Finset.mem_map.mp h₂
  exact bar_ne_own c.1 p.1 p.2 (congrArg (fun t : GSem nD τ sig × ℕ × Dev nD => t.1) h).symm

/-- Each token goes to the device that makes the gift. -/
theorem toks_deal : bigSep allToks (fun x => (dutyTok ER x.1 x.2.1 x.2.2 : sProp 𝕄)) ⊢ bigSep Finset.univ fun c : Dev nD => iprop(Toks c ∗ SigToks c) := by
  have hb : (bigSep (Finset.univ.map barT) (fun x => (dutyTok ER x.1 x.2.1 x.2.2 : sProp 𝕄))) ⊢ bigSep Finset.univ fun c : Dev nD => (SigToks c : sProp 𝕄) := by
    rw [BI.bigSep_map, BI.bigSep_univ_prod]
    show (bigSep Finset.univ fun p : Dev nD => bigSep Finset.univ fun s : Dev nD => (dutyTok ER (barCell p) 0 s : sProp 𝕄)) ⊢ _
    rw [bigSep_comm]
    refine BI.bigSep_mono fun c _ => ?_
    rw [bigSep_ring c (fun p : Dev nD => (dutyTok ER (barCell p) 0 c : sProp 𝕄))]
    unfold SigToks
    show (_ : sProp 𝕄) ⊢ (_ : sProp 𝕄)
    iintro ⟨-, H⟩; iexact H
  have ho : (bigSep (Finset.univ.map ownT) (fun x => (dutyTok ER x.1 x.2.1 x.2.2 : sProp 𝕄))) ⊢ bigSep Finset.univ fun c : Dev nD => (Toks c : sProp 𝕄) := by
    rw [BI.bigSep_map, BI.bigSep_univ_prod]
    show (bigSep Finset.univ fun p : Dev nD => bigSep Finset.univ fun i : Fin 136 => (dutyTok ER (ownCell p i) 0 0 : sProp 𝕄)) ⊢ _
    rw [BI.bigSep_congr fun (p : Dev nD) _ => bigSep_own (fun i : Fin 136 => (dutyTok ER (ownCell p i) 0 0 : sProp 𝕄))]
    unfold Toks SndTok
    simp only [bigSep_sep']
    have hr : (bigSep Finset.univ fun p : Dev nD => bigSep Finset.univ fun k : Fin 4 => bigSep Finset.univ fun s : Fin 16 => (dutyTok ER (ownCell p (recvI k s)) 0 0 : sProp 𝕄))
        ⊢ bigSep Finset.univ fun c : Dev nD => bigSep Finset.univ fun k : Fin 4 => bigSep (Finset.range 15) fun j => (dutyTok ER (ownCell (nxt c j) (recvI k c)) 0 0 : sProp 𝕄) := by
      rw [bigSep_comm, bigSep_comm (fun c : Dev nD => fun k : Fin 4 => (bigSep (Finset.range 15) fun j => (dutyTok ER (ownCell (nxt c j) (recvI k c)) 0 0 : sProp 𝕄)))]
      refine BI.bigSep_mono fun k _ => ?_
      rw [bigSep_comm]
      refine BI.bigSep_mono fun c _ => ?_
      rw [bigSep_ring c (fun p : Dev nD => (dutyTok ER (ownCell p (recvI k c)) 0 0 : sProp 𝕄))]
      show (_ : sProp 𝕄) ⊢ (_ : sProp 𝕄)
      iintro ⟨-, H⟩; iexact H
    have hs : (bigSep Finset.univ fun p : Dev nD => bigSep Finset.univ fun k : Fin 4 => bigSep Finset.univ fun d : Fin 16 => (dutyTok ER (ownCell p (sendI k d)) 0 0 : sProp 𝕄))
        ⊢ bigSep Finset.univ fun c : Dev nD => bigSep Finset.univ fun k : Fin 4 => bigSep (Finset.range 15) fun j => (dutyTok ER (ownCell c (sendI k (dist j))) 0 0 : sProp 𝕄) := by
      refine BI.bigSep_mono fun c _ => BI.bigSep_mono fun k _ => ?_
      rw [bigSep_dists (fun d : Fin 16 => (dutyTok ER (ownCell c (sendI k d)) 0 0 : sProp 𝕄))]
      show (_ : sProp 𝕄) ⊢ (_ : sProp 𝕄)
      iintro ⟨-, H⟩; iexact H
    iintro ⟨H1, H2, H3, H4⟩
    isplitl [H1]; · iexact H1
    isplitl [H2]; · iexact H2
    isplitl [H4]; · iapply hr; iexact H4
    iapply hs; iexact H3
  rw [BI.bigSep_union toks_disjoint, bigSep_sep']
  show iprop(bigSep _ _ ∗ bigSep _ _) ⊢ _
  iintro ⟨H1, H2⟩
  isplitl [H2]; · iapply ho; iexact H2
  iapply hb; iexact H1

/-! ## Credits -/

theorem owed_at (d : Dev nD) (g : GSem nD τ sig) : owed d 0 g () = ∑ i ∈ Finset.Ico 0 75, payN d i g () := by
  unfold owed; rw [Finset.sum_apply, Finsupp.finset_sum_apply]

theorem pay_bar (d c : Dev nD) (i : ℕ) : payN d i (barCell c) () = if i < 15 ∧ nxt d i = c then 1 else 0 := by
  unfold payN
  by_cases hi : i < 15
  · rw [if_pos hi, tallyAt_apply]
    by_cases h : nxt d i = c
    · rw [if_pos ⟨by rw [h], rfl⟩, if_pos ⟨hi, h⟩]
    · rw [if_neg fun e => h (congrArg (fun g : GSem nD τ sig => g.1.1) e.1).symm, if_neg fun e => h e.2]
  · rw [if_neg hi, tallyAt_apply, if_neg fun e => bar_ne_own _ _ _ e.1, if_neg fun e => hi e.1]

theorem total_bar (c : Dev nD) : ∑ d : Dev nD, owed d 0 (barCell c) () = 15 := by
  have e : ∀ d : Dev nD, owed d 0 (barCell c) () = ∑ i ∈ Finset.range 15, if nxt d i = c then 1 else 0 := fun d => by
    rw [owed_at, Finset.sum_congr rfl fun i _ => pay_bar d c i, ← Finset.sum_filter, ← Finset.sum_filter]
    refine Finset.sum_congr ?_ fun _ _ => rfl
    ext i; simp only [Finset.mem_filter, Finset.mem_Ico, Finset.mem_range]
    exact ⟨fun h => ⟨h.2.1, h.2.2⟩, fun h => ⟨⟨Nat.zero_le _, Nat.lt_trans h.1 (by decide)⟩, h.1, h.2⟩⟩
  rw [Finset.sum_congr rfl fun d _ => e d]
  clear e
  revert c; decide

theorem recv_inj {k k' : Fin 4} {s s' : Fin 16} (h : recvI k s = recvI k' s') : k = k' ∧ s = s' := by
  have := recvE.injective (a₁ := (k, s)) (a₂ := (k', s')) h
  exact ⟨congrArg Prod.fst this, congrArg Prod.snd this⟩

theorem pay_own (d c : Dev nD) (k : Fin 4) (s : Fin 16) (i : ℕ) : payN d i (ownCell c (recvI k s)) ()
    = if d = s ∧ 15 ≤ i ∧ nxt d ((i - 15) % 15) = c ∧ chk (i - 15) = k then Nslot else 0 := by
  unfold payN
  by_cases hi : i < 15
  · rw [if_pos hi, tallyAt_apply, if_neg fun e => bar_ne_own _ _ _ e.1.symm, if_neg fun e => by omega]
  · rw [if_neg hi, tallyAt_apply]
    by_cases h : d = s ∧ 15 ≤ i ∧ nxt d ((i - 15) % 15) = c ∧ chk (i - 15) = k
    · rw [if_pos h, if_pos ⟨by rw [h.2.2.1, h.2.2.2, h.1], rfl⟩]
    · rw [if_neg h, if_neg fun e => h ?_]
      have e1 : c = nxt d ((i - 15) % 15) := congrArg (fun g : GSem nD τ sig => g.1.1) e.1
      have e2 := recv_inj (own_injective (congrArg Prod.snd e.1))
      exact ⟨e2.2.symm, by omega, e1.symm, e2.1.symm⟩

theorem total_own (c : Dev nD) (k : Fin 4) {j : ℕ} (hj : j < 15) : ∑ d : Dev nD, owed d 0 (ownCell c (recvI k (nxt c j))) () = Nslot := by
  have hc : c.val < 16 := c.isLt
  have hk := k.isLt
  have hback : nxt (nxt c j) (14 - j) = c := Fin.ext (by show ((c.val + j + 1) % 16 + (14 - j) + 1) % 16 = c.val; omega)
  rw [Finset.sum_eq_single (nxt c j), owed_at, Finset.sum_congr rfl fun i _ => pay_own (nxt c j) c k (nxt c j) i,
    Finset.sum_eq_single (15 + 15 * k.val + (14 - j)), if_pos]
  · refine ⟨rfl, by omega, ?_, Fin.ext (by show (15 + 15 * k.val + (14 - j) - 15) / 15 % 4 = k.val; omega)⟩
    rw [show (15 + 15 * k.val + (14 - j) - 15) % 15 = 14 - j by omega, hback]
  · intro i hi hne
    refine if_neg fun ⟨_, h1, h2, h3⟩ => hne ?_
    have h2 := nxt_inj (nxt c j) (Nat.mod_lt _ (by decide)) (show 14 - j < 15 by omega) (h2.trans hback.symm)
    have h3 : (i - 15) / 15 % 4 = k.val := congrArg Fin.val h3
    have := (Finset.mem_Ico.mp hi).2
    omega
  · intro h; exact absurd (Finset.mem_Ico.mpr ⟨Nat.zero_le _, by omega⟩) h
  · intro d _ hne
    rw [owed_at, Finset.sum_congr rfl fun i _ => pay_own d c k (nxt c j) i]
    exact Finset.sum_eq_zero fun i _ => if_neg fun h => hne h.1
  · intro h; exact absurd (Finset.mem_univ _) h

theorem launch_at (g : GSem nD τ sig) (n : ℕ) (h : ∑ d : Dev nD, owed d 0 g () = n) :
    tallyOn g (launchCredit (Pipeline.owing fun d => owed d 0) 0 g) = (tallyAt g () n : CellTallies nD τ sig Unit) := by
  unfold tallyAt; refine congrArg _ (Finsupp.ext fun u => ?_); cases u
  rw [Pipeline.launchCredit_owing, Finsupp.single_eq_same]; exact h

theorem creds (c : Dev nD) : (Pipeline.launchCred (fun d => owed d 0) c : sProp 𝕄) ⊢ Creds c := by
  unfold Pipeline.launchCred
  rw [bigSep_univ_at _ (SemLoc.reg barS), launch_at (barCell c) 15 (total_bar c)]
  unfold Creds
  refine sep_mono_right ?_
  have hsub : Finset.univ.map ⟨own, own_injective⟩ ⊆ (Finset.univ.erase (SemLoc.reg barS) : Finset (SemLoc sig)) := fun x hx => by
    obtain ⟨i, -, rfl⟩ := Finset.mem_map.mp hx
    exact Finset.mem_erase.mpr ⟨fun e => bar_ne_own c c i (Prod.ext rfl e.symm), Finset.mem_univ _⟩
  refine BIBase.Entails.trans (BI.bigSep_subset hsub) ?_
  rw [BI.bigSep_map, bigSep_own]
  refine BIBase.Entails.trans (Q := bigSep Finset.univ fun k : Fin 4 => bigSep Finset.univ fun s : Fin 16 =>
    (cred (tallyOn (ownCell c (recvI k s)) (launchCredit (Pipeline.owing fun d => owed d 0) 0 (ownCell c (recvI k s)))) : sProp 𝕄)) ?_ ?_
  · show (_ : sProp 𝕄) ⊢ (_ : sProp 𝕄)
    iintro ⟨-, -, -, H⟩; iexact H
  · refine BI.bigSep_mono fun k _ => ?_
    rw [bigSep_ring c (fun s : Fin 16 => (cred (tallyOn (ownCell c (recvI k s)) (launchCredit (Pipeline.owing fun d => owed d 0) 0 (ownCell c (recvI k s)))) : sProp 𝕄)),
      BI.bigSep_congr fun j hj => show (cred (tallyOn (ownCell c (recvI k (nxt c j))) (launchCredit (Pipeline.owing fun d => owed d 0) 0 (ownCell c (recvI k (nxt c j))))) : sProp 𝕄)
          = crd c (recvI k (nxt c j)) (dmaAmt (recvI k (nxt c j)).val) by
        rw [launch_at _ _ (total_own c k (Finset.mem_range.mp hj)), amt_recv]]
    show (_ : sProp 𝕄) ⊢ (_ : sProp 𝕄)
    iintro ⟨-, H⟩; iexact H

/-! ## The launch -/

/-- A family of pairs comes apart into two families, -/
theorem unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

/-- and two families go together into one. -/
theorem pair {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

variable (ρ : Dev nD → PrngReg)

/-- The element of the algebra the run starts from. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- The protocol's part of it, left with device 0 until it is dealt. -/
def G (c : Dev nD) : sProp 𝕄 := if c = 0 then BI.own (ER (launchOf barCells ownCells allToks)) else iprop(emp)

theorem G_all : (bigSep Finset.univ G : sProp 𝕄) = BI.own (ER (launchOf barCells ownCells allToks)) := by
  rw [bigSep_univ_at _ (0 : Dev nD), BI.bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- What a device has of the launch beside the protocol's ghost state. -/
def Own0 (c : Dev nD) : sProp 𝕄 :=
  iprop(StableHlo.held (c : Thread nD τ) (Pipeline.ucRefs τ sig) (fun b => m (c, b)) ∗ Creds c ∗ owes (c : Thread nD τ) (owed c 0) ∅ ∗ ∃ r, prngReg c r)

/-- What the protocol gives it. -/
def Lin0 (c : Dev nD) : sProp 𝕄 :=
  iprop(atPos ER (barCell c) 0 ∅ 0 ∗ (bigSep Finset.univ fun i : Fin 136 => openTok ER (ownCell c i)) ∗ (Toks c ∗ SigToks c))

abbrev T0 (c : Dev nD) : sProp 𝕄 := iprop(StableHlo.held (c : Thread nD τ) (Pipeline.ucRefs τ sig) (fun b => m (c, b)) ∗ Ride m c)

theorem T0_intro (K : GSem nD τ sig → ℕ) (c : Dev nD) : iprop(Recs m K ∗ (Lin0 c ∗ Own0 m c)) ⊢ T0 m c := by
  unfold Lin0 Own0 T0 Ride Tk
  iintro ⟨#HR, ⟨Hb, Ho, Ht, Hs⟩, Hh, Hc, HO, Hp⟩
  isplitl [Hh]; · iexact Hh
  isplitl [Hb Ho Ht Hs Hc]
  · isplitr; · iexists K; iexact HR
    isplitl [Hb]; · iexact Hb
    isplitl [Ho]; · iexact Ho
    isplitl [Ht]; · iexact Ht
    isplitl [Hs]; · iexact Hs
    iexact Hc
  isplitl [Hp]; · iexact Hp
  iexists ∅; iexact HO

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem recs_intro (κ : GSem nD τ sig → ℕ) :
    iprop((bigSep (barCells ∪ ownCells) fun g => cellInv ER (Rd (ins m)) (κ g) g) ∗ bigSep barCells fun g => reached ER g 0) ⊢ (Recs m κ : sProp 𝕄) := by
  rw [BI.bigSep_union cells_disjoint, BI.bigSep_map, BI.bigSep_map, BI.bigSep_map]
  show iprop(((bigSep Finset.univ fun p : Dev nD => cellInv ER (Rd (ins m)) (κ (barCell p)) (barCell p))
    ∗ (bigSep Finset.univ fun p : Dev nD × Fin 136 => cellInv ER (Rd (ins m)) (κ (ownCell p.1 p.2)) (ownCell p.1 p.2)))
    ∗ bigSep Finset.univ fun p : Dev nD => reached ER (barCell p) 0) ⊢ _
  unfold Recs
  iintro ⟨⟨H1, H2⟩, H3⟩
  isplitl [H1]; · iexact H1
  isplitl [H2]; · iexact H2
  iexact H3

/-- What a device is launched with, parted into what it keeps and what the protocol needs. -/
theorem init_core (c : Dev nD) : iprop(unscopedBufs c (fun b => m ((c : Thread nD τ).loc b)) ∗ unscopedSems0 c
      ∗ owes (c : Thread nD τ) (owed c 0) ∅ ∗ Pipeline.launchCred (fun d => owed d 0) c ∗ prngReg c (ρ c) ∗ G c)
    ⊢ (iprop(Own0 m c ∗ (semVal (barCell c) 0 ∗ G c)) : sProp 𝕄) := by
  rw [show unscopedBufs c (fun b => m ((c : Thread nD τ).loc b)) = StableHlo.held (c : Thread nD τ) (Pipeline.ucRefs τ sig) (fun b => m (c, b)) from
    Pipeline.unscopedBufs_held c (fun b => m (c, b)), sems_eq]
  unfold Own0
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init_sems : bigSep Finset.univ (fun c : Dev nD => (semVal (barCell c) 0 : sProp 𝕄)) ⊢ bigSep barCells (fun g => (semVal g 0 : sProp 𝕄)) := by
  unfold barCells; rw [BI.bigSep_map]; exact .rfl

theorem init_at : bigSep barCells (fun g => (atPos ER g 0 ∅ 0 : sProp 𝕄)) ⊢ bigSep Finset.univ (fun c : Dev nD => (atPos ER (barCell c) 0 ∅ 0 : sProp 𝕄)) := by
  unfold barCells; rw [BI.bigSep_map]; exact .rfl

theorem init_open : bigSep ownCells (fun g => (openTok ER g : sProp 𝕄))
    ⊢ bigSep Finset.univ (fun c : Dev nD => (bigSep Finset.univ fun i : Fin 136 => openTok ER (ownCell c i) : sProp 𝕄)) := by
  unfold ownCells; rw [BI.bigSep_map, BI.bigSep_univ_prod]; exact .rfl

/-- The protocol's ghost state over any disjoint sets of cells, given how its parts are read per device. -/
theorem deal_gen {S Sd : Finset (GSem nD τ sig)} {T : Finset (GSem nD τ sig × ℕ × Dev nD)} {Pv : sProp 𝕄} {R : (GSem nD τ sig → ℕ) → sProp 𝕄}
    {Pa Po Pt : Dev nD → sProp 𝕄} (hd : Disjoint S Sd) (hv : Pv ⊢ bigSep S (fun g => (semVal g 0 : sProp 𝕄)))
    (hR : ∀ κ, iprop((bigSep (S ∪ Sd) fun g => cellInv ER (Rd (ins m)) (κ g) g) ∗ bigSep S fun g => reached ER g 0) ⊢ R κ)
    (ha : bigSep S (fun g => (atPos ER g 0 ∅ 0 : sProp 𝕄)) ⊢ bigSep Finset.univ Pa)
    (ho : bigSep Sd (fun g => (openTok ER g : sProp 𝕄)) ⊢ bigSep Finset.univ Po)
    (ht : bigSep T (fun x => (dutyTok ER x.1 x.2.1 x.2.2 : sProp 𝕄)) ⊢ bigSep Finset.univ Pt) :
    iprop(Pv ∗ BI.own (ER (launchOf S Sd T))) ⊢ (|={Set.univ}=> ∃ κ, R κ ∗ bigSep Finset.univ fun c => iprop(Pa c ∗ Po c ∗ Pt c) : sProp 𝕄) := by
  iintro ⟨Hs, Hu⟩
  ihave Hv := hv $$ Hs
  imod (Rounds.fund_launch ER (Rd (ins m)) hd (fun g _ h => h) T) $$ [Hv Hu] with ⟨%κ, -, Hinv, Hr, Hat, Hopen, Htok⟩
  · isplitl [Hv] <;> iassumption
  imodintro
  iexists κ
  isplitl [Hinv Hr]
  · iapply (hR κ)
    isplitl [Hinv] <;> iassumption
  iapply pair; isplitl [Hat]; · iapply ha $$ Hat
  iapply pair; isplitl [Hopen]; · iapply ho $$ Hopen
  iapply ht $$ Htok

/-- The protocol's ghost state, from the launch's element and the barrier semaphores at zero. -/
theorem init_deal : iprop((bigSep Finset.univ fun c : Dev nD => (semVal (barCell c) 0 : sProp 𝕄)) ∗ BI.own (ER (launchOf barCells ownCells allToks)))
    ⊢ (|={Set.univ}=> ∃ κ, Recs m κ ∗ bigSep Finset.univ fun c => Lin0 c : sProp 𝕄) :=
  deal_gen m cells_disjoint init_sems (recs_intro m) init_at init_open toks_deal

theorem init_give (κ : GSem nD τ sig → ℕ) :
    iprop(Recs m κ ∗ bigSep Finset.univ fun c => iprop(Lin0 c ∗ Own0 m c)) ⊢ (bigSep Finset.univ (T0 m) : sProp 𝕄) :=
  bigSep_with_persistent (R := Recs m κ) (Φ := fun c => iprop(Lin0 c ∗ Own0 m c)) fun c _ => T0_intro m κ c

theorem init_cores : (bigSep Finset.univ fun c : Dev nD => iprop(unscopedBufs c (fun b => m ((c : Thread nD τ).loc b)) ∗ unscopedSems0 c
        ∗ owes (c : Thread nD τ) (owed c 0) ∅ ∗ Pipeline.launchCred (fun d => owed d 0) c ∗ prngReg c (ρ c) ∗ G c))
    ⊢ (bigSep Finset.univ fun c : Dev nD => iprop(Own0 m c ∗ (semVal (barCell c) 0 ∗ G c)) : sProp 𝕄) :=
  BI.bigSep_mono fun c _ => init_core m ρ c

theorem init :
    iprop((bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ G c)) ∗ levAts L lv)
      ⊢ (|={Set.univ}=> bigSep Finset.univ (T0 m) : sProp 𝕄) := by
  iintro ⟨H, -⟩
  ihave H' := (init_cores m ρ) $$ H
  ihave H2 := unpair $$ H'; icases H2 with ⟨HB, H3⟩
  ihave H4 := unpair $$ H3; icases H4 with ⟨Hv, HG⟩
  ihave Hu := (Entails.of_eq (G_all (F := F))) $$ HG
  imod (init_deal m) $$ [Hv Hu] with ⟨%κ, HR, HL⟩
  · isplitl [Hv] <;> iassumption
  imodintro
  iapply (init_give m κ)
  isplitl [HR]; · iexact HR
  iapply pair
  isplitl [HL] <;> iassumption

/-! ## The run -/

abbrev Tend (c : Dev nD) : sProp 𝕄 := iprop(StableHlo.held (c : Thread nD τ) Sr (W1 m c) ∗ semVal (barCell c) 0)

theorem held_Sr (c : Dev nD) (W : Valuation τ sig (Elt F)) : (StableHlo.held (c : Thread nD τ) Sr W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_arg2 ↦{fullShare} W (Proc.devRef .tc main_arg2)) ∗ ((c : Thread nD τ).loc main_v3 ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_v3] (by decide) (by decide)]
  rfl

theorem region_pre (c : Dev nD) : iprop(StableHlo.held (c : Thread nD τ) (Pipeline.ucRefs τ sig) (W0 m c) ∗ Ride m c) ⊢ (region m).pre c := by
  show _ ⊢ iprop(StableHlo.held (c.tc : Thread nD τ) (Pipeline.arrRefs (τ := τ) (pcfgs (F := F) 0).spec) (W0 m c) ∗ (∃ r, prngReg c r)
    ∗ (StableHlo.held (c.tc : Thread nD τ) Sr (W0 m c) ∗ emp) ∗ Tk m c ∗ ∃ Wd, owes (c : Thread nD τ) (0 + owed c 0) Wd)
  rw [uc_split, zero_add]
  unfold Ride
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

theorem region_post (c : Dev nD) : (region m).post c ⊢ iprop(Tend m c ∗ ∃ W, owes (c : Thread nD τ) (0 : CellTallies nD τ sig Unit) W) := by
  show iprop(StableHlo.held (c.tc : Thread nD τ) (Pipeline.arrRefs (τ := τ) (pcfgs (F := F) 0).spec) (W1 m c) ∗ (∃ r, prngReg c r)
    ∗ (StableHlo.held (c.tc : Thread nD τ) Sr (W1 m c) ∗ emp) ∗ Yk c ∗ ∃ Wd, owes (c : Thread nD τ) (0 : CellTallies nD τ sig Unit) Wd) ⊢ _
  unfold Yk
  iintro ⟨-, -, ⟨Hh, -⟩, Hb, HO⟩
  isplitr [HO]
  · isplitl [Hh] <;> iassumption
  iexact HO

theorem unscoped_eq : ∀ sm : SemLoc sig, sm.isScoped .tc = false → sm = .reg barS := by decide

theorem main_eq (c : Dev nD) : main (F := F) c = Pipeline.Seg.run (segs m) :=
  main_segs adm (pdats m) () 𝒱₀ L lv (host m) (region m) rfl c

set_option backward.isDefEq.respectTransparency.types false in
/-- From any memory, with every semaphore at zero, every run of @main on the sixteen devices ends, with the arguments unchanged,
    each device's result normalised with the statistics of all, and every semaphore at zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3) = outG (ins m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owed c 0) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T0 m) (Tₙ := Tend m)
    (hch := ⟨fun c => .rfl, fun c => region_pre m c, fun c => region_post m c⟩)
    (hinit := init m ρ)
    (QY := fun c s => (s.mem ((c : Thread nD τ).loc main_arg0) = W1 m c (Proc.devRef .tc main_arg0) ∧ s.mem ((c : Thread nD τ).loc main_arg1) = W1 m c (Proc.devRef .tc main_arg1)
      ∧ s.mem ((c : Thread nD τ).loc main_arg2) = W1 m c (Proc.devRef .tc main_arg2) ∧ s.mem ((c : Thread nD τ).loc main_v3) = W1 m c (Proc.devRef .tc main_v3))
      ∧ s.sem (barCell c) = 0)
    (hfin := fun c s' => by
      dsimp only [Tend]; rw [held_Sr]
      iintro ⟨⟨⟨H0, H1, H2, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        exact ⟨h0.trans (W1_arg0 m c), h1.trans (W1_arg1 m c), h2.trans (W1_arg2 m c), h3.trans (W1_v3 m c)⟩,
      sem_eq_zero hs fun c sm hsm => by
        obtain rfl := unscoped_eq sm hsm
        exact (h c).2⟩)

end Cert.KernelIdeal.Talk
-- ==== Proof.Bits.Frame.lean ====
/-
  The kernel as printed and the kernel read over extended reals are one term up to the choice of float operations:
  no rewrite was applied. So the run theorem, which is stated over any choice, speaks of the first one too.
-/
module

public import proofs.«01_k».proof.Kernel
public import proofs.«01_k».proof.Proof.Gen.Kernel
public import proofs.«01_k».proof.Proof.Ideal.Main

@[expose] public section

noncomputable section

namespace Cert.Kernel.Same

open Idealize.ShloMosaic Idealize.SL.Sem

variable {F : FTy → Type} [FloatOps F]

theorem defs₀_eq : Cert.Kernel.defs₀ (F := F) = Cert.KernelIdeal.defs₀ (F := F) := by
  refine congrArg Defs.onTc (funext fun l => funext fun a => ?_)
  match l, a with
  | 0, (t, s) => rfl

theorem defs_eq : Cert.Kernel.defs (F := F) = Cert.KernelIdeal.defs (F := F) :=
  congrArg (Pipeline.defs Cert.KernelIdeal.pcfgs) defs₀_eq

theorem main_eq : Cert.Kernel.main (F := F) = Cert.KernelIdeal.main (F := F) := rfl

/-- The run theorem, of the kernel as printed. -/
theorem run_main (m : (ℓ : Loc nD τ sig) → Buf (Elt F) ℓ) (ρ : Dev nD → PrngReg) :
    θ_run (Cert.Kernel.defs (F := F)) (onTc (τ := τ) (Cert.Kernel.main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) := by
  rw [defs_eq, main_eq]
  exact (θ_run _ _ _).mono (fun r h => ⟨fun c => ⟨(h.1 c).1, (h.1 c).2.1, (h.1 c).2.2.1⟩, h.2⟩) (Cert.KernelIdeal.Talk.run_main m ρ)

end Cert.Kernel.Same
-- ==== Proof.Frames.lean ====
/-
  The claims that say of each program alone that it runs: it ends, faults nowhere, leaves its arguments as they were and
  every semaphore at zero.
-/
module

public import proofs.«01_k».proof.Defs
public import proofs.«01_k».proof.Proof.Gen.ReferenceIdeal
public import proofs.«01_k».proof.Proof.Gen.ReferenceIdeal.Run
public import proofs.«01_k».proof.Proof.Bits.Frame

@[expose] public section

noncomputable section

namespace Cert.Frames

open Idealize.ShloMosaic Idealize.SL.Sem

/-- The kernel as printed, over machine words. -/
theorem kernel : Cert.quiescent_Kernel (hKernel := Cert.Kernel.Gen.facts) :=
  fun m g _ => Cert.Kernel.Same.run_main m g

/-- The kernel over extended reals. -/
theorem ideal : Cert.quiescent_KernelIdeal (hKernelIdeal := Cert.KernelIdeal.Gen.facts) := fun m g _ =>
  (θ_run _ _ _).mono (fun _ h => ⟨fun c => ⟨(h.1 c).1, (h.1 c).2.1, (h.1 c).2.2.1⟩, h.2⟩) (Cert.KernelIdeal.Talk.run_main m g)

/-- The reference over extended reals; it has no semaphore. -/
theorem reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

end Cert.Frames
-- ==== Proof.Value.Stats.lean ====
/-
  What one device puts into its slot: of each row of a chunk, the sum of its columns and the sum of their squares; and what
  the slots of all devices add up to.
-/
module

public import proofs.«01_k».proof.Proof.Ideal.Protocol
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws

@[expose] public section

set_option maxRecDepth 4000

noncomputable section

namespace Cert.KernelIdeal.Value

open Cert.KernelIdeal Cert.KernelIdeal.Gen Cert.KernelIdeal.Talk
open Idealize.ShloMosaic Idealize.ShloMosaic.ValueIdx
open scoped BigOperators

/-- The row of a chunk that lies at `p` in its `r`-th group of 128. -/
def rowIn (r : Fin 4) (p : Fin 128) : Fin 512 := ⟨128 * r.val + p.val, by have := r.isLt; have := p.isLt; omega⟩
/-- The row of the array that lies at `q` in chunk `k`. -/
def rowAt (k : Fin 4) (q : Fin 512) : Fin 2048 := ⟨512 * k.val + q.val, by have := k.isLt; have := q.isLt; omega⟩

/-- Rows of a statistics block: the sums come first, the sums of squares after them. -/
def sumRow (r : Fin 4) : Fin 8 := ⟨r.val, by have := r.isLt; omega⟩
def sqRow (r : Fin 4) : Fin 8 := ⟨r.val + 4, by have := r.isLt; omega⟩

/-- A chunk read as four groups of 128 rows. -/
theorem grouped_apply (v : S512x1024.Idx → EReal) (h : S512x1024.ShapeCasts S4x128x1024) (r : Fin 4) (p : Fin 128) (l : Fin 1024) :
    shapeCast S4x128x1024 v h (ix3 r p l) = v (ix2 (rowIn r p) l) :=
  shapeCast_apply v h _ _ (by
    rw [Shape.rowMajor_val_three, Shape.rowMajor_val_two]
    show (128 * r.val + p.val) * 1024 + l.val = (r.val * 128 + p.val) * 1024 + l.val
    omega)

/-- A sum over the columns of the groups. -/
theorem laneSum_apply (v : FVec Ideal S4x128x1024 .f32) (h : S4x128x1024.Reduces [2] S4x128) (hφ : FKind.Formats .f32)
    (hacc : (0x00000000#32 : BitVec 32) = FKind.add.neutral .f32 hφ) (r : Fin 4) (p : Fin 128) :
    multiReduction .add [2] S4x128 v 0x00000000#32 h hφ hacc (ix2 r p) = ∑ l : Fin 1024, v (ix3 r p l) :=
  (Ideal.multiReduction_add_single v _ h hφ hacc (ix2 r p)).trans (Finset.sum_congr rfl fun l _ => congrArg v (by
    funext a; match a with | ⟨0, _⟩ => rfl | ⟨1, _⟩ => rfl | ⟨2, _⟩ => rfl))

/-- A block of statistics as a slot of the buffer. -/
theorem slot_apply (v : S8x128.Idx → EReal) (h : S8x128.ShapeCasts S1x1x8x128) (r : Fin 8) (p : Fin 128) :
    shapeCast S1x1x8x128 v h (ix4 0 0 r p) = v (ix2 r p) :=
  shapeCast_apply v h _ _ (by
    rw [Shape.rowMajor_val_four, Shape.rowMajor_val_two]
    show r.val * 128 + p.val = (((0 * 1 + 0) * 8 + r.val) * 128 + p.val)
    omega)

/-- The first half of a chunk's statistics: the sums of its rows. -/
theorem pay_sum (v : Vec Ideal S512x1024 .f32) (r : Fin 4) (p : Fin 128) :
    k0_pay1 v (ix4 0 0 (sumRow r) p) = ∑ l : Fin 1024, v (ix2 (rowIn r p) l) := by
  unfold k0_pay1
  refine (slot_apply _ _ _ _).trans ?_
  refine (concatenate_pair_apply_left (t := S8x128) (s₁ := S4x128) (s₂ := S4x128) 0 _ _ _ (ix2 (sumRow r) p) rfl (ix2 r p)
    (fun b => match b with | ⟨0, _⟩ => rfl | ⟨1, _⟩ => rfl)).trans ?_
  refine (laneSum_apply _ _ _ _ r p).trans (Finset.sum_congr rfl fun l _ => grouped_apply _ _ _ _ _)

/-- The second half: the sums of the squares. -/
theorem pay_sq (v : Vec Ideal S512x1024 .f32) (r : Fin 4) (p : Fin 128) :
    k0_pay1 v (ix4 0 0 (sqRow r) p) = ∑ l : Fin 1024, (v (ix2 (rowIn r p) l) * v (ix2 (rowIn r p) l) : EReal) := by
  unfold k0_pay1
  refine (slot_apply _ _ _ _).trans ?_
  refine (concatenate_pair_apply_right (t := S8x128) (s₁ := S4x128) (s₂ := S4x128) 0 _ _ _ (ix2 (sqRow r) p) rfl rfl (ix2 r p)
    (fun b => match b with | ⟨0, _⟩ => fun h => absurd rfl h | ⟨1, _⟩ => fun _ => rfl) rfl).trans ?_
  refine (laneSum_apply _ _ _ _ r p).trans (Finset.sum_congr rfl fun l _ => ?_)
  exact (mulf_apply _ _ _).trans (congrArg₂ (fun a b : EReal => a * b) (grouped_apply _ _ _ _ _) (grouped_apply _ _ _ _ _))

variable (A : Ins Ideal)

theorem chunk_apply (f : S2048x1024.Idx → EReal) (k : Fin 4) (q : Fin 512) (l : Fin 1024) :
    chunkOf (F := Ideal) f k (ix2 q l) = f (ix2 (rowAt k q) l) := by
  unfold chunkOf
  refine congrArg f ?_
  funext a
  match a with
  | ⟨0, _⟩ => exact Fin.ext (by show 512 * k.val + 1 * q.val = 512 * k.val + q.val; omega)
  | ⟨1, _⟩ => exact Fin.ext (by show 0 + 1 * l.val = l.val; omega)

theorem stat_apply (d : Fin 16) (k : Fin 4) (r : Fin 8) (p : Fin 128) :
    statG A (ix4 d k r p) = k0_pay1 (chunkOf (A.x d) k) (ix4 0 0 r p) := by
  unfold statG
  refine congrArg (k0_pay1 (chunkOf (A.x d) k)) ?_
  funext a
  match a with | ⟨0, _⟩ => rfl | ⟨1, _⟩ => rfl | ⟨2, _⟩ => rfl | ⟨3, _⟩ => rfl

/-- A slot of the buffer holds its device's statistics of its chunk. -/
theorem strip_apply (k : Fin 4) (d : Fin 16) (r : Fin 8) (p : Fin 128) :
    stripOf (F := Ideal) (statG A) k (ix4 d 0 r p) = k0_pay1 (chunkOf (A.x d) k) (ix4 0 0 r p) := by
  refine (congrArg (statG A) ?_).trans (stat_apply A d k r p)
  funext a
  match a with
  | ⟨0, _⟩ => exact Fin.ext (by show 0 + 1 * d.val = d.val; omega)
  | ⟨1, _⟩ => exact Fin.ext (by show k.val + 1 * 0 = k.val; omega)
  | ⟨2, _⟩ => exact Fin.ext (by show 0 + 1 * r.val = r.val; omega)
  | ⟨3, _⟩ => exact Fin.ext (by show 0 + 1 * p.val = p.val; omega)

/-- The slots of one chunk, device by device. -/
theorem devices_apply (v : S16x1x8x128.Idx → EReal) (hc : S16x1x8x128.ShapeCasts S16x8x128) (d : Fin 16) (r : Fin 8) (p : Fin 128) :
    shapeCast S16x8x128 v hc (ix3 d r p) = v (ix4 d 0 r p) :=
  shapeCast_apply v hc _ _ (by
    rw [Shape.rowMajor_val_four, Shape.rowMajor_val_three]
    show ((d.val * 1 + 0) * 8 + r.val) * 128 + p.val = (d.val * 8 + r.val) * 128 + p.val
    omega)

/-- The slots of one chunk added up over the devices. -/
theorem total_apply (v : FVec Ideal S16x1x8x128 .f32) (hc : S16x1x8x128.ShapeCasts S16x8x128) (h : S16x8x128.Reduces [0] S8x128)
    (hφ : FKind.Formats .f32) (hacc : (0x00000000#32 : BitVec 32) = FKind.add.neutral .f32 hφ) (r : Fin 8) (p : Fin 128) :
    multiReduction .add [0] S8x128 (shapeCast S16x8x128 v hc) 0x00000000#32 h hφ hacc (ix2 r p) = ∑ d : Fin 16, v (ix4 d 0 r p) := by
  refine (Ideal.multiReduction_add_single _ _ h hφ hacc (ix2 r p)).trans (Finset.sum_congr rfl fun d _ => ?_)
  exact (congrArg _ (show h.lift (ix2 r p) d = ix3 d r p from by
    funext a; match a with | ⟨0, _⟩ => rfl | ⟨1, _⟩ => rfl | ⟨2, _⟩ => rfl)).trans (devices_apply v hc d r p)

end Cert.KernelIdeal.Value

end
-- ==== Proof.Value.Norm.lean ====
/-
  What one device's result holds: each element, normalised by the sums over all devices' columns of its row.
-/
module

public import proofs.«01_k».proof.Proof.Value.Stats

@[expose] public section

set_option maxRecDepth 4000

noncomputable section

namespace Cert.KernelIdeal.Value

open Cert.KernelIdeal Cert.KernelIdeal.Gen Cert.KernelIdeal.Talk
open Idealize.ShloMosaic Idealize.ShloMosaic.ValueIdx
open scoped BigOperators

/-- Four groups of 128 rows read as the rows of a chunk. -/
theorem ungrouped_apply (v : S4x128x1024.Idx → EReal) (h : S4x128x1024.ShapeCasts S512x1024) (r : Fin 4) (p : Fin 128) (l : Fin 1024) :
    shapeCast S512x1024 v h (ix2 (rowIn r p) l) = v (ix3 r p l) :=
  shapeCast_apply v h _ _ (by
    rw [Shape.rowMajor_val_three, Shape.rowMajor_val_two]
    show (r.val * 128 + p.val) * 1024 + l.val = (128 * r.val + p.val) * 1024 + l.val
    omega)

/-- A statistic of each row, as a column. -/
theorem column_apply (v : S4x128.Idx → EReal) (h : S4x128.ShapeCasts S4x128x1) (r : Fin 4) (p : Fin 128) :
    shapeCast S4x128x1 v h (ix3 r p 0) = v (ix2 r p) :=
  shapeCast_apply v h _ _ (by
    rw [Shape.rowMajor_val_three, Shape.rowMajor_val_two]
    show r.val * 128 + p.val = (r.val * 128 + p.val) * 1 + 0
    omega)

/-- A column repeated along the columns. -/
theorem along_apply (v : S4x128x1.Idx → EReal) (h : S4x128x1.Broadcasts S4x128x1024) (r : Fin 4) (p : Fin 128) (l : Fin 1024) :
    broadcastTo S4x128x1024 v h (ix3 r p l) = v (ix3 r p 0) :=
  broadcastTo_apply v h _ _ (fun a => match a with | ⟨0, _⟩ => rfl | ⟨1, _⟩ => rfl | ⟨2, _⟩ => rfl)

/-- A row repeated over the rows. -/
theorem over_apply (v : S1x1x1024.Idx → EReal) (h : S1x1x1024.Broadcasts S4x128x1024) (r : Fin 4) (p : Fin 128) (l : Fin 1024) :
    broadcastTo S4x128x1024 v h (ix3 r p l) = v (ix3 0 0 l) :=
  broadcastTo_apply v h _ _ (fun a => match a with | ⟨0, _⟩ => rfl | ⟨1, _⟩ => rfl | ⟨2, _⟩ => rfl)

theorem sums_apply (v : S8x128.Idx → EReal) (h : S8x128.Slices ![0, 0] S4x128) (r : Fin 4) (p : Fin 128) :
    extractStridedSlice S4x128 ![0, 0] v h (ix2 r p) = v (ix2 (sumRow r) p) :=
  slice2_axis0_apply 0 v h r p _ (by show r.val = 0 + r.val; omega)

theorem squares_apply (v : S8x128.Idx → EReal) (h : S8x128.Slices ![4, 0] S4x128) (r : Fin 4) (p : Fin 128) :
    extractStridedSlice S4x128 ![4, 0] v h (ix2 r p) = v (ix2 (sqRow r) p) :=
  slice2_axis0_apply 4 v h r p _ (by show r.val + 4 = 4 + r.val; omega)

/-- The mean of each row, out of the sums. -/
theorem mean_apply (v : FVec Ideal S8x128 .f32) (n : Ideal .f32) (h : S8x128.Slices ![0, 0] S4x128) (hc : S4x128.ShapeCasts S4x128x1)
    (r : Fin 4) (p : Fin 128) :
    shapeCast S4x128x1 (divf (extractStridedSlice S4x128 ![0, 0] v h) (broadcast S4x128 n)) hc (ix3 r p 0)
      = Ideal.div (v (ix2 (sumRow r) p)) n :=
  (column_apply _ hc r p).trans (congrArg (fun t => Ideal.div t n) (sums_apply v h r p))

/-- The mean of the squares, out of the sums of squares. -/
theorem square_apply (v : FVec Ideal S8x128 .f32) (n : Ideal .f32) (h : S8x128.Slices ![4, 0] S4x128) (hc : S4x128.ShapeCasts S4x128x1)
    (r : Fin 4) (p : Fin 128) :
    shapeCast S4x128x1 (divf (extractStridedSlice S4x128 ![4, 0] v h) (broadcast S4x128 n)) hc (ix3 r p 0)
      = Ideal.div (v (ix2 (sqRow r) p)) n :=
  (column_apply _ hc r p).trans (congrArg (fun t => Ideal.div t n) (squares_apply v h r p))

/-- The normalisation of one element `x` by the sum `S` and the sum of squares `Q` of its row, with scale `g` and shift `b`. -/
def normed (S Q x g b : EReal) : EReal :=
  ((x - Ideal.div S (Ideal.ofBits .f32 0x46800000#32))
      * Ideal.rsqrt ((Ideal.div Q (Ideal.ofBits .f32 0x46800000#32)
          - Ideal.div S (Ideal.ofBits .f32 0x46800000#32) * Ideal.div S (Ideal.ofBits .f32 0x46800000#32)) + Ideal.ofBits .f32 0x3727C5AC#32))
    * g + b

/-- What a chunk is normalised to, given all devices' slots. -/
theorem pay_norm (g b : FVec Ideal S1x1x1024 .f32) (w : Vec Ideal S16x1x8x128 .f32) (x : Vec Ideal S512x1024 .f32)
    (r : Fin 4) (p : Fin 128) (l : Fin 1024) :
    k0_pay7 g b w x (ix2 (rowIn r p) l)
      = normed (∑ d : Fin 16, w (ix4 d 0 (sumRow r) p)) (∑ d : Fin 16, w (ix4 d 0 (sqRow r) p))
          (x (ix2 (rowIn r p) l)) (g (ix3 0 0 l)) (b (ix3 0 0 l)) := by
  unfold k0_pay7 normed
  refine (ungrouped_apply _ _ r p l).trans ?_
  rw [addf_apply, mulf_apply, mulf_apply, subf_apply, along_apply, along_apply, over_apply, over_apply, grouped_apply]
  refine congrArg (fun t => t * _ + _) (congrArg₂ (fun s t => (_ - s) * Ideal.rsqrt t) ?_ (congrArg (fun t => t + _) ?_))
  · exact (mean_apply _ _ _ _ r p).trans (congrArg (fun t => Ideal.div t _) (total_apply w _ _ _ _ _ p))
  · refine congrArg₂ (fun s t => s - t * t) ?_ ?_
    · exact (square_apply _ _ _ _ r p).trans (congrArg (fun t => Ideal.div t _) (total_apply w _ _ _ _ _ p))
    · exact (mean_apply _ _ _ _ r p).trans (congrArg (fun t => Ideal.div t _) (total_apply w _ _ _ _ _ p))

/-- Scale and shift as the chunks read them. -/
theorem scale_apply (v : Vec Ideal S1x1024 .f32) (l : Fin 1024) : k0_pay5 v (ix3 0 0 l) = v (ix2 0 l) := by
  unfold k0_pay5
  refine (shapeCast_apply _ _ _ (ix2 0 l) (by
    rw [Shape.rowMajor_val_three, Shape.rowMajor_val_two]; rfl)).trans (shapeCast_apply _ _ _ _ rfl)

theorem shift_apply (v : Vec Ideal S1x1024 .f32) (l : Fin 1024) : k0_pay6 v (ix3 0 0 l) = v (ix2 0 l) := by
  unfold k0_pay6
  refine (shapeCast_apply _ _ _ (ix2 0 l) (by
    rw [Shape.rowMajor_val_three, Shape.rowMajor_val_two]; rfl)).trans (shapeCast_apply _ _ _ _ rfl)

variable (A : Ins Ideal)

/-- A chunk of the result. -/
theorem chunk_norm (c : Dev nD) (k : Fin 4) (r : Fin 4) (p : Fin 128) (l : Fin 1024) :
    outC A c k (ix2 (rowIn r p) l)
      = normed (∑ d : Fin 16, ∑ i : Fin 1024, A.x d (ix2 (rowAt k (rowIn r p)) i))
          (∑ d : Fin 16, ∑ i : Fin 1024, (A.x d (ix2 (rowAt k (rowIn r p)) i) * A.x d (ix2 (rowAt k (rowIn r p)) i) : EReal))
          (A.x c (ix2 (rowAt k (rowIn r p)) l)) (A.gam c (ix2 0 l)) (A.bet c (ix2 0 l)) := by
  unfold outC k0_pay8
  refine (shapeCast_apply _ _ _ _ rfl).trans ?_
  rw [pay_norm, scale_apply, shift_apply, chunk_apply]
  simp only [strip_apply, pay_sum, pay_sq, chunk_apply]

/-- An element of a device's result, in terms of all devices' columns of its row. -/
theorem out_apply (c : Dev nD) (i : Fin 2048) (l : Fin 1024) :
    outG A c (ix2 i l)
      = normed (∑ d : Fin 16, ∑ j : Fin 1024, A.x d (ix2 i j))
          (∑ d : Fin 16, ∑ j : Fin 1024, (A.x d (ix2 i j) * A.x d (ix2 i j) : EReal))
          (A.x c (ix2 i l)) (A.gam c (ix2 0 l)) (A.bet c (ix2 0 l)) := by
  have hi := i.isLt
  set k : Fin 4 := ⟨i.val / 512, by omega⟩ with hk
  set r : Fin 4 := ⟨i.val % 512 / 128, by omega⟩ with hr
  set p : Fin 128 := ⟨i.val % 128, by omega⟩ with hp
  have e : rowAt k (rowIn r p) = i := Fin.ext (by
    show 512 * (i.val / 512) + (128 * (i.val % 512 / 128) + i.val % 128) = i.val; omega)
  have hq : outG A c (ix2 i l) = outC A c k (ix2 (rowIn r p) l) := by
    unfold outG
    refine congrArg (outC A c k) ?_
    funext a
    match a with
    | ⟨0, _⟩ => exact Fin.ext (by show i.val % 512 = 128 * (i.val % 512 / 128) + i.val % 128; omega)
    | ⟨1, _⟩ => rfl
  rw [hq, chunk_norm, e]

end Cert.KernelIdeal.Value

end
-- ==== Proof.Value.Number.lean ====
/-
  The arithmetic: the words the programs name as real numbers, and the two ways of normalising a row. One takes the mean
  of the squares less the square of the mean, and multiplies by the reciprocal root; the other takes the mean of the
  squared distances, and divides by the root. Over a row of reals they agree, whatever the scale and the shift.
-/
module

public import Idealize.ShloMosaic.PureOps.Ideal
public import Idealize.ShloMosaic.PureOps.Ideal.Laws
public import Mathlib.Data.EReal.Inv
public import Mathlib.Algebra.BigOperators.Field

@[expose] public section

noncomputable section

namespace Cert.Math

open Idealize.ShloMosaic
open scoped BigOperators

/-- The number of columns. -/
theorem word_n : Ideal.ofBits .f32 0x46800000#32 = ((16384 : ℝ) : EReal) := by
  simp [Ideal.ofBits, Ideal.ieee, -EReal.coe_mul]; norm_num

/-- The guard added to a variance is a positive real. -/
theorem word_eps : ∃ e : ℝ, 0 < e ∧ Ideal.ofBits .f32 0x3727C5AC#32 = ((e : ℝ) : EReal) :=
  ⟨10995116 / 1099511627776, by norm_num, by simp [Ideal.ofBits, Ideal.ieee, -EReal.coe_mul]; norm_num⟩

/-- The word of infinity. -/
theorem word_inf : Ideal.ofBits .f32 0x7F800000#32 = ⊤ := by
  simp [Ideal.ofBits, Ideal.ieee]

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of reals by a nonzero one. -/
theorem div_coe (a : EReal) {b : ℝ} (hb : b ≠ 0) : Ideal.div a (b : EReal) = a * ((b⁻¹ : ℝ) : EReal) := by
  unfold Ideal.div
  rw [if_neg (by exact_mod_cast hb), EReal.coe_inv]

theorem div_real (a : ℝ) {b : ℝ} (hb : b ≠ 0) : Ideal.div (a : EReal) (b : EReal) = ((a / b : ℝ) : EReal) := by
  rw [div_coe _ hb, ← EReal.coe_mul, div_eq_mul_inv]

/-- The mean of the squared distances from the mean is the mean of the squares less the square of the mean. -/
theorem variance {N : ℕ} (hN : (N : ℝ) ≠ 0) (f : Fin N → ℝ) :
    (∑ j, (f j - (∑ i, f i) / N) * (f j - (∑ i, f i) / N)) / N = (∑ j, f j * f j) / N - (∑ i, f i) / N * ((∑ i, f i) / N) := by
  set μ := (∑ i, f i) / N with hμ
  have hs : ∑ i, f i = N * μ := by rw [hμ]; field_simp
  have h1 : ∑ j, (f j - μ) * (f j - μ) = (∑ j, f j * f j) - N * (μ * μ) := by
    have : ∀ j, (f j - μ) * (f j - μ) = f j * f j - 2 * μ * f j + μ * μ := fun j => by ring
    simp only [this, Finset.sum_add_distrib, Finset.sum_sub_distrib, ← Finset.mul_sum, Finset.sum_const, Finset.card_univ, Fintype.card_fin, nsmul_eq_mul]
    rw [hs]; ring
  rw [h1]; field_simp

/-- The two normalisations of one element `x`, with scale `g` and shift `b`, by the statistics of a row of reals. -/
theorem normalise (f : Fin 16384 → ℝ) {e : ℝ} (he : 0 < e) (x g b : EReal) :
    ((x - Ideal.div (∑ j, (f j : EReal)) ((16384 : ℝ) : EReal))
        * Ideal.rsqrt ((Ideal.div (∑ j, (f j : EReal) * (f j : EReal)) ((16384 : ℝ) : EReal)
            - Ideal.div (∑ j, (f j : EReal)) ((16384 : ℝ) : EReal) * Ideal.div (∑ j, (f j : EReal)) ((16384 : ℝ) : EReal)) + (e : EReal)))
        * g + b
      = Ideal.div (g * (x - Ideal.div (∑ j, (f j : EReal)) ((16384 : ℝ) : EReal)))
          (Ideal.sqrt (Ideal.div (∑ j, ((f j : EReal) - Ideal.div (∑ j, (f j : EReal)) ((16384 : ℝ) : EReal))
              * ((f j : EReal) - Ideal.div (∑ j, (f j : EReal)) ((16384 : ℝ) : EReal))) ((16384 : ℝ) : EReal) + (e : EReal))) + b := by
  have hn : (16384 : ℝ) ≠ 0 := by norm_num
  have hm : Ideal.div (∑ j, (f j : EReal)) ((16384 : ℝ) : EReal) = (((∑ j, f j) / 16384 : ℝ) : EReal) := by
    rw [coe_sum, div_real _ hn]
  have hq : Ideal.div (∑ j, (f j : EReal) * (f j : EReal)) ((16384 : ℝ) : EReal) = (((∑ j, f j * f j) / 16384 : ℝ) : EReal) := by
    simp only [← EReal.coe_mul]
    rw [coe_sum, div_real _ hn]
  rw [hm, hq]
  simp only [← EReal.coe_mul, ← EReal.coe_sub]
  rw [coe_sum, div_real _ hn, ← EReal.coe_add, ← EReal.coe_add]
  have hv := variance (N := 16384) (by norm_num) f
  push_cast at hv
  rw [hv]
  set v := (∑ j, f j * f j) / 16384 - (∑ i, f i) / 16384 * ((∑ i, f i) / 16384) with hvd
  have h0 : 0 ≤ v := by
    rw [← hv]
    exact div_nonneg (Finset.sum_nonneg fun j _ => mul_self_nonneg _) (by norm_num)
  have hp : 0 < v + e := by linarith
  have hr : Real.sqrt (v + e) ≠ 0 := (Real.sqrt_pos.mpr hp).ne'
  rw [Ideal.rsqrt_coe, Ideal.sqrt_coe, if_neg (not_lt.mpr hp.le), if_neg (not_lt.mpr hp.le), if_neg hp.ne', div_coe _ hr]
  congr 1
  rw [mul_comm _ g, mul_assoc]

/-- A sum over the columns, device by device. -/
theorem sum_columns (f : Fin 16384 → EReal) :
    ∑ j, f j = ∑ d : Fin 16, ∑ l : Fin 1024, f ⟨1024 * d.val + l.val, by have := d.isLt; have := l.isLt; omega⟩ := by
  rw [← Fintype.sum_prod_type' (f := fun (d : Fin 16) (l : Fin 1024) => f ⟨1024 * d.val + l.val, by have := d.isLt; have := l.isLt; omega⟩)]
  refine (Fintype.sum_equiv (finProdFinEquiv (m := 16) (n := 1024)) _ _ fun p => ?_).symm
  exact congrArg f (Fin.ext (by simp [finProdFinEquiv]; omega))

end Cert.Math

end
-- ==== Proof.Value.Reference.lean ====
/-
  What the reference's result holds: each element less the mean of its row, scaled, over the root of the row's variance,
  and shifted.
-/
module

public import proofs.«01_k».proof.Proof.Gen.ReferenceIdeal
public import proofs.«01_k».proof.Proof.Gen.ReferenceIdeal.Run
public import proofs.«01_k».proof.Proof.Value.Number
public import Idealize.ShloMosaic.Lib.ValueIdx
public import Idealize.ShloMosaic.Lib.ValueLayout
public import Idealize.ShloMosaic.Lib.IdealHost
public import Idealize.ShloMosaic.Lib.Pipeline.Value
public import Idealize.ShloMosaic.PureOps.Ideal.Laws

@[expose] public section

set_option maxRecDepth 4000

noncomputable section

namespace Cert.ReferenceIdeal.Rows

open Cert.ReferenceIdeal Cert.ReferenceIdeal.Facts Cert.ReferenceIdeal.Gen
open Idealize.ShloMosaic Idealize.ShloMosaic.ValueIdx
open scoped BigOperators

/-- A number per row, repeated along the columns. -/
abbrev along (v : FVec Ideal S2048x1 .f32) : FVec Ideal S2048x16384 .f32 := broadcastInDim S2048x16384 ![0, 1] bcast_S2048x1_S2048x16384_0_1 v
/-- A number per column, repeated over the rows. -/
abbrev over (v : FVec Ideal S16384 .f32) : FVec Ideal S2048x16384 .f32 :=
  broadcastInDim S2048x16384 ![0, 1] bcast_S1x16384_S2048x16384_0_1 (broadcastInDim S1x16384 ![1] bcast_S16384_S1x16384_1 v)
/-- One number for every row. -/
abbrev every (v : FVec Ideal S_ .f32) : FVec Ideal S2048x1 .f32 := broadcastInDim S2048x1 ![] bcast_S_S2048x1 v
/-- The sum of each row. -/
abbrev rowSum (x : FVec Ideal S2048x16384 .f32) : FVec Ideal S2048x1 .f32 :=
  broadcastInDim S2048x1 ![0] bcast_S2048_S2048x1_0 (Host.reduceAdd x (constant S_ .f32 0x00000000#32) reducesTo_S2048x16384_S2048_d1 h_S_)
/-- The number of columns, as the mean takes it and as the variance takes it. -/
abbrev count : FVec Ideal S_ .f32 := constant S_ .f32 0x46800000#32
abbrev count' : FVec Ideal S_ .f32 := subf count (sitofp .f32 (constantI S_ 32 0#32))

/-- The mean of each row. -/
abbrev mean (x : FVec Ideal S2048x16384 .f32) : FVec Ideal S2048x1 .f32 := Host.divf (rowSum x) (every count)
/-- The distances from the mean. -/
abbrev away (x : FVec Ideal S2048x16384 .f32) : FVec Ideal S2048x16384 .f32 := subf x (along (mean x))
/-- The variance of each row. -/
abbrev var (x : FVec Ideal S2048x16384 .f32) : FVec Ideal S2048x1 .f32 :=
  select (broadcastInDim S2048x1 ![] bcast_S_S2048x1 (cmpf .ogt count' (constant S_ .f32 0x00000000#32)))
    (Host.divf (rowSum (mulf (away x) (away x))) (every count')) (every (id (constant S_ .f32 0x7FC00000#32)))
/-- The whole result. -/
def out (x : FVec Ideal S2048x16384 .f32) (g b : FVec Ideal S16384 .f32) : FVec Ideal S2048x16384 .f32 :=
  addf (Host.divf (mulf (over g) (away x)) (along (Host.sqrt (addf (var x) (every (constant S_ .f32 0x3727C5AC#32)))))) (over b)

theorem along_apply (v : FVec Ideal S2048x1 .f32) (i : Fin 2048) (j : Fin 16384) : along v (ix2 i j) = v (ix2 i 0) :=
  broadcastInDim_apply _ _ v _ _ (fun a => match a with | ⟨0, _⟩ => rfl | ⟨1, _⟩ => rfl)

theorem over_apply (v : FVec Ideal S16384 .f32) (i : Fin 2048) (j : Fin 16384) : over v (ix2 i j) = v (ix1 j) :=
  (broadcastInDim_apply _ _ _ _ (ix2 0 j) (fun a => match a with | ⟨0, _⟩ => rfl | ⟨1, _⟩ => rfl)).trans
    (broadcastInDim_apply _ _ v _ _ (fun a => match a with | ⟨0, _⟩ => rfl))

theorem every_apply (v : FVec Ideal S_ .f32) (i : Fin 2048) : every v (ix2 i 0) = v ix0 :=
  broadcastInDim_scalar_apply _ v _

theorem rowSum_apply (x : FVec Ideal S2048x16384 .f32) (i : Fin 2048) : rowSum x (ix2 i 0) = ∑ j : Fin 16384, x (ix2 i j) := by
  refine (broadcastInDim_apply _ _ _ _ (ix1 i) (fun a => match a with | ⟨0, _⟩ => rfl)).trans ?_
  refine (hostReduceAdd_apply _ _ _ _ _).trans ?_
  refine (Ideal.hostReduceAdd_single _ (show S2048x16384.Reduces [1] S2048 by decide) x _ (ix1 i)).trans ?_
  rw [constant_apply, Ideal.ofBits_zero_f32, zero_add]
  refine Finset.sum_congr rfl fun j _ => congrArg x ?_
  funext a; match a with | ⟨0, _⟩ => rfl | ⟨1, _⟩ => rfl

theorem count_eq : count ix0 = ((16384 : ℝ) : EReal) := (constant_apply _ _).trans Cert.Math.word_n

theorem count'_eq : count' ix0 = ((16384 : ℝ) : EReal) := by
  refine (subf_apply _ _ _).trans ?_
  rw [count_eq]
  show ((16384 : ℝ) : EReal) - (((BitVec.toInt (0#32) : ℤ) : ℝ) : EReal) = _
  simp

theorem mean_apply (x : FVec Ideal S2048x16384 .f32) (i : Fin 2048) :
    mean x (ix2 i 0) = Ideal.div (∑ j : Fin 16384, x (ix2 i j)) ((16384 : ℝ) : EReal) := by
  refine (hostDivf_apply _ _ _).trans ?_
  rw [rowSum_apply, every_apply, count_eq]

theorem away_apply (x : FVec Ideal S2048x16384 .f32) (i : Fin 2048) (j : Fin 16384) :
    away x (ix2 i j) = x (ix2 i j) - Ideal.div (∑ j : Fin 16384, x (ix2 i j)) ((16384 : ℝ) : EReal) := by
  refine (subf_apply _ _ _).trans ?_
  rw [along_apply, mean_apply]

theorem var_apply (x : FVec Ideal S2048x16384 .f32) (i : Fin 2048) :
    var x (ix2 i 0) = Ideal.div (∑ j : Fin 16384, away x (ix2 i j) * away x (ix2 i j)) ((16384 : ℝ) : EReal) := by
  have hc : (broadcastInDim S2048x1 ![] bcast_S_S2048x1 (cmpf .ogt count' (constant (F := Ideal) S_ .f32 0x00000000#32))) (ix2 i 0) = 1#1 := by
    refine (broadcastInDim_scalar_apply _ _ _).trans ?_
    show BitVec.ofBool (decide (Ideal.ofBits .f32 0x00000000#32 < count' ix0)) = 1#1
    rw [count'_eq, Ideal.ofBits_zero_f32, decide_eq_true (by norm_num)]
    rfl
  have : var x (ix2 i 0) = Host.divf (rowSum (mulf (away x) (away x))) (every count') (ix2 i 0) := by
    show (if _ = 1#1 then _ else _) = _
    rw [if_pos hc]
  rw [this]
  refine (hostDivf_apply _ _ _).trans ?_
  rw [rowSum_apply, every_apply, count'_eq]
  rfl

/-- An element of the result. -/
theorem out_apply (x : FVec Ideal S2048x16384 .f32) (g b : FVec Ideal S16384 .f32) (i : Fin 2048) (j : Fin 16384) :
    out x g b (ix2 i j)
      = Ideal.div (g (ix1 j) * (x (ix2 i j) - Ideal.div (∑ j, x (ix2 i j)) ((16384 : ℝ) : EReal)))
          (Ideal.sqrt (Ideal.div (∑ k, ((x (ix2 i k) - Ideal.div (∑ j, x (ix2 i j)) ((16384 : ℝ) : EReal))
              * (x (ix2 i k) - Ideal.div (∑ j, x (ix2 i j)) ((16384 : ℝ) : EReal)) : EReal)) ((16384 : ℝ) : EReal)
            + Ideal.ofBits .f32 0x3727C5AC#32)) + b (ix1 j) := by
  unfold out
  refine (addf_apply _ _ _).trans (congrArg₂ (fun s t : EReal => s + t) ?_ (over_apply b i j))
  refine (hostDivf_apply _ _ _).trans (congrArg₂ Ideal.div ?_ ?_)
  · exact (mulf_apply _ _ _).trans (congrArg₂ (fun s t : EReal => s * t) (over_apply g i j) (away_apply x i j))
  · refine (along_apply _ i j).trans (congrArg Ideal.sqrt ?_)
    refine (addf_apply _ _ _).trans (congrArg₂ (fun s t : EReal => s + t) ?_ ((every_apply _ i).trans (constant_apply _ _)))
    refine (var_apply x i).trans (congrArg (fun s : EReal => Ideal.div s ((16384 : ℝ) : EReal)) (Finset.sum_congr rfl fun k _ => ?_))
    rw [away_apply]

open Idealize.SL.Sem in
/-- From any memory, the reference ends with its result as above and its arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r =>
      r.2.mem (((0 : Dev nD).tc : Thread nD τ).loc main_v17)
          = out (m (((0 : Dev nD).tc : Thread nD τ).loc main_arg0)) (m (((0 : Dev nD).tc : Thread nD τ).loc main_arg1))
              (m (((0 : Dev nD).tc : Thread nD τ).loc main_arg2))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2) :=
  (θ_run _ _ _).mono (fun _ h => ⟨(h 0).1.trans rfl, (h 0).2⟩) (Cert.ReferenceIdeal.Value.run m ρ)

end Cert.ReferenceIdeal.Rows

end
-- ==== Proof.Value.Equation.lean ====
/-
  The kernel's result against the reference's: where x is finite, each device's result is its columns of the reference's.
-/
module

public import proofs.«01_k».proof.Defs
public import proofs.«01_k».proof.Proof.Ideal.Main
public import proofs.«01_k».proof.Proof.Value.Norm
public import proofs.«01_k».proof.Proof.Value.Reference
public import Idealize.ShloMosaic.Lib.Layout

@[expose] public section

set_option maxRecDepth 4000

noncomputable section

namespace Cert.Equation

open Idealize.ShloMosaic Idealize.ShloMosaic.ValueIdx Idealize.SL.Sem
open Idealize.ShloMosaic.TcCoe
open scoped BigOperators

/-- The columns' numbers: column `l` of device `c`. -/
def col (c : Fin 16) (l : Fin 1024) : Fin 16384 := ⟨1024 * c.val + l.val, by have := c.isLt; have := l.isLt; omega⟩

/-- A device's block of an array cut by columns. -/
theorem cols_apply (c : Fin 16) (v : (⟨2, ![2048, 16384]⟩ : Shape).Idx → EReal) (h : Layout.Tiles ⟨2, ![2048, 1024]⟩ ⟨2, ![2048, 16384]⟩ 1 16)
    (i : Fin 2048) (l : Fin 1024) : Layout.block ⟨2, ![2048, 1024]⟩ ⟨2, ![2048, 16384]⟩ 1 16 c v h (ix2 i l) = v (ix2 i (col c l)) := by
  refine congrArg v ?_
  funext a
  match a with
  | ⟨0, _⟩ => rfl
  | ⟨1, _⟩ => exact Fin.ext (by show c.val * 1024 + l.val = 1024 * c.val + l.val; omega)

/-- A device's block of a vector. -/
theorem part_apply (c : Fin 16) (v : (⟨1, ![16384]⟩ : Shape).Idx → EReal) (h : Layout.Tiles ⟨1, ![1024]⟩ ⟨1, ![16384]⟩ 0 16)
    (l : Fin 1024) : Layout.block ⟨1, ![1024]⟩ ⟨1, ![16384]⟩ 0 16 c v h (ix1 l) = v (ix1 (col c l)) := by
  refine congrArg v ?_
  funext a
  match a with
  | ⟨0, _⟩ => exact Fin.ext (by show c.val * 1024 + l.val = 1024 * c.val + l.val; omega)

/-! ## The windows of gamma and beta -/

section Windows
open Cert.KernelIdeal Cert.KernelIdeal.Gen Cert.KernelIdeal.Talk
variable (m : (ℓ : Loc nD τ sig) → Buf (Elt Ideal) ℓ) (c : Dev nD)

theorem gam_eq : (ins m).gam c = shapeCast S1x1024 (m ((c : Thread nD τ).loc main_arg1)) shapeCasts_S1024_S1x1024 := by
  show StableHlo.after hostOps0 (fun b => m (c, b)) (Proc.devRef .tc main_v1) = _
  after_results_simp
  rfl

theorem bet_eq : (ins m).bet c = shapeCast S1x1024 (m ((c : Thread nD τ).loc main_arg2)) shapeCasts_S1024_S1x1024 := by
  show StableHlo.after hostOps0 (fun b => m (c, b)) (Proc.devRef .tc main_v2) = _
  after_results_simp
  rfl

theorem gam_apply (l : Fin 1024) : (ins m).gam c (ix2 0 l) = m ((c : Thread nD τ).loc main_arg1) (ix1 l) := by
  rw [gam_eq]; exact shapeCast_a_1a_apply _ _ 0 l
theorem bet_apply (l : Fin 1024) : (ins m).bet c (ix2 0 l) = m ((c : Thread nD τ).loc main_arg2) (ix1 l) := by
  rw [bet_eq]; exact shapeCast_a_1a_apply _ _ 0 l
end Windows

/-! ## Finite inputs -/

/-- An extended real whose absolute value is below infinity is a real. -/
theorem real_of_finite (x : EReal) (h : BitVec.ofBool (decide (max x (-x) < Ideal.ofBits .f32 0x7F800000#32)) = 1#1) : ∃ r : ℝ, x = (r : EReal) := by
  rw [Cert.Math.word_inf] at h
  have h : max x (-x) < ⊤ := by
    by_contra hn
    rw [decide_eq_false hn] at h
    exact absurd h (by decide)
  induction x using EReal.rec with
  | bot => simp at h
  | coe r => exact ⟨r, rfl⟩
  | top => simp at h

instance factsK : Cert.Pre_finite_x_KernelIdeal.Facts := ⟨by decide⟩
instance factsR : Cert.Pre_finite_x_ReferenceIdeal.Facts := ⟨by decide⟩

theorem real_of_pre (v : FVec Ideal ⟨2, ![2048, 1024]⟩ .f32) (g b : FVec Ideal ⟨1, ![1024]⟩ .f32)
    (h : Cert.Pre_finite_x_KernelIdeal.fn (F := Ideal) v g b = fun _ => 1#1) (j : (⟨2, ![2048, 1024]⟩ : Shape).Idx) : ∃ r : ℝ, v j = (r : EReal) :=
  real_of_finite (v j) (congrFun h j)

/-! ## The equation -/

/-- Every element of a device's result is the reference's, where the whole x is finite. -/
theorem elements (A : Cert.KernelIdeal.Talk.Ins Ideal) (x : (⟨2, ![2048, 16384]⟩ : Shape).Idx → EReal) (g b : (⟨1, ![16384]⟩ : Shape).Idx → EReal)
    (hx : ∀ (d : Fin 16) i l, A.x d (ix2 i l) = x (ix2 i (col d l)))
    (hg : ∀ (d : Fin 16) l, A.gam d (ix2 0 l) = g (ix1 (col d l))) (hb : ∀ (d : Fin 16) l, A.bet d (ix2 0 l) = b (ix1 (col d l)))
    (hf : ∀ i j, ∃ r : ℝ, x (ix2 i j) = (r : EReal)) (c : Fin 16) (i : Fin 2048) (l : Fin 1024) :
    Cert.KernelIdeal.Talk.outG A c (ix2 i l) = Cert.ReferenceIdeal.Rows.out x g b (ix2 i (col c l)) := by
  rw [Cert.KernelIdeal.Value.out_apply, Cert.ReferenceIdeal.Rows.out_apply, hx c, hg, hb]
  simp only [hx]
  have hS : (∑ d : Fin 16, ∑ j : Fin 1024, x (ix2 i (col d j))) = ∑ j, x (ix2 i j) := (Cert.Math.sum_columns fun j => x (ix2 i j)).symm
  have hQ : (∑ d : Fin 16, ∑ j : Fin 1024, x (ix2 i (col d j)) * x (ix2 i (col d j))) = ∑ j, x (ix2 i j) * x (ix2 i j) :=
    (Cert.Math.sum_columns fun j => x (ix2 i j) * x (ix2 i j)).symm
  rw [hS, hQ]
  unfold Cert.KernelIdeal.Value.normed
  obtain ⟨e, he, hw⟩ := Cert.Math.word_eps
  rw [Cert.Math.word_n, hw]
  choose f hf using hf i
  simp only [hf]
  exact Cert.Math.normalise f he _ _ _

/-- On finite x, the kernel and the reference both run, and each device's result is its columns of the reference's. -/
theorem algebraic : Cert.algebraic_KernelIdeal_ReferenceIdeal_pre_finite_x_KernelIdeal (hKernelIdeal := Cert.KernelIdeal.Gen.facts)
    (hReferenceIdeal := Cert.ReferenceIdeal.Gen.facts) (hPre_finite_x_KernelIdeal := factsK) := fun m g m' g' hp hm =>
  ⟨_, (θ_run _ _ _).mono (fun r h c => ⟨(h.1 c).2.2.2.trans (by
        funext j
        obtain ⟨i, l, rfl⟩ : ∃ (i : Fin 2048) (l : Fin 1024), j = ix2 i l := ⟨j 0, j 1, eq_ix2 j⟩
        refine Eq.trans (elements _ _ _ _ (fun d i l => ?_) (fun d l => ?_) (fun d l => ?_) (fun i k => ?_) c i l) (cols_apply c _ _ i l).symm
        · exact (congrFun (hm d).1 _).trans (cols_apply d _ _ i l)
        · exact (gam_apply m d l).trans ((congrFun (hm d).2.1 _).trans (part_apply d _ _ l))
        · exact (bet_apply m d l).trans ((congrFun (hm d).2.2 _).trans (part_apply d _ _ l))
        · have hk := k.isLt
          obtain ⟨r, hr⟩ := real_of_pre _ _ _ (hp ⟨k.val / 1024, by show _ < 16; omega⟩) (ix2 i ⟨k.val % 1024, by omega⟩)
          refine ⟨r, ?_⟩
          rw [← hr]
          refine Eq.symm ((congrFun (hm _).1 _).trans ((cols_apply _ _ _ i _).trans (congrArg _ (congrArg (ix2 i) (Fin.ext ?_)))))
          show 1024 * (k.val / 1024) + k.val % 1024 = k.val
          omega), (h.1 c).1, (h.1 c).2.1, (h.1 c).2.2.1⟩) (Cert.KernelIdeal.Talk.run_main m g),
    Cert.ReferenceIdeal.Rows.run_out m' g'⟩

end Cert.Equation

end
-- ==== Proof.lean ====
/-
  The proof of the certificate's claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Equation.factsK, Cert.Equation.factsR,
  Cert.Frames.kernel, Cert.Frames.ideal, fun m g _ => Cert.Frames.ideal m g trivial,
  Cert.Frames.reference, fun m g _ => Cert.Frames.reference m g trivial,
  trivial, Cert.Equation.algebraic⟩

end Cert.Proof

end
